-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_DownDgrad (m : (ℓ : Loc Cert.DownDgrad.nD Cert.DownDgrad.τ Cert.DownDgrad.sig) → Buf (Elt Bits) ℓ) : Prop :=
  True

def Pre_DownDgradIdeal (m : (ℓ : Loc Cert.DownDgradIdeal.nD Cert.DownDgradIdeal.τ Cert.DownDgradIdeal.sig) → Buf (Elt Ideal) ℓ) : Prop :=
  True

def Pre_DownDgradRefIdeal (m : (ℓ : Loc Cert.DownDgradRefIdeal.nD Cert.DownDgradRefIdeal.τ Cert.DownDgradRefIdeal.sig) → Buf (Elt Ideal) ℓ) : Prop :=
  True

def Pre_DownWgrad (m : (ℓ : Loc Cert.DownWgrad.nD Cert.DownWgrad.τ Cert.DownWgrad.sig) → Buf (Elt Bits) ℓ) : Prop :=
  True

def Pre_DownWgradIdeal (m : (ℓ : Loc Cert.DownWgradIdeal.nD Cert.DownWgradIdeal.τ Cert.DownWgradIdeal.sig) → Buf (Elt Ideal) ℓ) : Prop :=
  True

def Pre_DownWgradRefIdeal (m : (ℓ : Loc Cert.DownWgradRefIdeal.nD Cert.DownWgradRefIdeal.τ Cert.DownWgradRefIdeal.sig) → Buf (Elt Ideal) ℓ) : Prop :=
  True

def Pre_UpWgrad (m : (ℓ : Loc Cert.UpWgrad.nD Cert.UpWgrad.τ Cert.UpWgrad.sig) → Buf (Elt Bits) ℓ) : Prop :=
  True

def Pre_UpWgradIdeal (m : (ℓ : Loc Cert.UpWgradIdeal.nD Cert.UpWgradIdeal.τ Cert.UpWgradIdeal.sig) → Buf (Elt Ideal) ℓ) : Prop :=
  True

def Pre_UpWgradRefIdeal (m : (ℓ : Loc Cert.UpWgradRefIdeal.nD Cert.UpWgradRefIdeal.τ Cert.UpWgradRefIdeal.sig) → Buf (Elt Ideal) ℓ) : Prop :=
  True

def Pre_UpDgrad (m : (ℓ : Loc Cert.UpDgrad.nD Cert.UpDgrad.τ Cert.UpDgrad.sig) → Buf (Elt Bits) ℓ) : Prop :=
  True

def Pre_UpDgradIdeal (m : (ℓ : Loc Cert.UpDgradIdeal.nD Cert.UpDgradIdeal.τ Cert.UpDgradIdeal.sig) → Buf (Elt Ideal) ℓ) : Prop :=
  True

def Pre_UpDgradRefIdeal (m : (ℓ : Loc Cert.UpDgradRefIdeal.nD Cert.UpDgradRefIdeal.τ Cert.UpDgradRefIdeal.sig) → Buf (Elt Ideal) ℓ) : Prop :=
  True

def Pre_MixDgrad (m : (ℓ : Loc Cert.MixDgrad.nD Cert.MixDgrad.τ Cert.MixDgrad.sig) → Buf (Elt Bits) ℓ) : Prop :=
  True

def Pre_MixDgradIdeal (m : (ℓ : Loc Cert.MixDgradIdeal.nD Cert.MixDgradIdeal.τ Cert.MixDgradIdeal.sig) → Buf (Elt Ideal) ℓ) : Prop :=
  True

def Pre_MixDgradRefIdeal (m : (ℓ : Loc Cert.MixDgradRefIdeal.nD Cert.MixDgradRefIdeal.τ Cert.MixDgradRefIdeal.sig) → Buf (Elt Ideal) ℓ) : Prop :=
  True

def Pre_MixWgrad (m : (ℓ : Loc Cert.MixWgrad.nD Cert.MixWgrad.τ Cert.MixWgrad.sig) → Buf (Elt Bits) ℓ) : Prop :=
  True

def Pre_MixWgradIdeal (m : (ℓ : Loc Cert.MixWgradIdeal.nD Cert.MixWgradIdeal.τ Cert.MixWgradIdeal.sig) → Buf (Elt Ideal) ℓ) : Prop :=
  True

def Pre_MixWgradRefIdeal (m : (ℓ : Loc Cert.MixWgradRefIdeal.nD Cert.MixWgradRefIdeal.τ Cert.MixWgradRefIdeal.sig) → Buf (Elt Ideal) ℓ) : Prop :=
  True

def Pre_ProjDgrad (m : (ℓ : Loc Cert.ProjDgrad.nD Cert.ProjDgrad.τ Cert.ProjDgrad.sig) → Buf (Elt Bits) ℓ) : Prop :=
  True

def Pre_ProjDgradIdeal (m : (ℓ : Loc Cert.ProjDgradIdeal.nD Cert.ProjDgradIdeal.τ Cert.ProjDgradIdeal.sig) → Buf (Elt Ideal) ℓ) : Prop :=
  True

def Pre_ProjDgradRefIdeal (m : (ℓ : Loc Cert.ProjDgradRefIdeal.nD Cert.ProjDgradRefIdeal.τ Cert.ProjDgradRefIdeal.sig) → Buf (Elt Ideal) ℓ) : Prop :=
  True

def Pre_ProjWgrad (m : (ℓ : Loc Cert.ProjWgrad.nD Cert.ProjWgrad.τ Cert.ProjWgrad.sig) → Buf (Elt Bits) ℓ) : Prop :=
  True

def Pre_ProjWgradIdeal (m : (ℓ : Loc Cert.ProjWgradIdeal.nD Cert.ProjWgradIdeal.τ Cert.ProjWgradIdeal.sig) → Buf (Elt Ideal) ℓ) : Prop :=
  True

def Pre_ProjWgradRefIdeal (m : (ℓ : Loc Cert.ProjWgradRefIdeal.nD Cert.ProjWgradRefIdeal.τ Cert.ProjWgradRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjRest (m : (ℓ : Loc Cert.ProjRest.nD Cert.ProjRest.τ Cert.ProjRest.sig) → Buf (Elt Bits) ℓ) : Prop :=
  True

def Pre_ProjRestIdeal (m : (ℓ : Loc Cert.ProjRestIdeal.nD Cert.ProjRestIdeal.τ Cert.ProjRestIdeal.sig) → Buf (Elt Ideal) ℓ) : Prop :=
  True

def Pre_ProjRestRefIdeal (m : (ℓ : Loc Cert.ProjRestRefIdeal.nD Cert.ProjRestRefIdeal.τ Cert.ProjRestRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_SgFwd (m : (ℓ : Loc Cert.SgFwd.nD Cert.SgFwd.τ Cert.SgFwd.sig) → Buf (Elt Bits) ℓ) : Prop :=
  True

def Pre_SgFwdIdeal (m : (ℓ : Loc Cert.SgFwdIdeal.nD Cert.SgFwdIdeal.τ Cert.SgFwdIdeal.sig) → Buf (Elt Ideal) ℓ) : Prop :=
  True

def Pre_SgFwdRefIdeal (m : (ℓ : Loc Cert.SgFwdRefIdeal.nD Cert.SgFwdRefIdeal.τ Cert.SgFwdRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_DownDgrad [hDownDgrad : Cert.DownDgrad.Facts] : Prop :=
  ∀ (m : (ℓ : Loc Cert.DownDgrad.nD Cert.DownDgrad.τ Cert.DownDgrad.sig) → Buf (Elt Bits) ℓ) (g : Dev Cert.DownDgrad.nD → PrngReg), Pre_DownDgrad m →
    θ_run (Cert.DownDgrad.defs (F := Bits)) (onTc (τ := Cert.DownDgrad.τ) (Cert.DownDgrad.main (F := Bits))) ⟨m, fun _ => 0, g⟩ (fun r => (∀ c : Dev Cert.DownDgrad.nD,
      r.2.mem ((c.tc : Thread Cert.DownDgrad.nD Cert.DownDgrad.τ).loc Cert.DownDgrad.main_arg0) = m ((c.tc : Thread Cert.DownDgrad.nD Cert.DownDgrad.τ).loc Cert.DownDgrad.main_arg0)
      ∧ r.2.mem ((c.tc : Thread Cert.DownDgrad.nD Cert.DownDgrad.τ).loc Cert.DownDgrad.main_arg1) = m ((c.tc : Thread Cert.DownDgrad.nD Cert.DownDgrad.τ).loc Cert.DownDgrad.main_arg1)
      ∧ r.2.mem ((c.tc : Thread Cert.DownDgrad.nD Cert.DownDgrad.τ).loc Cert.DownDgrad.main_arg2) = m ((c.tc : Thread Cert.DownDgrad.nD Cert.DownDgrad.τ).loc Cert.DownDgrad.main_arg2))
      ∧ r.2.sem = fun _ => 0)

def quiescent_DownDgradIdeal [hDownDgradIdeal : Cert.DownDgradIdeal.Facts] : Prop :=
  ∀ (m : (ℓ : Loc Cert.DownDgradIdeal.nD Cert.DownDgradIdeal.τ Cert.DownDgradIdeal.sig) → Buf (Elt Ideal) ℓ) (g : Dev Cert.DownDgradIdeal.nD → PrngReg), Pre_DownDgradIdeal m →
    θ_run (Cert.DownDgradIdeal.defs (F := Ideal)) (onTc (τ := Cert.DownDgradIdeal.τ) (Cert.DownDgradIdeal.main (F := Ideal))) ⟨m, fun _ => 0, g⟩ (fun r => (∀ c : Dev Cert.DownDgradIdeal.nD,
      r.2.mem ((c.tc : Thread Cert.DownDgradIdeal.nD Cert.DownDgradIdeal.τ).loc Cert.DownDgradIdeal.main_arg0) = m ((c.tc : Thread Cert.DownDgradIdeal.nD Cert.DownDgradIdeal.τ).loc Cert.DownDgradIdeal.main_arg0)
      ∧ r.2.mem ((c.tc : Thread Cert.DownDgradIdeal.nD Cert.DownDgradIdeal.τ).loc Cert.DownDgradIdeal.main_arg1) = m ((c.tc : Thread Cert.DownDgradIdeal.nD Cert.DownDgradIdeal.τ).loc Cert.DownDgradIdeal.main_arg1)
      ∧ r.2.mem ((c.tc : Thread Cert.DownDgradIdeal.nD Cert.DownDgradIdeal.τ).loc Cert.DownDgradIdeal.main_arg2) = m ((c.tc : Thread Cert.DownDgradIdeal.nD Cert.DownDgradIdeal.τ).loc Cert.DownDgradIdeal.main_arg2))
      ∧ r.2.sem = fun _ => 0)

def quiescent_DownDgradRefIdeal [hDownDgradRefIdeal : Cert.DownDgradRefIdeal.Facts] : Prop :=
  ∀ (m : (ℓ : Loc Cert.DownDgradRefIdeal.nD Cert.DownDgradRefIdeal.τ Cert.DownDgradRefIdeal.sig) → Buf (Elt Ideal) ℓ) (g : Dev Cert.DownDgradRefIdeal.nD → PrngReg), Pre_DownDgradRefIdeal m →
    θ_run (Cert.DownDgradRefIdeal.defs (F := Ideal)) (onTc (τ := Cert.DownDgradRefIdeal.τ) (Cert.DownDgradRefIdeal.main (F := Ideal))) ⟨m, fun _ => 0, g⟩ (fun r => (∀ c : Dev Cert.DownDgradRefIdeal.nD,
      r.2.mem ((c.tc : Thread Cert.DownDgradRefIdeal.nD Cert.DownDgradRefIdeal.τ).loc Cert.DownDgradRefIdeal.main_arg0) = m ((c.tc : Thread Cert.DownDgradRefIdeal.nD Cert.DownDgradRefIdeal.τ).loc Cert.DownDgradRefIdeal.main_arg0)
      ∧ r.2.mem ((c.tc : Thread Cert.DownDgradRefIdeal.nD Cert.DownDgradRefIdeal.τ).loc Cert.DownDgradRefIdeal.main_arg1) = m ((c.tc : Thread Cert.DownDgradRefIdeal.nD Cert.DownDgradRefIdeal.τ).loc Cert.DownDgradRefIdeal.main_arg1)
      ∧ r.2.mem ((c.tc : Thread Cert.DownDgradRefIdeal.nD Cert.DownDgradRefIdeal.τ).loc Cert.DownDgradRefIdeal.main_arg2) = m ((c.tc : Thread Cert.DownDgradRefIdeal.nD Cert.DownDgradRefIdeal.τ).loc Cert.DownDgradRefIdeal.main_arg2))
      ∧ r.2.sem = fun _ => 0)

def quiescent_DownWgrad [hDownWgrad : Cert.DownWgrad.Facts] : Prop :=
  ∀ (m : (ℓ : Loc Cert.DownWgrad.nD Cert.DownWgrad.τ Cert.DownWgrad.sig) → Buf (Elt Bits) ℓ) (g : Dev Cert.DownWgrad.nD → PrngReg), Pre_DownWgrad m →
    θ_run (Cert.DownWgrad.defs (F := Bits)) (onTc (τ := Cert.DownWgrad.τ) (Cert.DownWgrad.main (F := Bits))) ⟨m, fun _ => 0, g⟩ (fun r => (∀ c : Dev Cert.DownWgrad.nD,
      r.2.mem ((c.tc : Thread Cert.DownWgrad.nD Cert.DownWgrad.τ).loc Cert.DownWgrad.main_arg0) = m ((c.tc : Thread Cert.DownWgrad.nD Cert.DownWgrad.τ).loc Cert.DownWgrad.main_arg0)
      ∧ r.2.mem ((c.tc : Thread Cert.DownWgrad.nD Cert.DownWgrad.τ).loc Cert.DownWgrad.main_arg1) = m ((c.tc : Thread Cert.DownWgrad.nD Cert.DownWgrad.τ).loc Cert.DownWgrad.main_arg1))
      ∧ r.2.sem = fun _ => 0)

def quiescent_DownWgradIdeal [hDownWgradIdeal : Cert.DownWgradIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg), Pre_DownWgradIdeal m →
    θ_run (Cert.DownWgradIdeal.defs (F := Ideal)) (onTc (τ := Cert.DownWgradIdeal.τ) (Cert.DownWgradIdeal.main (F := Ideal))) ⟨m, fun _ => 0, g⟩ (fun r => (∀ c : Dev Cert.DownWgradIdeal.nD,
      r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
      ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ r.2.sem = fun _ => 0)

def quiescent_DownWgradRefIdeal [hDownWgradRefIdeal : Cert.DownWgradRefIdeal.Facts] : Prop :=
  ∀ (m : (ℓ : Loc Cert.DownWgradRefIdeal.nD Cert.DownWgradRefIdeal.τ Cert.DownWgradRefIdeal.sig) → Buf (Elt Ideal) ℓ) (g : Dev Cert.DownWgradRefIdeal.nD → PrngReg), Pre_DownWgradRefIdeal m →
    θ_run (Cert.DownWgradRefIdeal.defs (F := Ideal)) (onTc (τ := Cert.DownWgradRefIdeal.τ) (Cert.DownWgradRefIdeal.main (F := Ideal))) ⟨m, fun _ => 0, g⟩ (fun r => (∀ c : Dev Cert.DownWgradRefIdeal.nD,
      r.2.mem ((c.tc : Thread Cert.DownWgradRefIdeal.nD Cert.DownWgradRefIdeal.τ).loc Cert.DownWgradRefIdeal.main_arg0) = m ((c.tc : Thread Cert.DownWgradRefIdeal.nD Cert.DownWgradRefIdeal.τ).loc Cert.DownWgradRefIdeal.main_arg0)
      ∧ r.2.mem ((c.tc : Thread Cert.DownWgradRefIdeal.nD Cert.DownWgradRefIdeal.τ).loc Cert.DownWgradRefIdeal.main_arg1) = m ((c.tc : Thread Cert.DownWgradRefIdeal.nD Cert.DownWgradRefIdeal.τ).loc Cert.DownWgradRefIdeal.main_arg1))
      ∧ r.2.sem = fun _ => 0)

def quiescent_UpWgrad [hUpWgrad : Cert.UpWgrad.Facts] : Prop :=
  ∀ (m : (ℓ : Loc Cert.UpWgrad.nD Cert.UpWgrad.τ Cert.UpWgrad.sig) → Buf (Elt Bits) ℓ) (g : Dev Cert.UpWgrad.nD → PrngReg), Pre_UpWgrad m →
    θ_run (Cert.UpWgrad.defs (F := Bits)) (onTc (τ := Cert.UpWgrad.τ) (Cert.UpWgrad.main (F := Bits))) ⟨m, fun _ => 0, g⟩ (fun r => (∀ c : Dev Cert.UpWgrad.nD,
      r.2.mem ((c.tc : Thread Cert.UpWgrad.nD Cert.UpWgrad.τ).loc Cert.UpWgrad.main_arg0) = m ((c.tc : Thread Cert.UpWgrad.nD Cert.UpWgrad.τ).loc Cert.UpWgrad.main_arg0)
      ∧ r.2.mem ((c.tc : Thread Cert.UpWgrad.nD Cert.UpWgrad.τ).loc Cert.UpWgrad.main_arg1) = m ((c.tc : Thread Cert.UpWgrad.nD Cert.UpWgrad.τ).loc Cert.UpWgrad.main_arg1))
      ∧ r.2.sem = fun _ => 0)

def quiescent_UpWgradIdeal [hUpWgradIdeal : Cert.UpWgradIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg), Pre_UpWgradIdeal m →
    θ_run (Cert.UpWgradIdeal.defs (F := Ideal)) (onTc (τ := Cert.UpWgradIdeal.τ) (Cert.UpWgradIdeal.main (F := Ideal))) ⟨m, fun _ => 0, g⟩ (fun r => (∀ c : Dev Cert.UpWgradIdeal.nD,
      r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
      ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1))
      ∧ r.2.sem = fun _ => 0)

def quiescent_UpWgradRefIdeal [hUpWgradRefIdeal : Cert.UpWgradRefIdeal.Facts] : Prop :=
  ∀ (m : (ℓ : Loc Cert.UpWgradRefIdeal.nD Cert.UpWgradRefIdeal.τ Cert.UpWgradRefIdeal.sig) → Buf (Elt Ideal) ℓ) (g : Dev Cert.UpWgradRefIdeal.nD → PrngReg), Pre_UpWgradRefIdeal m →
    θ_run (Cert.UpWgradRefIdeal.defs (F := Ideal)) (onTc (τ := Cert.UpWgradRefIdeal.τ) (Cert.UpWgradRefIdeal.main (F := Ideal))) ⟨m, fun _ => 0, g⟩ (fun r => (∀ c : Dev Cert.UpWgradRefIdeal.nD,
      r.2.mem ((c.tc : Thread Cert.UpWgradRefIdeal.nD Cert.UpWgradRefIdeal.τ).loc Cert.UpWgradRefIdeal.main_arg0) = m ((c.tc : Thread Cert.UpWgradRefIdeal.nD Cert.UpWgradRefIdeal.τ).loc Cert.UpWgradRefIdeal.main_arg0)
      ∧ r.2.mem ((c.tc : Thread Cert.UpWgradRefIdeal.nD Cert.UpWgradRefIdeal.τ).loc Cert.UpWgradRefIdeal.main_arg1) = m ((c.tc : Thread Cert.UpWgradRefIdeal.nD Cert.UpWgradRefIdeal.τ).loc Cert.UpWgradRefIdeal.main_arg1))
      ∧ r.2.sem = fun _ => 0)

def quiescent_UpDgrad [hUpDgrad : Cert.UpDgrad.Facts] : Prop :=
  ∀ (m : (ℓ : Loc Cert.UpDgrad.nD Cert.UpDgrad.τ Cert.UpDgrad.sig) → Buf (Elt Bits) ℓ) (g : Dev Cert.UpDgrad.nD → PrngReg), Pre_UpDgrad m →
    θ_run (Cert.UpDgrad.defs (F := Bits)) (onTc (τ := Cert.UpDgrad.τ) (Cert.UpDgrad.main (F := Bits))) ⟨m, fun _ => 0, g⟩ (fun r => (∀ c : Dev Cert.UpDgrad.nD,
      r.2.mem ((c.tc : Thread Cert.UpDgrad.nD Cert.UpDgrad.τ).loc Cert.UpDgrad.main_arg0) = m ((c.tc : Thread Cert.UpDgrad.nD Cert.UpDgrad.τ).loc Cert.UpDgrad.main_arg0)
      ∧ r.2.mem ((c.tc : Thread Cert.UpDgrad.nD Cert.UpDgrad.τ).loc Cert.UpDgrad.main_arg1) = m ((c.tc : Thread Cert.UpDgrad.nD Cert.UpDgrad.τ).loc Cert.UpDgrad.main_arg1))
      ∧ r.2.sem = fun _ => 0)

def quiescent_UpDgradIdeal [hUpDgradIdeal : Cert.UpDgradIdeal.Facts] : Prop :=
  ∀ (m : (ℓ : Loc Cert.UpDgradIdeal.nD Cert.UpDgradIdeal.τ Cert.UpDgradIdeal.sig) → Buf (Elt Ideal) ℓ) (g : Dev Cert.UpDgradIdeal.nD → PrngReg), Pre_UpDgradIdeal m →
    θ_run (Cert.UpDgradIdeal.defs (F := Ideal)) (onTc (τ := Cert.UpDgradIdeal.τ) (Cert.UpDgradIdeal.main (F := Ideal))) ⟨m, fun _ => 0, g⟩ (fun r => (∀ c : Dev Cert.UpDgradIdeal.nD,
      r.2.mem ((c.tc : Thread Cert.UpDgradIdeal.nD Cert.UpDgradIdeal.τ).loc Cert.UpDgradIdeal.main_arg0) = m ((c.tc : Thread Cert.UpDgradIdeal.nD Cert.UpDgradIdeal.τ).loc Cert.UpDgradIdeal.main_arg0)
      ∧ r.2.mem ((c.tc : Thread Cert.UpDgradIdeal.nD Cert.UpDgradIdeal.τ).loc Cert.UpDgradIdeal.main_arg1) = m ((c.tc : Thread Cert.UpDgradIdeal.nD Cert.UpDgradIdeal.τ).loc Cert.UpDgradIdeal.main_arg1))
      ∧ r.2.sem = fun _ => 0)

def quiescent_UpDgradRefIdeal [hUpDgradRefIdeal : Cert.UpDgradRefIdeal.Facts] : Prop :=
  ∀ (m : (ℓ : Loc Cert.UpDgradRefIdeal.nD Cert.UpDgradRefIdeal.τ Cert.UpDgradRefIdeal.sig) → Buf (Elt Ideal) ℓ) (g : Dev Cert.UpDgradRefIdeal.nD → PrngReg), Pre_UpDgradRefIdeal m →
    θ_run (Cert.UpDgradRefIdeal.defs (F := Ideal)) (onTc (τ := Cert.UpDgradRefIdeal.τ) (Cert.UpDgradRefIdeal.main (F := Ideal))) ⟨m, fun _ => 0, g⟩ (fun r => (∀ c : Dev Cert.UpDgradRefIdeal.nD,
      r.2.mem ((c.tc : Thread Cert.UpDgradRefIdeal.nD Cert.UpDgradRefIdeal.τ).loc Cert.UpDgradRefIdeal.main_arg0) = m ((c.tc : Thread Cert.UpDgradRefIdeal.nD Cert.UpDgradRefIdeal.τ).loc Cert.UpDgradRefIdeal.main_arg0)
      ∧ r.2.mem ((c.tc : Thread Cert.UpDgradRefIdeal.nD Cert.UpDgradRefIdeal.τ).loc Cert.UpDgradRefIdeal.main_arg1) = m ((c.tc : Thread Cert.UpDgradRefIdeal.nD Cert.UpDgradRefIdeal.τ).loc Cert.UpDgradRefIdeal.main_arg1))
      ∧ r.2.sem = fun _ => 0)

def quiescent_MixDgrad [hMixDgrad : Cert.MixDgrad.Facts] : Prop :=
  ∀ (m : (ℓ : Loc Cert.MixDgrad.nD Cert.MixDgrad.τ Cert.MixDgrad.sig) → Buf (Elt Bits) ℓ) (g : Dev Cert.MixDgrad.nD → PrngReg), Pre_MixDgrad m →
    θ_run (Cert.MixDgrad.defs (F := Bits)) (onTc (τ := Cert.MixDgrad.τ) (Cert.MixDgrad.main (F := Bits))) ⟨m, fun _ => 0, g⟩ (fun r => (∀ c : Dev Cert.MixDgrad.nD,
      r.2.mem ((c.tc : Thread Cert.MixDgrad.nD Cert.MixDgrad.τ).loc Cert.MixDgrad.main_arg0) = m ((c.tc : Thread Cert.MixDgrad.nD Cert.MixDgrad.τ).loc Cert.MixDgrad.main_arg0)
      ∧ r.2.mem ((c.tc : Thread Cert.MixDgrad.nD Cert.MixDgrad.τ).loc Cert.MixDgrad.main_arg1) = m ((c.tc : Thread Cert.MixDgrad.nD Cert.MixDgrad.τ).loc Cert.MixDgrad.main_arg1))
      ∧ r.2.sem = fun _ => 0)

def quiescent_MixDgradIdeal [hMixDgradIdeal : Cert.MixDgradIdeal.Facts] : Prop :=
  ∀ (m : (ℓ : Loc Cert.MixDgradIdeal.nD Cert.MixDgradIdeal.τ Cert.MixDgradIdeal.sig) → Buf (Elt Ideal) ℓ) (g : Dev Cert.MixDgradIdeal.nD → PrngReg), Pre_MixDgradIdeal m →
    θ_run (Cert.MixDgradIdeal.defs (F := Ideal)) (onTc (τ := Cert.MixDgradIdeal.τ) (Cert.MixDgradIdeal.main (F := Ideal))) ⟨m, fun _ => 0, g⟩ (fun r => (∀ c : Dev Cert.MixDgradIdeal.nD,
      r.2.mem ((c.tc : Thread Cert.MixDgradIdeal.nD Cert.MixDgradIdeal.τ).loc Cert.MixDgradIdeal.main_arg0) = m ((c.tc : Thread Cert.MixDgradIdeal.nD Cert.MixDgradIdeal.τ).loc Cert.MixDgradIdeal.main_arg0)
      ∧ r.2.mem ((c.tc : Thread Cert.MixDgradIdeal.nD Cert.MixDgradIdeal.τ).loc Cert.MixDgradIdeal.main_arg1) = m ((c.tc : Thread Cert.MixDgradIdeal.nD Cert.MixDgradIdeal.τ).loc Cert.MixDgradIdeal.main_arg1))
      ∧ r.2.sem = fun _ => 0)

def quiescent_MixDgradRefIdeal [hMixDgradRefIdeal : Cert.MixDgradRefIdeal.Facts] : Prop :=
  ∀ (m : (ℓ : Loc Cert.MixDgradRefIdeal.nD Cert.MixDgradRefIdeal.τ Cert.MixDgradRefIdeal.sig) → Buf (Elt Ideal) ℓ) (g : Dev Cert.MixDgradRefIdeal.nD → PrngReg), Pre_MixDgradRefIdeal m →
    θ_run (Cert.MixDgradRefIdeal.defs (F := Ideal)) (onTc (τ := Cert.MixDgradRefIdeal.τ) (Cert.MixDgradRefIdeal.main (F := Ideal))) ⟨m, fun _ => 0, g⟩ (fun r => (∀ c : Dev Cert.MixDgradRefIdeal.nD,
      r.2.mem ((c.tc : Thread Cert.MixDgradRefIdeal.nD Cert.MixDgradRefIdeal.τ).loc Cert.MixDgradRefIdeal.main_arg0) = m ((c.tc : Thread Cert.MixDgradRefIdeal.nD Cert.MixDgradRefIdeal.τ).loc Cert.MixDgradRefIdeal.main_arg0)
      ∧ r.2.mem ((c.tc : Thread Cert.MixDgradRefIdeal.nD Cert.MixDgradRefIdeal.τ).loc Cert.MixDgradRefIdeal.main_arg1) = m ((c.tc : Thread Cert.MixDgradRefIdeal.nD Cert.MixDgradRefIdeal.τ).loc Cert.MixDgradRefIdeal.main_arg1))
      ∧ r.2.sem = fun _ => 0)

def quiescent_MixWgrad [hMixWgrad : Cert.MixWgrad.Facts] : Prop :=
  ∀ (m : (ℓ : Loc Cert.MixWgrad.nD Cert.MixWgrad.τ Cert.MixWgrad.sig) → Buf (Elt Bits) ℓ) (g : Dev Cert.MixWgrad.nD → PrngReg), Pre_MixWgrad m →
    θ_run (Cert.MixWgrad.defs (F := Bits)) (onTc (τ := Cert.MixWgrad.τ) (Cert.MixWgrad.main (F := Bits))) ⟨m, fun _ => 0, g⟩ (fun r => (∀ c : Dev Cert.MixWgrad.nD,
      r.2.mem ((c.tc : Thread Cert.MixWgrad.nD Cert.MixWgrad.τ).loc Cert.MixWgrad.main_arg0) = m ((c.tc : Thread Cert.MixWgrad.nD Cert.MixWgrad.τ).loc Cert.MixWgrad.main_arg0)
      ∧ r.2.mem ((c.tc : Thread Cert.MixWgrad.nD Cert.MixWgrad.τ).loc Cert.MixWgrad.main_arg1) = m ((c.tc : Thread Cert.MixWgrad.nD Cert.MixWgrad.τ).loc Cert.MixWgrad.main_arg1))
      ∧ r.2.sem = fun _ => 0)

def quiescent_MixWgradIdeal [hMixWgradIdeal : Cert.MixWgradIdeal.Facts] : Prop :=
  ∀ (m : (ℓ : Loc Cert.MixWgradIdeal.nD Cert.MixWgradIdeal.τ Cert.MixWgradIdeal.sig) → Buf (Elt Ideal) ℓ) (g : Dev Cert.MixWgradIdeal.nD → PrngReg), Pre_MixWgradIdeal m →
    θ_run (Cert.MixWgradIdeal.defs (F := Ideal)) (onTc (τ := Cert.MixWgradIdeal.τ) (Cert.MixWgradIdeal.main (F := Ideal))) ⟨m, fun _ => 0, g⟩ (fun r => (∀ c : Dev Cert.MixWgradIdeal.nD,
      r.2.mem ((c.tc : Thread Cert.MixWgradIdeal.nD Cert.MixWgradIdeal.τ).loc Cert.MixWgradIdeal.main_arg0) = m ((c.tc : Thread Cert.MixWgradIdeal.nD Cert.MixWgradIdeal.τ).loc Cert.MixWgradIdeal.main_arg0)
      ∧ r.2.mem ((c.tc : Thread Cert.MixWgradIdeal.nD Cert.MixWgradIdeal.τ).loc Cert.MixWgradIdeal.main_arg1) = m ((c.tc : Thread Cert.MixWgradIdeal.nD Cert.MixWgradIdeal.τ).loc Cert.MixWgradIdeal.main_arg1))
      ∧ r.2.sem = fun _ => 0)

def quiescent_MixWgradRefIdeal [hMixWgradRefIdeal : Cert.MixWgradRefIdeal.Facts] : Prop :=
  ∀ (m : (ℓ : Loc Cert.MixWgradRefIdeal.nD Cert.MixWgradRefIdeal.τ Cert.MixWgradRefIdeal.sig) → Buf (Elt Ideal) ℓ) (g : Dev Cert.MixWgradRefIdeal.nD → PrngReg), Pre_MixWgradRefIdeal m →
    θ_run (Cert.MixWgradRefIdeal.defs (F := Ideal)) (onTc (τ := Cert.MixWgradRefIdeal.τ) (Cert.MixWgradRefIdeal.main (F := Ideal))) ⟨m, fun _ => 0, g⟩ (fun r => (∀ c : Dev Cert.MixWgradRefIdeal.nD,
      r.2.mem ((c.tc : Thread Cert.MixWgradRefIdeal.nD Cert.MixWgradRefIdeal.τ).loc Cert.MixWgradRefIdeal.main_arg0) = m ((c.tc : Thread Cert.MixWgradRefIdeal.nD Cert.MixWgradRefIdeal.τ).loc Cert.MixWgradRefIdeal.main_arg0)
      ∧ r.2.mem ((c.tc : Thread Cert.MixWgradRefIdeal.nD Cert.MixWgradRefIdeal.τ).loc Cert.MixWgradRefIdeal.main_arg1) = m ((c.tc : Thread Cert.MixWgradRefIdeal.nD Cert.MixWgradRefIdeal.τ).loc Cert.MixWgradRefIdeal.main_arg1))
      ∧ r.2.sem = fun _ => 0)

def quiescent_ProjDgrad [hProjDgrad : Cert.ProjDgrad.Facts] : Prop :=
  ∀ (m : (ℓ : Loc Cert.ProjDgrad.nD Cert.ProjDgrad.τ Cert.ProjDgrad.sig) → Buf (Elt Bits) ℓ) (g : Dev Cert.ProjDgrad.nD → PrngReg), Pre_ProjDgrad m →
    θ_run (Cert.ProjDgrad.defs (F := Bits)) (onTc (τ := Cert.ProjDgrad.τ) (Cert.ProjDgrad.main (F := Bits))) ⟨m, fun _ => 0, g⟩ (fun r => (∀ c : Dev Cert.ProjDgrad.nD,
      r.2.mem ((c.tc : Thread Cert.ProjDgrad.nD Cert.ProjDgrad.τ).loc Cert.ProjDgrad.main_arg0) = m ((c.tc : Thread Cert.ProjDgrad.nD Cert.ProjDgrad.τ).loc Cert.ProjDgrad.main_arg0)
      ∧ r.2.mem ((c.tc : Thread Cert.ProjDgrad.nD Cert.ProjDgrad.τ).loc Cert.ProjDgrad.main_arg1) = m ((c.tc : Thread Cert.ProjDgrad.nD Cert.ProjDgrad.τ).loc Cert.ProjDgrad.main_arg1))
      ∧ r.2.sem = fun _ => 0)

def quiescent_ProjDgradIdeal [hProjDgradIdeal : Cert.ProjDgradIdeal.Facts] : Prop :=
  ∀ (m : (ℓ : Loc Cert.ProjDgradIdeal.nD Cert.ProjDgradIdeal.τ Cert.ProjDgradIdeal.sig) → Buf (Elt Ideal) ℓ) (g : Dev Cert.ProjDgradIdeal.nD → PrngReg), Pre_ProjDgradIdeal m →
    θ_run (Cert.ProjDgradIdeal.defs (F := Ideal)) (onTc (τ := Cert.ProjDgradIdeal.τ) (Cert.ProjDgradIdeal.main (F := Ideal))) ⟨m, fun _ => 0, g⟩ (fun r => (∀ c : Dev Cert.ProjDgradIdeal.nD,
      r.2.mem ((c.tc : Thread Cert.ProjDgradIdeal.nD Cert.ProjDgradIdeal.τ).loc Cert.ProjDgradIdeal.main_arg0) = m ((c.tc : Thread Cert.ProjDgradIdeal.nD Cert.ProjDgradIdeal.τ).loc Cert.ProjDgradIdeal.main_arg0)
      ∧ r.2.mem ((c.tc : Thread Cert.ProjDgradIdeal.nD Cert.ProjDgradIdeal.τ).loc Cert.ProjDgradIdeal.main_arg1) = m ((c.tc : Thread Cert.ProjDgradIdeal.nD Cert.ProjDgradIdeal.τ).loc Cert.ProjDgradIdeal.main_arg1))
      ∧ r.2.sem = fun _ => 0)

def quiescent_ProjDgradRefIdeal [hProjDgradRefIdeal : Cert.ProjDgradRefIdeal.Facts] : Prop :=
  ∀ (m : (ℓ : Loc Cert.ProjDgradRefIdeal.nD Cert.ProjDgradRefIdeal.τ Cert.ProjDgradRefIdeal.sig) → Buf (Elt Ideal) ℓ) (g : Dev Cert.ProjDgradRefIdeal.nD → PrngReg), Pre_ProjDgradRefIdeal m →
    θ_run (Cert.ProjDgradRefIdeal.defs (F := Ideal)) (onTc (τ := Cert.ProjDgradRefIdeal.τ) (Cert.ProjDgradRefIdeal.main (F := Ideal))) ⟨m, fun _ => 0, g⟩ (fun r => (∀ c : Dev Cert.ProjDgradRefIdeal.nD,
      r.2.mem ((c.tc : Thread Cert.ProjDgradRefIdeal.nD Cert.ProjDgradRefIdeal.τ).loc Cert.ProjDgradRefIdeal.main_arg0) = m ((c.tc : Thread Cert.ProjDgradRefIdeal.nD Cert.ProjDgradRefIdeal.τ).loc Cert.ProjDgradRefIdeal.main_arg0)
      ∧ r.2.mem ((c.tc : Thread Cert.ProjDgradRefIdeal.nD Cert.ProjDgradRefIdeal.τ).loc Cert.ProjDgradRefIdeal.main_arg1) = m ((c.tc : Thread Cert.ProjDgradRefIdeal.nD Cert.ProjDgradRefIdeal.τ).loc Cert.ProjDgradRefIdeal.main_arg1))
      ∧ r.2.sem = fun _ => 0)

def quiescent_ProjWgrad [hProjWgrad : Cert.ProjWgrad.Facts] : Prop :=
  ∀ (m : (ℓ : Loc Cert.ProjWgrad.nD Cert.ProjWgrad.τ Cert.ProjWgrad.sig) → Buf (Elt Bits) ℓ) (g : Dev Cert.ProjWgrad.nD → PrngReg), Pre_ProjWgrad m →
    θ_run (Cert.ProjWgrad.defs (F := Bits)) (onTc (τ := Cert.ProjWgrad.τ) (Cert.ProjWgrad.main (F := Bits))) ⟨m, fun _ => 0, g⟩ (fun r => (∀ c : Dev Cert.ProjWgrad.nD,
      r.2.mem ((c.tc : Thread Cert.ProjWgrad.nD Cert.ProjWgrad.τ).loc Cert.ProjWgrad.main_arg0) = m ((c.tc : Thread Cert.ProjWgrad.nD Cert.ProjWgrad.τ).loc Cert.ProjWgrad.main_arg0)
      ∧ r.2.mem ((c.tc : Thread Cert.ProjWgrad.nD Cert.ProjWgrad.τ).loc Cert.ProjWgrad.main_arg1) = m ((c.tc : Thread Cert.ProjWgrad.nD Cert.ProjWgrad.τ).loc Cert.ProjWgrad.main_arg1))
      ∧ r.2.sem = fun _ => 0)

def quiescent_ProjWgradIdeal [hProjWgradIdeal : Cert.ProjWgradIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg), Pre_ProjWgradIdeal m →
    θ_run (Cert.ProjWgradIdeal.defs (F := Ideal)) (onTc (τ := Cert.ProjWgradIdeal.τ) (Cert.ProjWgradIdeal.main (F := Ideal))) ⟨m, fun _ => 0, g⟩ (fun r => (∀ c : Dev Cert.ProjWgradIdeal.nD,
      r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
      ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1))
      ∧ r.2.sem = fun _ => 0)

def quiescent_ProjWgradRefIdeal [hProjWgradRefIdeal : Cert.ProjWgradRefIdeal.Facts] : Prop :=
  ∀ (m : (ℓ : Loc Cert.ProjWgradRefIdeal.nD Cert.ProjWgradRefIdeal.τ Cert.ProjWgradRefIdeal.sig) → Buf (Elt Ideal) ℓ) (g : Dev Cert.ProjWgradRefIdeal.nD → PrngReg), Pre_ProjWgradRefIdeal m →
    θ_run (Cert.ProjWgradRefIdeal.defs (F := Ideal)) (onTc (τ := Cert.ProjWgradRefIdeal.τ) (Cert.ProjWgradRefIdeal.main (F := Ideal))) ⟨m, fun _ => 0, g⟩ (fun r => (∀ c : Dev Cert.ProjWgradRefIdeal.nD,
      r.2.mem ((c.tc : Thread Cert.ProjWgradRefIdeal.nD Cert.ProjWgradRefIdeal.τ).loc Cert.ProjWgradRefIdeal.main_arg0) = m ((c.tc : Thread Cert.ProjWgradRefIdeal.nD Cert.ProjWgradRefIdeal.τ).loc Cert.ProjWgradRefIdeal.main_arg0)
      ∧ r.2.mem ((c.tc : Thread Cert.ProjWgradRefIdeal.nD Cert.ProjWgradRefIdeal.τ).loc Cert.ProjWgradRefIdeal.main_arg1) = m ((c.tc : Thread Cert.ProjWgradRefIdeal.nD Cert.ProjWgradRefIdeal.τ).loc Cert.ProjWgradRefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1))
      ∧ r.2.sem = fun _ => 0)

def quiescent_ProjRest [hProjRest : Cert.ProjRest.Facts] : Prop :=
  ∀ (m : (ℓ : Loc Cert.ProjRest.nD Cert.ProjRest.τ Cert.ProjRest.sig) → Buf (Elt Bits) ℓ) (g : Dev Cert.ProjRest.nD → PrngReg), Pre_ProjRest m →
    θ_run (Cert.ProjRest.defs (F := Bits)) (onTc (τ := Cert.ProjRest.τ) (Cert.ProjRest.main (F := Bits))) ⟨m, fun _ => 0, g⟩ (fun r => (∀ c : Dev Cert.ProjRest.nD,
      r.2.mem ((c.tc : Thread Cert.ProjRest.nD Cert.ProjRest.τ).loc Cert.ProjRest.main_arg0) = m ((c.tc : Thread Cert.ProjRest.nD Cert.ProjRest.τ).loc Cert.ProjRest.main_arg0)
      ∧ r.2.mem ((c.tc : Thread Cert.ProjRest.nD Cert.ProjRest.τ).loc Cert.ProjRest.main_arg1) = m ((c.tc : Thread Cert.ProjRest.nD Cert.ProjRest.τ).loc Cert.ProjRest.main_arg1))
      ∧ r.2.sem = fun _ => 0)

def quiescent_ProjRestIdeal [hProjRestIdeal : Cert.ProjRestIdeal.Facts] : Prop :=
  ∀ (m : (ℓ : Loc Cert.ProjRestIdeal.nD Cert.ProjRestIdeal.τ Cert.ProjRestIdeal.sig) → Buf (Elt Ideal) ℓ) (g : Dev Cert.ProjRestIdeal.nD → PrngReg), Pre_ProjRestIdeal m →
    θ_run (Cert.ProjRestIdeal.defs (F := Ideal)) (onTc (τ := Cert.ProjRestIdeal.τ) (Cert.ProjRestIdeal.main (F := Ideal))) ⟨m, fun _ => 0, g⟩ (fun r => (∀ c : Dev Cert.ProjRestIdeal.nD,
      r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
      ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1))
      ∧ r.2.sem = fun _ => 0)

def quiescent_ProjRestRefIdeal [hProjRestRefIdeal : Cert.ProjRestRefIdeal.Facts] : Prop :=
  ∀ (m : (ℓ : Loc Cert.ProjRestRefIdeal.nD Cert.ProjRestRefIdeal.τ Cert.ProjRestRefIdeal.sig) → Buf (Elt Ideal) ℓ) (g : Dev Cert.ProjRestRefIdeal.nD → PrngReg), Pre_ProjRestRefIdeal m →
    θ_run (Cert.ProjRestRefIdeal.defs (F := Ideal)) (onTc (τ := Cert.ProjRestRefIdeal.τ) (Cert.ProjRestRefIdeal.main (F := Ideal))) ⟨m, fun _ => 0, g⟩ (fun r => (∀ c : Dev Cert.ProjRestRefIdeal.nD,
      r.2.mem ((c.tc : Thread Cert.ProjRestRefIdeal.nD Cert.ProjRestRefIdeal.τ).loc Cert.ProjRestRefIdeal.main_arg0) = m ((c.tc : Thread Cert.ProjRestRefIdeal.nD Cert.ProjRestRefIdeal.τ).loc Cert.ProjRestRefIdeal.main_arg0)
      ∧ r.2.mem ((c.tc : Thread Cert.ProjRestRefIdeal.nD Cert.ProjRestRefIdeal.τ).loc Cert.ProjRestRefIdeal.main_arg1) = m ((c.tc : Thread Cert.ProjRestRefIdeal.nD Cert.ProjRestRefIdeal.τ).loc Cert.ProjRestRefIdeal.main_arg1))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5)
      ∧ r.2.mem ((c.tc : Thread Cert.NormBwd.nD Cert.NormBwd.τ).loc Cert.NormBwd.main_arg6) = m ((c.tc : Thread Cert.NormBwd.nD Cert.NormBwd.τ).loc Cert.NormBwd.main_arg6))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
      ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5)
      ∧ r.2.mem ((c.tc : Thread Cert.NormBwdRefIdeal.nD Cert.NormBwdRefIdeal.τ).loc Cert.NormBwdRefIdeal.main_arg6) = m ((c.tc : Thread Cert.NormBwdRefIdeal.nD Cert.NormBwdRefIdeal.τ).loc Cert.NormBwdRefIdeal.main_arg6))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_SgFwd [hSgFwd : Cert.SgFwd.Facts] : Prop :=
  ∀ (m : (ℓ : Loc Cert.SgFwd.nD Cert.SgFwd.τ Cert.SgFwd.sig) → Buf (Elt Bits) ℓ) (g : Dev Cert.SgFwd.nD → PrngReg), Pre_SgFwd m →
    θ_run (Cert.SgFwd.defs (F := Bits)) (onTc (τ := Cert.SgFwd.τ) (Cert.SgFwd.main (F := Bits))) ⟨m, fun _ => 0, g⟩ (fun r => (∀ c : Dev Cert.SgFwd.nD,
      r.2.mem ((c.tc : Thread Cert.SgFwd.nD Cert.SgFwd.τ).loc Cert.SgFwd.main_arg0) = m ((c.tc : Thread Cert.SgFwd.nD Cert.SgFwd.τ).loc Cert.SgFwd.main_arg0)
      ∧ r.2.mem ((c.tc : Thread Cert.SgFwd.nD Cert.SgFwd.τ).loc Cert.SgFwd.main_arg1) = m ((c.tc : Thread Cert.SgFwd.nD Cert.SgFwd.τ).loc Cert.SgFwd.main_arg1)
      ∧ r.2.mem ((c.tc : Thread Cert.SgFwd.nD Cert.SgFwd.τ).loc Cert.SgFwd.main_arg2) = m ((c.tc : Thread Cert.SgFwd.nD Cert.SgFwd.τ).loc Cert.SgFwd.main_arg2)
      ∧ r.2.mem ((c.tc : Thread Cert.SgFwd.nD Cert.SgFwd.τ).loc Cert.SgFwd.main_arg3) = m ((c.tc : Thread Cert.SgFwd.nD Cert.SgFwd.τ).loc Cert.SgFwd.main_arg3))
      ∧ r.2.sem = fun _ => 0)

def quiescent_SgFwdIdeal [hSgFwdIdeal : Cert.SgFwdIdeal.Facts] : Prop :=
  ∀ (m : (ℓ : Loc Cert.SgFwdIdeal.nD Cert.SgFwdIdeal.τ Cert.SgFwdIdeal.sig) → Buf (Elt Ideal) ℓ) (g : Dev Cert.SgFwdIdeal.nD → PrngReg), Pre_SgFwdIdeal m →
    θ_run (Cert.SgFwdIdeal.defs (F := Ideal)) (onTc (τ := Cert.SgFwdIdeal.τ) (Cert.SgFwdIdeal.main (F := Ideal))) ⟨m, fun _ => 0, g⟩ (fun r => (∀ c : Dev Cert.SgFwdIdeal.nD,
      r.2.mem ((c.tc : Thread Cert.SgFwdIdeal.nD Cert.SgFwdIdeal.τ).loc Cert.SgFwdIdeal.main_arg0) = m ((c.tc : Thread Cert.SgFwdIdeal.nD Cert.SgFwdIdeal.τ).loc Cert.SgFwdIdeal.main_arg0)
      ∧ r.2.mem ((c.tc : Thread Cert.SgFwdIdeal.nD Cert.SgFwdIdeal.τ).loc Cert.SgFwdIdeal.main_arg1) = m ((c.tc : Thread Cert.SgFwdIdeal.nD Cert.SgFwdIdeal.τ).loc Cert.SgFwdIdeal.main_arg1)
      ∧ r.2.mem ((c.tc : Thread Cert.SgFwdIdeal.nD Cert.SgFwdIdeal.τ).loc Cert.SgFwdIdeal.main_arg2) = m ((c.tc : Thread Cert.SgFwdIdeal.nD Cert.SgFwdIdeal.τ).loc Cert.SgFwdIdeal.main_arg2)
      ∧ r.2.mem ((c.tc : Thread Cert.SgFwdIdeal.nD Cert.SgFwdIdeal.τ).loc Cert.SgFwdIdeal.main_arg3) = m ((c.tc : Thread Cert.SgFwdIdeal.nD Cert.SgFwdIdeal.τ).loc Cert.SgFwdIdeal.main_arg3))
      ∧ r.2.sem = fun _ => 0)

def quiescent_SgFwdRefIdeal [hSgFwdRefIdeal : Cert.SgFwdRefIdeal.Facts] : Prop :=
  ∀ (m : (ℓ : Loc Cert.SgFwdRefIdeal.nD Cert.SgFwdRefIdeal.τ Cert.SgFwdRefIdeal.sig) → Buf (Elt Ideal) ℓ) (g : Dev Cert.SgFwdRefIdeal.nD → PrngReg), Pre_SgFwdRefIdeal m →
    θ_run (Cert.SgFwdRefIdeal.defs (F := Ideal)) (onTc (τ := Cert.SgFwdRefIdeal.τ) (Cert.SgFwdRefIdeal.main (F := Ideal))) ⟨m, fun _ => 0, g⟩ (fun r => (∀ c : Dev Cert.SgFwdRefIdeal.nD,
      r.2.mem ((c.tc : Thread Cert.SgFwdRefIdeal.nD Cert.SgFwdRefIdeal.τ).loc Cert.SgFwdRefIdeal.main_arg0) = m ((c.tc : Thread Cert.SgFwdRefIdeal.nD Cert.SgFwdRefIdeal.τ).loc Cert.SgFwdRefIdeal.main_arg0)
      ∧ r.2.mem ((c.tc : Thread Cert.SgFwdRefIdeal.nD Cert.SgFwdRefIdeal.τ).loc Cert.SgFwdRefIdeal.main_arg1) = m ((c.tc : Thread Cert.SgFwdRefIdeal.nD Cert.SgFwdRefIdeal.τ).loc Cert.SgFwdRefIdeal.main_arg1)
      ∧ r.2.mem ((c.tc : Thread Cert.SgFwdRefIdeal.nD Cert.SgFwdRefIdeal.τ).loc Cert.SgFwdRefIdeal.main_arg2) = m ((c.tc : Thread Cert.SgFwdRefIdeal.nD Cert.SgFwdRefIdeal.τ).loc Cert.SgFwdRefIdeal.main_arg2)
      ∧ r.2.mem ((c.tc : Thread Cert.SgFwdRefIdeal.nD Cert.SgFwdRefIdeal.τ).loc Cert.SgFwdRefIdeal.main_arg3) = m ((c.tc : Thread Cert.SgFwdRefIdeal.nD Cert.SgFwdRefIdeal.τ).loc Cert.SgFwdRefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v1_0)) (v1 : (c : Dev Cert.ConvBwdIdeal.nD) → Buf (Elt Ideal) ((c.tc : Thread Cert.ConvBwdIdeal.nD Cert.ConvBwdIdeal.τ).loc Cert.ConvBwdIdeal.main_v1_1)) (v2 : (c : Dev Cert.ConvBwdIdeal.nD) → Buf (Elt Ideal) ((c.tc : Thread Cert.ConvBwdIdeal.nD Cert.ConvBwdIdeal.τ).loc Cert.ConvBwdIdeal.main_v1_2)) (v3 : (c : Dev Cert.ConvBwdIdeal.nD) → Buf (Elt Ideal) ((c.tc : Thread Cert.ConvBwdIdeal.nD Cert.ConvBwdIdeal.τ).loc Cert.ConvBwdIdeal.main_v1_3)) (v4 : (c : Dev Cert.ConvBwdIdeal.nD) → Buf (Elt Ideal) ((c.tc : Thread Cert.ConvBwdIdeal.nD Cert.ConvBwdIdeal.τ).loc Cert.ConvBwdIdeal.main_v1_4)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v1_0) = v0 c
          ∧ r.2.mem ((c.tc : Thread Cert.ConvBwdIdeal.nD Cert.ConvBwdIdeal.τ).loc Cert.ConvBwdIdeal.main_v1_1) = v1 c
          ∧ r.2.mem ((c.tc : Thread Cert.ConvBwdIdeal.nD Cert.ConvBwdIdeal.τ).loc Cert.ConvBwdIdeal.main_v1_2) = v2 c
          ∧ r.2.mem ((c.tc : Thread Cert.ConvBwdIdeal.nD Cert.ConvBwdIdeal.τ).loc Cert.ConvBwdIdeal.main_v1_3) = v3 c
          ∧ r.2.mem ((c.tc : Thread Cert.ConvBwdIdeal.nD Cert.ConvBwdIdeal.τ).loc Cert.ConvBwdIdeal.main_v1_4) = v4 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v72) = v0 c
          ∧ r.2.mem ((c.tc : Thread Cert.ConvRefIdeal.nD Cert.ConvRefIdeal.τ).loc Cert.ConvRefIdeal.main_v73) = v1 c
          ∧ r.2.mem ((c.tc : Thread Cert.ConvRefIdeal.nD Cert.ConvRefIdeal.τ).loc Cert.ConvRefIdeal.main_v74) = v2 c
          ∧ r.2.mem ((c.tc : Thread Cert.ConvRefIdeal.nD Cert.ConvRefIdeal.τ).loc Cert.ConvRefIdeal.main_v75) = v3 c
          ∧ r.2.mem ((c.tc : Thread Cert.ConvRefIdeal.nD Cert.ConvRefIdeal.τ).loc Cert.ConvRefIdeal.main_v36) = v4 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_AttnBwd_AttnBwdIdeal : Prop :=
  True

def preserves_DownDgrad_DownDgradIdeal : Prop :=
  True

def algebraic_DownDgradIdeal_DownDgradRefIdeal [hDownDgradIdeal : Cert.DownDgradIdeal.Facts] [hDownDgradRefIdeal : Cert.DownDgradRefIdeal.Facts] : Prop :=
  ∀ (m : (ℓ : Loc Cert.DownDgradIdeal.nD Cert.DownDgradIdeal.τ Cert.DownDgradIdeal.sig) → Buf (Elt Ideal) ℓ) (g : Dev Cert.DownDgradIdeal.nD → PrngReg)
    (m' : (ℓ : Loc Cert.DownDgradRefIdeal.nD Cert.DownDgradRefIdeal.τ Cert.DownDgradRefIdeal.sig) → Buf (Elt Ideal) ℓ) (g' : Dev Cert.DownDgradRefIdeal.nD → PrngReg), Pre_DownDgradIdeal m →
    (∀ c : Dev Cert.DownDgradIdeal.nD,
      m' ((c.tc : Thread Cert.DownDgradRefIdeal.nD Cert.DownDgradRefIdeal.τ).loc Cert.DownDgradRefIdeal.main_arg0) = m ((c.tc : Thread Cert.DownDgradIdeal.nD Cert.DownDgradIdeal.τ).loc Cert.DownDgradIdeal.main_arg0)
      ∧ m' ((c.tc : Thread Cert.DownDgradRefIdeal.nD Cert.DownDgradRefIdeal.τ).loc Cert.DownDgradRefIdeal.main_arg1) = m ((c.tc : Thread Cert.DownDgradIdeal.nD Cert.DownDgradIdeal.τ).loc Cert.DownDgradIdeal.main_arg1)
      ∧ m' ((c.tc : Thread Cert.DownDgradRefIdeal.nD Cert.DownDgradRefIdeal.τ).loc Cert.DownDgradRefIdeal.main_arg2) = m ((c.tc : Thread Cert.DownDgradIdeal.nD Cert.DownDgradIdeal.τ).loc Cert.DownDgradIdeal.main_arg2)) →
    ∃ (v0 : (c : Dev Cert.DownDgradIdeal.nD) → Buf (Elt Ideal) ((c.tc : Thread Cert.DownDgradIdeal.nD Cert.DownDgradIdeal.τ).loc Cert.DownDgradIdeal.main_v4)),
      θ_run (Cert.DownDgradIdeal.defs (F := Ideal)) (onTc (τ := Cert.DownDgradIdeal.τ) (Cert.DownDgradIdeal.main (F := Ideal))) ⟨m, fun _ => 0, g⟩ (fun r => ∀ c : Dev Cert.DownDgradIdeal.nD,
          r.2.mem ((c.tc : Thread Cert.DownDgradIdeal.nD Cert.DownDgradIdeal.τ).loc Cert.DownDgradIdeal.main_v4) = v0 c
          ∧ r.2.mem ((c.tc : Thread Cert.DownDgradIdeal.nD Cert.DownDgradIdeal.τ).loc Cert.DownDgradIdeal.main_arg0) = m ((c.tc : Thread Cert.DownDgradIdeal.nD Cert.DownDgradIdeal.τ).loc Cert.DownDgradIdeal.main_arg0)
          ∧ r.2.mem ((c.tc : Thread Cert.DownDgradIdeal.nD Cert.DownDgradIdeal.τ).loc Cert.DownDgradIdeal.main_arg1) = m ((c.tc : Thread Cert.DownDgradIdeal.nD Cert.DownDgradIdeal.τ).loc Cert.DownDgradIdeal.main_arg1)
          ∧ r.2.mem ((c.tc : Thread Cert.DownDgradIdeal.nD Cert.DownDgradIdeal.τ).loc Cert.DownDgradIdeal.main_arg2) = m ((c.tc : Thread Cert.DownDgradIdeal.nD Cert.DownDgradIdeal.τ).loc Cert.DownDgradIdeal.main_arg2))
      ∧ θ_run (Cert.DownDgradRefIdeal.defs (F := Ideal)) (onTc (τ := Cert.DownDgradRefIdeal.τ) (Cert.DownDgradRefIdeal.main (F := Ideal))) ⟨m', fun _ => 0, g'⟩ (fun r => ∀ c : Dev Cert.DownDgradRefIdeal.nD,
          r.2.mem ((c.tc : Thread Cert.DownDgradRefIdeal.nD Cert.DownDgradRefIdeal.τ).loc Cert.DownDgradRefIdeal.main_v12) = v0 c
          ∧ r.2.mem ((c.tc : Thread Cert.DownDgradRefIdeal.nD Cert.DownDgradRefIdeal.τ).loc Cert.DownDgradRefIdeal.main_arg0) = m' ((c.tc : Thread Cert.DownDgradRefIdeal.nD Cert.DownDgradRefIdeal.τ).loc Cert.DownDgradRefIdeal.main_arg0)
          ∧ r.2.mem ((c.tc : Thread Cert.DownDgradRefIdeal.nD Cert.DownDgradRefIdeal.τ).loc Cert.DownDgradRefIdeal.main_arg1) = m' ((c.tc : Thread Cert.DownDgradRefIdeal.nD Cert.DownDgradRefIdeal.τ).loc Cert.DownDgradRefIdeal.main_arg1)
          ∧ r.2.mem ((c.tc : Thread Cert.DownDgradRefIdeal.nD Cert.DownDgradRefIdeal.τ).loc Cert.DownDgradRefIdeal.main_arg2) = m' ((c.tc : Thread Cert.DownDgradRefIdeal.nD Cert.DownDgradRefIdeal.τ).loc Cert.DownDgradRefIdeal.main_arg2))

def preserves_DownWgrad_DownWgradIdeal : Prop :=
  True

def algebraic_DownWgradIdeal_DownWgradRefIdeal [hDownWgradIdeal : Cert.DownWgradIdeal.Facts] [hDownWgradRefIdeal : Cert.DownWgradRefIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg)
    (m' : (ℓ : Loc Cert.DownWgradRefIdeal.nD Cert.DownWgradRefIdeal.τ Cert.DownWgradRefIdeal.sig) → Buf (Elt Ideal) ℓ) (g' : Dev Cert.DownWgradRefIdeal.nD → PrngReg), Pre_DownWgradIdeal m →
    (∀ c : Dev Cert.DownWgradIdeal.nD,
      m' ((c.tc : Thread Cert.DownWgradRefIdeal.nD Cert.DownWgradRefIdeal.τ).loc Cert.DownWgradRefIdeal.main_arg0) = m ((c.tc : Thread Cert.DownWgradIdeal.nD Cert.DownWgradIdeal.τ).loc Cert.DownWgradIdeal.main_arg0)
      ∧ m' ((c.tc : Thread Cert.DownWgradRefIdeal.nD Cert.DownWgradRefIdeal.τ).loc Cert.DownWgradRefIdeal.main_arg1) = m ((c.tc : Thread Cert.DownWgradIdeal.nD Cert.DownWgradIdeal.τ).loc Cert.DownWgradIdeal.main_arg1)) →
    ∃ (v0 : (c : Dev Cert.DownWgradIdeal.nD) → Buf (Elt Ideal) ((c.tc : Thread Cert.DownWgradIdeal.nD Cert.DownWgradIdeal.τ).loc Cert.DownWgradIdeal.main_v4)),
      θ_run (Cert.DownWgradIdeal.defs (F := Ideal)) (onTc (τ := Cert.DownWgradIdeal.τ) (Cert.DownWgradIdeal.main (F := Ideal))) ⟨m, fun _ => 0, g⟩ (fun r => ∀ c : Dev Cert.DownWgradIdeal.nD,
          r.2.mem ((c.tc : Thread Cert.DownWgradIdeal.nD Cert.DownWgradIdeal.τ).loc Cert.DownWgradIdeal.main_v4) = v0 c
          ∧ r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
          ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ θ_run (Cert.DownWgradRefIdeal.defs (F := Ideal)) (onTc (τ := Cert.DownWgradRefIdeal.τ) (Cert.DownWgradRefIdeal.main (F := Ideal))) ⟨m', fun _ => 0, g'⟩ (fun r => ∀ c : Dev Cert.DownWgradRefIdeal.nD,
          r.2.mem ((c.tc : Thread Cert.DownWgradRefIdeal.nD Cert.DownWgradRefIdeal.τ).loc Cert.DownWgradRefIdeal.main_v6) = v0 c
          ∧ r.2.mem ((c.tc : Thread Cert.DownWgradRefIdeal.nD Cert.DownWgradRefIdeal.τ).loc Cert.DownWgradRefIdeal.main_arg0) = m' ((c.tc : Thread Cert.DownWgradRefIdeal.nD Cert.DownWgradRefIdeal.τ).loc Cert.DownWgradRefIdeal.main_arg0)
          ∧ r.2.mem ((c.tc : Thread Cert.DownWgradRefIdeal.nD Cert.DownWgradRefIdeal.τ).loc Cert.DownWgradRefIdeal.main_arg1) = m' ((c.tc : Thread Cert.DownWgradRefIdeal.nD Cert.DownWgradRefIdeal.τ).loc Cert.DownWgradRefIdeal.main_arg1))

def preserves_UpWgrad_UpWgradIdeal : Prop :=
  True

def algebraic_UpWgradIdeal_UpWgradRefIdeal [hUpWgradIdeal : Cert.UpWgradIdeal.Facts] [hUpWgradRefIdeal : Cert.UpWgradRefIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg)
    (m' : (ℓ : Loc Cert.UpWgradRefIdeal.nD Cert.UpWgradRefIdeal.τ Cert.UpWgradRefIdeal.sig) → Buf (Elt Ideal) ℓ) (g' : Dev Cert.UpWgradRefIdeal.nD → PrngReg), Pre_UpWgradIdeal m →
    (∀ c : Dev Cert.UpWgradIdeal.nD,
      m' ((c.tc : Thread Cert.UpWgradRefIdeal.nD Cert.UpWgradRefIdeal.τ).loc Cert.UpWgradRefIdeal.main_arg0) = m ((c.tc : Thread Cert.UpWgradIdeal.nD Cert.UpWgradIdeal.τ).loc Cert.UpWgradIdeal.main_arg0)
      ∧ m' ((c.tc : Thread Cert.UpWgradRefIdeal.nD Cert.UpWgradRefIdeal.τ).loc Cert.UpWgradRefIdeal.main_arg1) = m ((c.tc : Thread Cert.UpWgradIdeal.nD Cert.UpWgradIdeal.τ).loc Cert.UpWgradIdeal.main_arg1)) →
    ∃ (v0 : (c : Dev Cert.UpWgradIdeal.nD) → Buf (Elt Ideal) ((c.tc : Thread Cert.UpWgradIdeal.nD Cert.UpWgradIdeal.τ).loc Cert.UpWgradIdeal.main_v2)),
      θ_run (Cert.UpWgradIdeal.defs (F := Ideal)) (onTc (τ := Cert.UpWgradIdeal.τ) (Cert.UpWgradIdeal.main (F := Ideal))) ⟨m, fun _ => 0, g⟩ (fun r => ∀ c : Dev Cert.UpWgradIdeal.nD,
          r.2.mem ((c.tc : Thread Cert.UpWgradIdeal.nD Cert.UpWgradIdeal.τ).loc Cert.UpWgradIdeal.main_v2) = v0 c
          ∧ r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
          ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1))
      ∧ θ_run (Cert.UpWgradRefIdeal.defs (F := Ideal)) (onTc (τ := Cert.UpWgradRefIdeal.τ) (Cert.UpWgradRefIdeal.main (F := Ideal))) ⟨m', fun _ => 0, g'⟩ (fun r => ∀ c : Dev Cert.UpWgradRefIdeal.nD,
          r.2.mem ((c.tc : Thread Cert.UpWgradRefIdeal.nD Cert.UpWgradRefIdeal.τ).loc Cert.UpWgradRefIdeal.main_v6) = v0 c
          ∧ r.2.mem ((c.tc : Thread Cert.UpWgradRefIdeal.nD Cert.UpWgradRefIdeal.τ).loc Cert.UpWgradRefIdeal.main_arg0) = m' ((c.tc : Thread Cert.UpWgradRefIdeal.nD Cert.UpWgradRefIdeal.τ).loc Cert.UpWgradRefIdeal.main_arg0)
          ∧ r.2.mem ((c.tc : Thread Cert.UpWgradRefIdeal.nD Cert.UpWgradRefIdeal.τ).loc Cert.UpWgradRefIdeal.main_arg1) = m' ((c.tc : Thread Cert.UpWgradRefIdeal.nD Cert.UpWgradRefIdeal.τ).loc Cert.UpWgradRefIdeal.main_arg1))

def preserves_UpDgrad_UpDgradIdeal : Prop :=
  True

def algebraic_UpDgradIdeal_UpDgradRefIdeal [hUpDgradIdeal : Cert.UpDgradIdeal.Facts] [hUpDgradRefIdeal : Cert.UpDgradRefIdeal.Facts] : Prop :=
  ∀ (m : (ℓ : Loc Cert.UpDgradIdeal.nD Cert.UpDgradIdeal.τ Cert.UpDgradIdeal.sig) → Buf (Elt Ideal) ℓ) (g : Dev Cert.UpDgradIdeal.nD → PrngReg)
    (m' : (ℓ : Loc Cert.UpDgradRefIdeal.nD Cert.UpDgradRefIdeal.τ Cert.UpDgradRefIdeal.sig) → Buf (Elt Ideal) ℓ) (g' : Dev Cert.UpDgradRefIdeal.nD → PrngReg), Pre_UpDgradIdeal m →
    (∀ c : Dev Cert.UpDgradIdeal.nD,
      m' ((c.tc : Thread Cert.UpDgradRefIdeal.nD Cert.UpDgradRefIdeal.τ).loc Cert.UpDgradRefIdeal.main_arg0) = m ((c.tc : Thread Cert.UpDgradIdeal.nD Cert.UpDgradIdeal.τ).loc Cert.UpDgradIdeal.main_arg0)
      ∧ m' ((c.tc : Thread Cert.UpDgradRefIdeal.nD Cert.UpDgradRefIdeal.τ).loc Cert.UpDgradRefIdeal.main_arg1) = m ((c.tc : Thread Cert.UpDgradIdeal.nD Cert.UpDgradIdeal.τ).loc Cert.UpDgradIdeal.main_arg1)) →
    ∃ (v0 : (c : Dev Cert.UpDgradIdeal.nD) → Buf (Elt Ideal) ((c.tc : Thread Cert.UpDgradIdeal.nD Cert.UpDgradIdeal.τ).loc Cert.UpDgradIdeal.main_v4)),
      θ_run (Cert.UpDgradIdeal.defs (F := Ideal)) (onTc (τ := Cert.UpDgradIdeal.τ) (Cert.UpDgradIdeal.main (F := Ideal))) ⟨m, fun _ => 0, g⟩ (fun r => ∀ c : Dev Cert.UpDgradIdeal.nD,
          r.2.mem ((c.tc : Thread Cert.UpDgradIdeal.nD Cert.UpDgradIdeal.τ).loc Cert.UpDgradIdeal.main_v4) = v0 c
          ∧ r.2.mem ((c.tc : Thread Cert.UpDgradIdeal.nD Cert.UpDgradIdeal.τ).loc Cert.UpDgradIdeal.main_arg0) = m ((c.tc : Thread Cert.UpDgradIdeal.nD Cert.UpDgradIdeal.τ).loc Cert.UpDgradIdeal.main_arg0)
          ∧ r.2.mem ((c.tc : Thread Cert.UpDgradIdeal.nD Cert.UpDgradIdeal.τ).loc Cert.UpDgradIdeal.main_arg1) = m ((c.tc : Thread Cert.UpDgradIdeal.nD Cert.UpDgradIdeal.τ).loc Cert.UpDgradIdeal.main_arg1))
      ∧ θ_run (Cert.UpDgradRefIdeal.defs (F := Ideal)) (onTc (τ := Cert.UpDgradRefIdeal.τ) (Cert.UpDgradRefIdeal.main (F := Ideal))) ⟨m', fun _ => 0, g'⟩ (fun r => ∀ c : Dev Cert.UpDgradRefIdeal.nD,
          r.2.mem ((c.tc : Thread Cert.UpDgradRefIdeal.nD Cert.UpDgradRefIdeal.τ).loc Cert.UpDgradRefIdeal.main_v2) = v0 c
          ∧ r.2.mem ((c.tc : Thread Cert.UpDgradRefIdeal.nD Cert.UpDgradRefIdeal.τ).loc Cert.UpDgradRefIdeal.main_arg0) = m' ((c.tc : Thread Cert.UpDgradRefIdeal.nD Cert.UpDgradRefIdeal.τ).loc Cert.UpDgradRefIdeal.main_arg0)
          ∧ r.2.mem ((c.tc : Thread Cert.UpDgradRefIdeal.nD Cert.UpDgradRefIdeal.τ).loc Cert.UpDgradRefIdeal.main_arg1) = m' ((c.tc : Thread Cert.UpDgradRefIdeal.nD Cert.UpDgradRefIdeal.τ).loc Cert.UpDgradRefIdeal.main_arg1))

def preserves_MixDgrad_MixDgradIdeal : Prop :=
  True

def algebraic_MixDgradIdeal_MixDgradRefIdeal [hMixDgradIdeal : Cert.MixDgradIdeal.Facts] [hMixDgradRefIdeal : Cert.MixDgradRefIdeal.Facts] : Prop :=
  ∀ (m : (ℓ : Loc Cert.MixDgradIdeal.nD Cert.MixDgradIdeal.τ Cert.MixDgradIdeal.sig) → Buf (Elt Ideal) ℓ) (g : Dev Cert.MixDgradIdeal.nD → PrngReg)
    (m' : (ℓ : Loc Cert.MixDgradRefIdeal.nD Cert.MixDgradRefIdeal.τ Cert.MixDgradRefIdeal.sig) → Buf (Elt Ideal) ℓ) (g' : Dev Cert.MixDgradRefIdeal.nD → PrngReg), Pre_MixDgradIdeal m →
    (∀ c : Dev Cert.MixDgradIdeal.nD,
      m' ((c.tc : Thread Cert.MixDgradRefIdeal.nD Cert.MixDgradRefIdeal.τ).loc Cert.MixDgradRefIdeal.main_arg0) = m ((c.tc : Thread Cert.MixDgradIdeal.nD Cert.MixDgradIdeal.τ).loc Cert.MixDgradIdeal.main_arg0)
      ∧ m' ((c.tc : Thread Cert.MixDgradRefIdeal.nD Cert.MixDgradRefIdeal.τ).loc Cert.MixDgradRefIdeal.main_arg1) = m ((c.tc : Thread Cert.MixDgradIdeal.nD Cert.MixDgradIdeal.τ).loc Cert.MixDgradIdeal.main_arg1)) →
    ∃ (v0 : (c : Dev Cert.MixDgradIdeal.nD) → Buf (Elt Ideal) ((c.tc : Thread Cert.MixDgradIdeal.nD Cert.MixDgradIdeal.τ).loc Cert.MixDgradIdeal.main_v2)),
      θ_run (Cert.MixDgradIdeal.defs (F := Ideal)) (onTc (τ := Cert.MixDgradIdeal.τ) (Cert.MixDgradIdeal.main (F := Ideal))) ⟨m, fun _ => 0, g⟩ (fun r => ∀ c : Dev Cert.MixDgradIdeal.nD,
          r.2.mem ((c.tc : Thread Cert.MixDgradIdeal.nD Cert.MixDgradIdeal.τ).loc Cert.MixDgradIdeal.main_v2) = v0 c
          ∧ r.2.mem ((c.tc : Thread Cert.MixDgradIdeal.nD Cert.MixDgradIdeal.τ).loc Cert.MixDgradIdeal.main_arg0) = m ((c.tc : Thread Cert.MixDgradIdeal.nD Cert.MixDgradIdeal.τ).loc Cert.MixDgradIdeal.main_arg0)
          ∧ r.2.mem ((c.tc : Thread Cert.MixDgradIdeal.nD Cert.MixDgradIdeal.τ).loc Cert.MixDgradIdeal.main_arg1) = m ((c.tc : Thread Cert.MixDgradIdeal.nD Cert.MixDgradIdeal.τ).loc Cert.MixDgradIdeal.main_arg1))
      ∧ θ_run (Cert.MixDgradRefIdeal.defs (F := Ideal)) (onTc (τ := Cert.MixDgradRefIdeal.τ) (Cert.MixDgradRefIdeal.main (F := Ideal))) ⟨m', fun _ => 0, g'⟩ (fun r => ∀ c : Dev Cert.MixDgradRefIdeal.nD,
          r.2.mem ((c.tc : Thread Cert.MixDgradRefIdeal.nD Cert.MixDgradRefIdeal.τ).loc Cert.MixDgradRefIdeal.main_v2) = v0 c
          ∧ r.2.mem ((c.tc : Thread Cert.MixDgradRefIdeal.nD Cert.MixDgradRefIdeal.τ).loc Cert.MixDgradRefIdeal.main_arg0) = m' ((c.tc : Thread Cert.MixDgradRefIdeal.nD Cert.MixDgradRefIdeal.τ).loc Cert.MixDgradRefIdeal.main_arg0)
          ∧ r.2.mem ((c.tc : Thread Cert.MixDgradRefIdeal.nD Cert.MixDgradRefIdeal.τ).loc Cert.MixDgradRefIdeal.main_arg1) = m' ((c.tc : Thread Cert.MixDgradRefIdeal.nD Cert.MixDgradRefIdeal.τ).loc Cert.MixDgradRefIdeal.main_arg1))

def preserves_MixWgrad_MixWgradIdeal : Prop :=
  True

def algebraic_MixWgradIdeal_MixWgradRefIdeal [hMixWgradIdeal : Cert.MixWgradIdeal.Facts] [hMixWgradRefIdeal : Cert.MixWgradRefIdeal.Facts] : Prop :=
  ∀ (m : (ℓ : Loc Cert.MixWgradIdeal.nD Cert.MixWgradIdeal.τ Cert.MixWgradIdeal.sig) → Buf (Elt Ideal) ℓ) (g : Dev Cert.MixWgradIdeal.nD → PrngReg)
    (m' : (ℓ : Loc Cert.MixWgradRefIdeal.nD Cert.MixWgradRefIdeal.τ Cert.MixWgradRefIdeal.sig) → Buf (Elt Ideal) ℓ) (g' : Dev Cert.MixWgradRefIdeal.nD → PrngReg), Pre_MixWgradIdeal m →
    (∀ c : Dev Cert.MixWgradIdeal.nD,
      m' ((c.tc : Thread Cert.MixWgradRefIdeal.nD Cert.MixWgradRefIdeal.τ).loc Cert.MixWgradRefIdeal.main_arg0) = m ((c.tc : Thread Cert.MixWgradIdeal.nD Cert.MixWgradIdeal.τ).loc Cert.MixWgradIdeal.main_arg0)
      ∧ m' ((c.tc : Thread Cert.MixWgradRefIdeal.nD Cert.MixWgradRefIdeal.τ).loc Cert.MixWgradRefIdeal.main_arg1) = m ((c.tc : Thread Cert.MixWgradIdeal.nD Cert.MixWgradIdeal.τ).loc Cert.MixWgradIdeal.main_arg1)) →
    ∃ (v0 : (c : Dev Cert.MixWgradIdeal.nD) → Buf (Elt Ideal) ((c.tc : Thread Cert.MixWgradIdeal.nD Cert.MixWgradIdeal.τ).loc Cert.MixWgradIdeal.main_v2)),
      θ_run (Cert.MixWgradIdeal.defs (F := Ideal)) (onTc (τ := Cert.MixWgradIdeal.τ) (Cert.MixWgradIdeal.main (F := Ideal))) ⟨m, fun _ => 0, g⟩ (fun r => ∀ c : Dev Cert.MixWgradIdeal.nD,
          r.2.mem ((c.tc : Thread Cert.MixWgradIdeal.nD Cert.MixWgradIdeal.τ).loc Cert.MixWgradIdeal.main_v2) = v0 c
          ∧ r.2.mem ((c.tc : Thread Cert.MixWgradIdeal.nD Cert.MixWgradIdeal.τ).loc Cert.MixWgradIdeal.main_arg0) = m ((c.tc : Thread Cert.MixWgradIdeal.nD Cert.MixWgradIdeal.τ).loc Cert.MixWgradIdeal.main_arg0)
          ∧ r.2.mem ((c.tc : Thread Cert.MixWgradIdeal.nD Cert.MixWgradIdeal.τ).loc Cert.MixWgradIdeal.main_arg1) = m ((c.tc : Thread Cert.MixWgradIdeal.nD Cert.MixWgradIdeal.τ).loc Cert.MixWgradIdeal.main_arg1))
      ∧ θ_run (Cert.MixWgradRefIdeal.defs (F := Ideal)) (onTc (τ := Cert.MixWgradRefIdeal.τ) (Cert.MixWgradRefIdeal.main (F := Ideal))) ⟨m', fun _ => 0, g'⟩ (fun r => ∀ c : Dev Cert.MixWgradRefIdeal.nD,
          r.2.mem ((c.tc : Thread Cert.MixWgradRefIdeal.nD Cert.MixWgradRefIdeal.τ).loc Cert.MixWgradRefIdeal.main_v4) = v0 c
          ∧ r.2.mem ((c.tc : Thread Cert.MixWgradRefIdeal.nD Cert.MixWgradRefIdeal.τ).loc Cert.MixWgradRefIdeal.main_arg0) = m' ((c.tc : Thread Cert.MixWgradRefIdeal.nD Cert.MixWgradRefIdeal.τ).loc Cert.MixWgradRefIdeal.main_arg0)
          ∧ r.2.mem ((c.tc : Thread Cert.MixWgradRefIdeal.nD Cert.MixWgradRefIdeal.τ).loc Cert.MixWgradRefIdeal.main_arg1) = m' ((c.tc : Thread Cert.MixWgradRefIdeal.nD Cert.MixWgradRefIdeal.τ).loc Cert.MixWgradRefIdeal.main_arg1))

def preserves_ProjDgrad_ProjDgradIdeal : Prop :=
  True

def algebraic_ProjDgradIdeal_ProjDgradRefIdeal [hProjDgradIdeal : Cert.ProjDgradIdeal.Facts] [hProjDgradRefIdeal : Cert.ProjDgradRefIdeal.Facts] : Prop :=
  ∀ (m : (ℓ : Loc Cert.ProjDgradIdeal.nD Cert.ProjDgradIdeal.τ Cert.ProjDgradIdeal.sig) → Buf (Elt Ideal) ℓ) (g : Dev Cert.ProjDgradIdeal.nD → PrngReg)
    (m' : (ℓ : Loc Cert.ProjDgradRefIdeal.nD Cert.ProjDgradRefIdeal.τ Cert.ProjDgradRefIdeal.sig) → Buf (Elt Ideal) ℓ) (g' : Dev Cert.ProjDgradRefIdeal.nD → PrngReg), Pre_ProjDgradIdeal m →
    (∀ c : Dev Cert.ProjDgradIdeal.nD,
      m' ((c.tc : Thread Cert.ProjDgradRefIdeal.nD Cert.ProjDgradRefIdeal.τ).loc Cert.ProjDgradRefIdeal.main_arg0) = m ((c.tc : Thread Cert.ProjDgradIdeal.nD Cert.ProjDgradIdeal.τ).loc Cert.ProjDgradIdeal.main_arg0)
      ∧ m' ((c.tc : Thread Cert.ProjDgradRefIdeal.nD Cert.ProjDgradRefIdeal.τ).loc Cert.ProjDgradRefIdeal.main_arg1) = m ((c.tc : Thread Cert.ProjDgradIdeal.nD Cert.ProjDgradIdeal.τ).loc Cert.ProjDgradIdeal.main_arg1)) →
    ∃ (v0 : (c : Dev Cert.ProjDgradIdeal.nD) → Buf (Elt Ideal) ((c.tc : Thread Cert.ProjDgradIdeal.nD Cert.ProjDgradIdeal.τ).loc Cert.ProjDgradIdeal.main_v3)),
      θ_run (Cert.ProjDgradIdeal.defs (F := Ideal)) (onTc (τ := Cert.ProjDgradIdeal.τ) (Cert.ProjDgradIdeal.main (F := Ideal))) ⟨m, fun _ => 0, g⟩ (fun r => ∀ c : Dev Cert.ProjDgradIdeal.nD,
          r.2.mem ((c.tc : Thread Cert.ProjDgradIdeal.nD Cert.ProjDgradIdeal.τ).loc Cert.ProjDgradIdeal.main_v3) = v0 c
          ∧ r.2.mem ((c.tc : Thread Cert.ProjDgradIdeal.nD Cert.ProjDgradIdeal.τ).loc Cert.ProjDgradIdeal.main_arg0) = m ((c.tc : Thread Cert.ProjDgradIdeal.nD Cert.ProjDgradIdeal.τ).loc Cert.ProjDgradIdeal.main_arg0)
          ∧ r.2.mem ((c.tc : Thread Cert.ProjDgradIdeal.nD Cert.ProjDgradIdeal.τ).loc Cert.ProjDgradIdeal.main_arg1) = m ((c.tc : Thread Cert.ProjDgradIdeal.nD Cert.ProjDgradIdeal.τ).loc Cert.ProjDgradIdeal.main_arg1))
      ∧ θ_run (Cert.ProjDgradRefIdeal.defs (F := Ideal)) (onTc (τ := Cert.ProjDgradRefIdeal.τ) (Cert.ProjDgradRefIdeal.main (F := Ideal))) ⟨m', fun _ => 0, g'⟩ (fun r => ∀ c : Dev Cert.ProjDgradRefIdeal.nD,
          r.2.mem ((c.tc : Thread Cert.ProjDgradRefIdeal.nD Cert.ProjDgradRefIdeal.τ).loc Cert.ProjDgradRefIdeal.main_v2) = v0 c
          ∧ r.2.mem ((c.tc : Thread Cert.ProjDgradRefIdeal.nD Cert.ProjDgradRefIdeal.τ).loc Cert.ProjDgradRefIdeal.main_arg0) = m' ((c.tc : Thread Cert.ProjDgradRefIdeal.nD Cert.ProjDgradRefIdeal.τ).loc Cert.ProjDgradRefIdeal.main_arg0)
          ∧ r.2.mem ((c.tc : Thread Cert.ProjDgradRefIdeal.nD Cert.ProjDgradRefIdeal.τ).loc Cert.ProjDgradRefIdeal.main_arg1) = m' ((c.tc : Thread Cert.ProjDgradRefIdeal.nD Cert.ProjDgradRefIdeal.τ).loc Cert.ProjDgradRefIdeal.main_arg1))

def preserves_ProjWgrad_ProjWgradIdeal : Prop :=
  True

def algebraic_ProjWgradIdeal_ProjWgradRefIdeal [hProjWgradIdeal : Cert.ProjWgradIdeal.Facts] [hProjWgradRefIdeal : Cert.ProjWgradRefIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg)
    (m' : (ℓ : Loc Cert.ProjWgradRefIdeal.nD Cert.ProjWgradRefIdeal.τ Cert.ProjWgradRefIdeal.sig) → Buf (Elt Ideal) ℓ) (g' : Dev Cert.ProjWgradRefIdeal.nD → PrngReg), Pre_ProjWgradIdeal m →
    (∀ c : Dev Cert.ProjWgradIdeal.nD,
      m' ((c.tc : Thread Cert.ProjWgradRefIdeal.nD Cert.ProjWgradRefIdeal.τ).loc Cert.ProjWgradRefIdeal.main_arg0) = m ((c.tc : Thread Cert.ProjWgradIdeal.nD Cert.ProjWgradIdeal.τ).loc Cert.ProjWgradIdeal.main_arg0)
      ∧ m' ((c.tc : Thread Cert.ProjWgradRefIdeal.nD Cert.ProjWgradRefIdeal.τ).loc Cert.ProjWgradRefIdeal.main_arg1) = m ((c.tc : Thread Cert.ProjWgradIdeal.nD Cert.ProjWgradIdeal.τ).loc Cert.ProjWgradIdeal.main_arg1)) →
    ∃ (v0 : (c : Dev Cert.ProjWgradIdeal.nD) → Buf (Elt Ideal) ((c.tc : Thread Cert.ProjWgradIdeal.nD Cert.ProjWgradIdeal.τ).loc Cert.ProjWgradIdeal.main_v2)),
      θ_run (Cert.ProjWgradIdeal.defs (F := Ideal)) (onTc (τ := Cert.ProjWgradIdeal.τ) (Cert.ProjWgradIdeal.main (F := Ideal))) ⟨m, fun _ => 0, g⟩ (fun r => ∀ c : Dev Cert.ProjWgradIdeal.nD,
          r.2.mem ((c.tc : Thread Cert.ProjWgradIdeal.nD Cert.ProjWgradIdeal.τ).loc Cert.ProjWgradIdeal.main_v2) = v0 c
          ∧ r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
          ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1))
      ∧ θ_run (Cert.ProjWgradRefIdeal.defs (F := Ideal)) (onTc (τ := Cert.ProjWgradRefIdeal.τ) (Cert.ProjWgradRefIdeal.main (F := Ideal))) ⟨m', fun _ => 0, g'⟩ (fun r => ∀ c : Dev Cert.ProjWgradRefIdeal.nD,
          r.2.mem ((c.tc : Thread Cert.ProjWgradRefIdeal.nD Cert.ProjWgradRefIdeal.τ).loc Cert.ProjWgradRefIdeal.main_v4) = v0 c
          ∧ r.2.mem ((c.tc : Thread Cert.ProjWgradRefIdeal.nD Cert.ProjWgradRefIdeal.τ).loc Cert.ProjWgradRefIdeal.main_arg0) = m' ((c.tc : Thread Cert.ProjWgradRefIdeal.nD Cert.ProjWgradRefIdeal.τ).loc Cert.ProjWgradRefIdeal.main_arg0)
          ∧ r.2.mem ((c.tc : Thread Cert.ProjWgradRefIdeal.nD Cert.ProjWgradRefIdeal.τ).loc Cert.ProjWgradRefIdeal.main_arg1) = m' ((c.tc : Thread Cert.ProjWgradRefIdeal.nD Cert.ProjWgradRefIdeal.τ).loc Cert.ProjWgradRefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v4_0)) (v1 : (c : Dev Cert.MlpUpIdeal.nD) → Buf (Elt Ideal) ((c.tc : Thread Cert.MlpUpIdeal.nD Cert.MlpUpIdeal.τ).loc Cert.MlpUpIdeal.main_v4_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v4_0) = v0 c
          ∧ r.2.mem ((c.tc : Thread Cert.MlpUpIdeal.nD Cert.MlpUpIdeal.τ).loc Cert.MlpUpIdeal.main_v4_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v2) = v0 c
          ∧ r.2.mem ((c.tc : Thread Cert.MlpUpRefIdeal.nD Cert.MlpUpRefIdeal.τ).loc Cert.MlpUpRefIdeal.main_v4) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v2_0)) (v1 : (c : Dev Cert.MlpDownIdeal.nD) → Buf (Elt Ideal) ((c.tc : Thread Cert.MlpDownIdeal.nD Cert.MlpDownIdeal.τ).loc Cert.MlpDownIdeal.main_v2_1)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v2_0) = v0 c
          ∧ r.2.mem ((c.tc : Thread Cert.MlpDownIdeal.nD Cert.MlpDownIdeal.τ).loc Cert.MlpDownIdeal.main_v2_1) = v1 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v0) = v0 c
          ∧ r.2.mem ((c.tc : Thread Cert.MlpDownRefIdeal.nD Cert.MlpDownRefIdeal.τ).loc Cert.MlpDownRefIdeal.main_v3) = v1 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v2)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v2) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v2) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1))

def preserves_ProjRest_ProjRestIdeal : Prop :=
  True

def algebraic_ProjRestIdeal_ProjRestRefIdeal [hProjRestIdeal : Cert.ProjRestIdeal.Facts] [hProjRestRefIdeal : Cert.ProjRestRefIdeal.Facts] : Prop :=
  ∀ (m : (ℓ : Loc Cert.ProjRestIdeal.nD Cert.ProjRestIdeal.τ Cert.ProjRestIdeal.sig) → Buf (Elt Ideal) ℓ) (g : Dev Cert.ProjRestIdeal.nD → PrngReg)
    (m' : (ℓ : Loc Cert.ProjRestRefIdeal.nD Cert.ProjRestRefIdeal.τ Cert.ProjRestRefIdeal.sig) → Buf (Elt Ideal) ℓ) (g' : Dev Cert.ProjRestRefIdeal.nD → PrngReg), Pre_ProjRestIdeal m →
    (∀ c : Dev Cert.ProjRestIdeal.nD,
      m' ((c.tc : Thread Cert.ProjRestRefIdeal.nD Cert.ProjRestRefIdeal.τ).loc Cert.ProjRestRefIdeal.main_arg0) = m ((c.tc : Thread Cert.ProjRestIdeal.nD Cert.ProjRestIdeal.τ).loc Cert.ProjRestIdeal.main_arg0)
      ∧ m' ((c.tc : Thread Cert.ProjRestRefIdeal.nD Cert.ProjRestRefIdeal.τ).loc Cert.ProjRestRefIdeal.main_arg1) = m ((c.tc : Thread Cert.ProjRestIdeal.nD Cert.ProjRestIdeal.τ).loc Cert.ProjRestIdeal.main_arg1)) →
    ∃ (v0 : (c : Dev Cert.ProjRestIdeal.nD) → Buf (Elt Ideal) ((c.tc : Thread Cert.ProjRestIdeal.nD Cert.ProjRestIdeal.τ).loc Cert.ProjRestIdeal.main_v2)),
      θ_run (Cert.ProjRestIdeal.defs (F := Ideal)) (onTc (τ := Cert.ProjRestIdeal.τ) (Cert.ProjRestIdeal.main (F := Ideal))) ⟨m, fun _ => 0, g⟩ (fun r => ∀ c : Dev Cert.ProjRestIdeal.nD,
          r.2.mem ((c.tc : Thread Cert.ProjRestIdeal.nD Cert.ProjRestIdeal.τ).loc Cert.ProjRestIdeal.main_v2) = v0 c
          ∧ r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
          ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1))
      ∧ θ_run (Cert.ProjRestRefIdeal.defs (F := Ideal)) (onTc (τ := Cert.ProjRestRefIdeal.τ) (Cert.ProjRestRefIdeal.main (F := Ideal))) ⟨m', fun _ => 0, g'⟩ (fun r => ∀ c : Dev Cert.ProjRestRefIdeal.nD,
          r.2.mem ((c.tc : Thread Cert.ProjRestRefIdeal.nD Cert.ProjRestRefIdeal.τ).loc Cert.ProjRestRefIdeal.main_v1) = v0 c
          ∧ r.2.mem ((c.tc : Thread Cert.ProjRestRefIdeal.nD Cert.ProjRestRefIdeal.τ).loc Cert.ProjRestRefIdeal.main_arg0) = m' ((c.tc : Thread Cert.ProjRestRefIdeal.nD Cert.ProjRestRefIdeal.τ).loc Cert.ProjRestRefIdeal.main_arg0)
          ∧ r.2.mem ((c.tc : Thread Cert.ProjRestRefIdeal.nD Cert.ProjRestRefIdeal.τ).loc Cert.ProjRestRefIdeal.main_arg1) = m' ((c.tc : Thread Cert.ProjRestRefIdeal.nD Cert.ProjRestRefIdeal.τ).loc Cert.ProjRestRefIdeal.main_arg1))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)) →
    ∃ (v0 : (c : Dev Cert.MixFwdIdeal.nD) → Buf (Elt Ideal) ((c.tc : Thread Cert.MixFwdIdeal.nD Cert.MixFwdIdeal.τ).loc Cert.MixFwdIdeal.main_v2_0)) (v1 : (c : Dev Cert.MixFwdIdeal.nD) → Buf (Elt Ideal) ((c.tc : Thread Cert.MixFwdIdeal.nD Cert.MixFwdIdeal.τ).loc Cert.MixFwdIdeal.main_v2_1)) (v2 : (c : Dev Cert.MixFwdIdeal.nD) → Buf (Elt Ideal) ((c.tc : Thread Cert.MixFwdIdeal.nD Cert.MixFwdIdeal.τ).loc Cert.MixFwdIdeal.main_v2_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v2_0) = v0 c
          ∧ r.2.mem ((c.tc : Thread Cert.MixFwdIdeal.nD Cert.MixFwdIdeal.τ).loc Cert.MixFwdIdeal.main_v2_1) = v1 c
          ∧ r.2.mem ((c.tc : Thread Cert.MixFwdIdeal.nD Cert.MixFwdIdeal.τ).loc Cert.MixFwdIdeal.main_v2_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v0) = v0 c
          ∧ r.2.mem ((c.tc : Thread Cert.MixFwdRefIdeal.nD Cert.MixFwdRefIdeal.τ).loc Cert.MixFwdRefIdeal.main_v3) = v1 c
          ∧ r.2.mem ((c.tc : Thread Cert.MixFwdRefIdeal.nD Cert.MixFwdRefIdeal.τ).loc Cert.MixFwdRefIdeal.main_v22) = v2 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v18) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v30) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)
      ∧ m' ((c.tc : Thread Cert.NormBwdRefIdeal.nD Cert.NormBwdRefIdeal.τ).loc Cert.NormBwdRefIdeal.main_arg6) = m ((c.tc : Thread Cert.NormBwdIdeal.nD Cert.NormBwdIdeal.τ).loc Cert.NormBwdIdeal.main_arg6)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)) (v3 : (c : Dev Cert.NormBwdIdeal.nD) → Buf (Elt Ideal) ((c.tc : Thread Cert.NormBwdIdeal.nD Cert.NormBwdIdeal.τ).loc Cert.NormBwdIdeal.main_v0_3)) (v4 : (c : Dev Cert.NormBwdIdeal.nD) → Buf (Elt Ideal) ((c.tc : Thread Cert.NormBwdIdeal.nD Cert.NormBwdIdeal.τ).loc Cert.NormBwdIdeal.main_v0_4)) (v5 : (c : Dev Cert.NormBwdIdeal.nD) → Buf (Elt Ideal) ((c.tc : Thread Cert.NormBwdIdeal.nD Cert.NormBwdIdeal.τ).loc Cert.NormBwdIdeal.main_v0_5)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_v0_3) = v3 c
          ∧ r.2.mem ((c.tc : Thread Cert.NormBwdIdeal.nD Cert.NormBwdIdeal.τ).loc Cert.NormBwdIdeal.main_v0_4) = v4 c
          ∧ r.2.mem ((c.tc : Thread Cert.NormBwdIdeal.nD Cert.NormBwdIdeal.τ).loc Cert.NormBwdIdeal.main_v0_5) = v5 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5)
          ∧ r.2.mem ((c.tc : Thread Cert.NormBwdIdeal.nD Cert.NormBwdIdeal.τ).loc Cert.NormBwdIdeal.main_arg6) = m ((c.tc : Thread Cert.NormBwdIdeal.nD Cert.NormBwdIdeal.τ).loc Cert.NormBwdIdeal.main_arg6))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v49) = v0 c
          ∧ r.2.mem ((c.tc : Thread Cert.NormBwdRefIdeal.nD Cert.NormBwdRefIdeal.τ).loc Cert.NormBwdRefIdeal.main_v27) = v1 c
          ∧ r.2.mem ((c.tc : Thread Cert.NormBwdRefIdeal.nD Cert.NormBwdRefIdeal.τ).loc Cert.NormBwdRefIdeal.main_v24) = v2 c
          ∧ r.2.mem ((c.tc : Thread Cert.NormBwdRefIdeal.nD Cert.NormBwdRefIdeal.τ).loc Cert.NormBwdRefIdeal.main_v32) = v3 c
          ∧ r.2.mem ((c.tc : Thread Cert.NormBwdRefIdeal.nD Cert.NormBwdRefIdeal.τ).loc Cert.NormBwdRefIdeal.main_v57) = v4 c
          ∧ r.2.mem ((c.tc : Thread Cert.NormBwdRefIdeal.nD Cert.NormBwdRefIdeal.τ).loc Cert.NormBwdRefIdeal.main_v56) = v5 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5)
          ∧ r.2.mem ((c.tc : Thread Cert.NormBwdRefIdeal.nD Cert.NormBwdRefIdeal.τ).loc Cert.NormBwdRefIdeal.main_arg6) = m' ((c.tc : Thread Cert.NormBwdRefIdeal.nD Cert.NormBwdRefIdeal.τ).loc Cert.NormBwdRefIdeal.main_arg6))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)) (v4 : (c : Dev Cert.LossHeadIdeal.nD) → Buf (Elt Ideal) ((c.tc : Thread Cert.LossHeadIdeal.nD Cert.LossHeadIdeal.τ).loc Cert.LossHeadIdeal.main_v0_4)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_v0_4) = v4 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v48) = v0 c
          ∧ r.2.mem ((c.tc : Thread Cert.LossHeadRefIdeal.nD Cert.LossHeadRefIdeal.τ).loc Cert.LossHeadRefIdeal.main_v56) = v1 c
          ∧ r.2.mem ((c.tc : Thread Cert.LossHeadRefIdeal.nD Cert.LossHeadRefIdeal.τ).loc Cert.LossHeadRefIdeal.main_v32) = v2 c
          ∧ r.2.mem ((c.tc : Thread Cert.LossHeadRefIdeal.nD Cert.LossHeadRefIdeal.τ).loc Cert.LossHeadRefIdeal.main_v57) = v3 c
          ∧ r.2.mem ((c.tc : Thread Cert.LossHeadRefIdeal.nD Cert.LossHeadRefIdeal.τ).loc Cert.LossHeadRefIdeal.main_v55) = v4 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4))

def preserves_SgFwd_SgFwdIdeal : Prop :=
  True

def algebraic_SgFwdIdeal_SgFwdRefIdeal [hSgFwdIdeal : Cert.SgFwdIdeal.Facts] [hSgFwdRefIdeal : Cert.SgFwdRefIdeal.Facts] : Prop :=
  ∀ (m : (ℓ : Loc Cert.SgFwdIdeal.nD Cert.SgFwdIdeal.τ Cert.SgFwdIdeal.sig) → Buf (Elt Ideal) ℓ) (g : Dev Cert.SgFwdIdeal.nD → PrngReg)
    (m' : (ℓ : Loc Cert.SgFwdRefIdeal.nD Cert.SgFwdRefIdeal.τ Cert.SgFwdRefIdeal.sig) → Buf (Elt Ideal) ℓ) (g' : Dev Cert.SgFwdRefIdeal.nD → PrngReg), Pre_SgFwdIdeal m →
    (∀ c : Dev Cert.SgFwdIdeal.nD,
      m' ((c.tc : Thread Cert.SgFwdRefIdeal.nD Cert.SgFwdRefIdeal.τ).loc Cert.SgFwdRefIdeal.main_arg0) = m ((c.tc : Thread Cert.SgFwdIdeal.nD Cert.SgFwdIdeal.τ).loc Cert.SgFwdIdeal.main_arg0)
      ∧ m' ((c.tc : Thread Cert.SgFwdRefIdeal.nD Cert.SgFwdRefIdeal.τ).loc Cert.SgFwdRefIdeal.main_arg1) = m ((c.tc : Thread Cert.SgFwdIdeal.nD Cert.SgFwdIdeal.τ).loc Cert.SgFwdIdeal.main_arg1)
      ∧ m' ((c.tc : Thread Cert.SgFwdRefIdeal.nD Cert.SgFwdRefIdeal.τ).loc Cert.SgFwdRefIdeal.main_arg2) = m ((c.tc : Thread Cert.SgFwdIdeal.nD Cert.SgFwdIdeal.τ).loc Cert.SgFwdIdeal.main_arg2)
      ∧ m' ((c.tc : Thread Cert.SgFwdRefIdeal.nD Cert.SgFwdRefIdeal.τ).loc Cert.SgFwdRefIdeal.main_arg3) = m ((c.tc : Thread Cert.SgFwdIdeal.nD Cert.SgFwdIdeal.τ).loc Cert.SgFwdIdeal.main_arg3)) →
    ∃ (v0 : (c : Dev Cert.SgFwdIdeal.nD) → Buf (Elt Ideal) ((c.tc : Thread Cert.SgFwdIdeal.nD Cert.SgFwdIdeal.τ).loc Cert.SgFwdIdeal.main_v3)),
      θ_run (Cert.SgFwdIdeal.defs (F := Ideal)) (onTc (τ := Cert.SgFwdIdeal.τ) (Cert.SgFwdIdeal.main (F := Ideal))) ⟨m, fun _ => 0, g⟩ (fun r => ∀ c : Dev Cert.SgFwdIdeal.nD,
          r.2.mem ((c.tc : Thread Cert.SgFwdIdeal.nD Cert.SgFwdIdeal.τ).loc Cert.SgFwdIdeal.main_v3) = v0 c
          ∧ r.2.mem ((c.tc : Thread Cert.SgFwdIdeal.nD Cert.SgFwdIdeal.τ).loc Cert.SgFwdIdeal.main_arg0) = m ((c.tc : Thread Cert.SgFwdIdeal.nD Cert.SgFwdIdeal.τ).loc Cert.SgFwdIdeal.main_arg0)
          ∧ r.2.mem ((c.tc : Thread Cert.SgFwdIdeal.nD Cert.SgFwdIdeal.τ).loc Cert.SgFwdIdeal.main_arg1) = m ((c.tc : Thread Cert.SgFwdIdeal.nD Cert.SgFwdIdeal.τ).loc Cert.SgFwdIdeal.main_arg1)
          ∧ r.2.mem ((c.tc : Thread Cert.SgFwdIdeal.nD Cert.SgFwdIdeal.τ).loc Cert.SgFwdIdeal.main_arg2) = m ((c.tc : Thread Cert.SgFwdIdeal.nD Cert.SgFwdIdeal.τ).loc Cert.SgFwdIdeal.main_arg2)
          ∧ r.2.mem ((c.tc : Thread Cert.SgFwdIdeal.nD Cert.SgFwdIdeal.τ).loc Cert.SgFwdIdeal.main_arg3) = m ((c.tc : Thread Cert.SgFwdIdeal.nD Cert.SgFwdIdeal.τ).loc Cert.SgFwdIdeal.main_arg3))
      ∧ θ_run (Cert.SgFwdRefIdeal.defs (F := Ideal)) (onTc (τ := Cert.SgFwdRefIdeal.τ) (Cert.SgFwdRefIdeal.main (F := Ideal))) ⟨m', fun _ => 0, g'⟩ (fun r => ∀ c : Dev Cert.SgFwdRefIdeal.nD,
          r.2.mem ((c.tc : Thread Cert.SgFwdRefIdeal.nD Cert.SgFwdRefIdeal.τ).loc Cert.SgFwdRefIdeal.main_v61) = v0 c
          ∧ r.2.mem ((c.tc : Thread Cert.SgFwdRefIdeal.nD Cert.SgFwdRefIdeal.τ).loc Cert.SgFwdRefIdeal.main_arg0) = m' ((c.tc : Thread Cert.SgFwdRefIdeal.nD Cert.SgFwdRefIdeal.τ).loc Cert.SgFwdRefIdeal.main_arg0)
          ∧ r.2.mem ((c.tc : Thread Cert.SgFwdRefIdeal.nD Cert.SgFwdRefIdeal.τ).loc Cert.SgFwdRefIdeal.main_arg1) = m' ((c.tc : Thread Cert.SgFwdRefIdeal.nD Cert.SgFwdRefIdeal.τ).loc Cert.SgFwdRefIdeal.main_arg1)
          ∧ r.2.mem ((c.tc : Thread Cert.SgFwdRefIdeal.nD Cert.SgFwdRefIdeal.τ).loc Cert.SgFwdRefIdeal.main_arg2) = m' ((c.tc : Thread Cert.SgFwdRefIdeal.nD Cert.SgFwdRefIdeal.τ).loc Cert.SgFwdRefIdeal.main_arg2)
          ∧ r.2.mem ((c.tc : Thread Cert.SgFwdRefIdeal.nD Cert.SgFwdRefIdeal.τ).loc Cert.SgFwdRefIdeal.main_arg3) = m' ((c.tc : Thread Cert.SgFwdRefIdeal.nD Cert.SgFwdRefIdeal.τ).loc Cert.SgFwdRefIdeal.main_arg3))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v5) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v1_0)) (v1 : (c : Dev Cert.AdaFwdIdeal.nD) → Buf (Elt Ideal) ((c.tc : Thread Cert.AdaFwdIdeal.nD Cert.AdaFwdIdeal.τ).loc Cert.AdaFwdIdeal.main_v1_1)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v1_0) = v0 c
          ∧ r.2.mem ((c.tc : Thread Cert.AdaFwdIdeal.nD Cert.AdaFwdIdeal.τ).loc Cert.AdaFwdIdeal.main_v1_1) = v1 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v5) = v0 c
          ∧ r.2.mem ((c.tc : Thread Cert.AdaFwdRefIdeal.nD Cert.AdaFwdRefIdeal.τ).loc Cert.AdaFwdRefIdeal.main_v0) = v1 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def Claim : Prop :=
  ∃ (hConvBwd : Cert.ConvBwd.Facts) (hConvBwdIdeal : Cert.ConvBwdIdeal.Facts) (hConvRefIdeal : Cert.ConvRefIdeal.Facts) (hAttnBwd : Cert.AttnBwd.Facts) (hAttnBwdIdeal : Cert.AttnBwdIdeal.Facts) (hDownDgrad : Cert.DownDgrad.Facts) (hDownDgradIdeal : Cert.DownDgradIdeal.Facts) (hDownDgradRefIdeal : Cert.DownDgradRefIdeal.Facts) (hDownWgrad : Cert.DownWgrad.Facts) (hDownWgradIdeal : Cert.DownWgradIdeal.Facts) (hDownWgradRefIdeal : Cert.DownWgradRefIdeal.Facts) (hUpWgrad : Cert.UpWgrad.Facts) (hUpWgradIdeal : Cert.UpWgradIdeal.Facts) (hUpWgradRefIdeal : Cert.UpWgradRefIdeal.Facts) (hUpDgrad : Cert.UpDgrad.Facts) (hUpDgradIdeal : Cert.UpDgradIdeal.Facts) (hUpDgradRefIdeal : Cert.UpDgradRefIdeal.Facts) (hMixDgrad : Cert.MixDgrad.Facts) (hMixDgradIdeal : Cert.MixDgradIdeal.Facts) (hMixDgradRefIdeal : Cert.MixDgradRefIdeal.Facts) (hMixWgrad : Cert.MixWgrad.Facts) (hMixWgradIdeal : Cert.MixWgradIdeal.Facts) (hMixWgradRefIdeal : Cert.MixWgradRefIdeal.Facts) (hProjDgrad : Cert.ProjDgrad.Facts) (hProjDgradIdeal : Cert.ProjDgradIdeal.Facts) (hProjDgradRefIdeal : Cert.ProjDgradRefIdeal.Facts) (hProjWgrad : Cert.ProjWgrad.Facts) (hProjWgradIdeal : Cert.ProjWgradIdeal.Facts) (hProjWgradRefIdeal : Cert.ProjWgradRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hProjQkv : Cert.ProjQkv.Facts) (hProjQkvIdeal : Cert.ProjQkvIdeal.Facts) (hProjQkvRefIdeal : Cert.ProjQkvRefIdeal.Facts) (hProjRest : Cert.ProjRest.Facts) (hProjRestIdeal : Cert.ProjRestIdeal.Facts) (hProjRestRefIdeal : Cert.ProjRestRefIdeal.Facts) (hMixFwd : Cert.MixFwd.Facts) (hMixFwdIdeal : Cert.MixFwdIdeal.Facts) (hMixFwdRefIdeal : Cert.MixFwdRefIdeal.Facts) (hNormFwd : Cert.NormFwd.Facts) (hNormFwdIdeal : Cert.NormFwdIdeal.Facts) (hNormFwdRefIdeal : Cert.NormFwdRefIdeal.Facts) (hConvFwd : Cert.ConvFwd.Facts) (hConvFwdIdeal : Cert.ConvFwdIdeal.Facts) (hConvFwdRefIdeal : Cert.ConvFwdRefIdeal.Facts) (hNormBwd : Cert.NormBwd.Facts) (hNormBwdIdeal : Cert.NormBwdIdeal.Facts) (hNormBwdRefIdeal : Cert.NormBwdRefIdeal.Facts) (hLossHead : Cert.LossHead.Facts) (hLossHeadIdeal : Cert.LossHeadIdeal.Facts) (hLossHeadRefIdeal : Cert.LossHeadRefIdeal.Facts) (hSgFwd : Cert.SgFwd.Facts) (hSgFwdIdeal : Cert.SgFwdIdeal.Facts) (hSgFwdRefIdeal : Cert.SgFwdRefIdeal.Facts) (hAdaBwd : Cert.AdaBwd.Facts) (hAdaBwdIdeal : Cert.AdaBwdIdeal.Facts) (hAdaBwdRefIdeal : Cert.AdaBwdRefIdeal.Facts) (hAdaFwd : Cert.AdaFwd.Facts) (hAdaFwdIdeal : Cert.AdaFwdIdeal.Facts) (hAdaFwdRefIdeal : Cert.AdaFwdRefIdeal.Facts),
    quiescent_ConvBwd (hConvBwd := hConvBwd)
    ∧ quiescent_ConvBwdIdeal (hConvBwdIdeal := hConvBwdIdeal)
    ∧ quiescent_ConvRefIdeal (hConvRefIdeal := hConvRefIdeal)
    ∧ quiescent_AttnBwd (hAttnBwd := hAttnBwd)
    ∧ quiescent_AttnBwdIdeal (hAttnBwdIdeal := hAttnBwdIdeal)
    ∧ quiescent_DownDgrad (hDownDgrad := hDownDgrad)
    ∧ quiescent_DownDgradIdeal (hDownDgradIdeal := hDownDgradIdeal)
    ∧ quiescent_DownDgradRefIdeal (hDownDgradRefIdeal := hDownDgradRefIdeal)
    ∧ quiescent_DownWgrad (hDownWgrad := hDownWgrad)
    ∧ quiescent_DownWgradIdeal (hDownWgradIdeal := hDownWgradIdeal)
    ∧ quiescent_DownWgradRefIdeal (hDownWgradRefIdeal := hDownWgradRefIdeal)
    ∧ quiescent_UpWgrad (hUpWgrad := hUpWgrad)
    ∧ quiescent_UpWgradIdeal (hUpWgradIdeal := hUpWgradIdeal)
    ∧ quiescent_UpWgradRefIdeal (hUpWgradRefIdeal := hUpWgradRefIdeal)
    ∧ quiescent_UpDgrad (hUpDgrad := hUpDgrad)
    ∧ quiescent_UpDgradIdeal (hUpDgradIdeal := hUpDgradIdeal)
    ∧ quiescent_UpDgradRefIdeal (hUpDgradRefIdeal := hUpDgradRefIdeal)
    ∧ quiescent_MixDgrad (hMixDgrad := hMixDgrad)
    ∧ quiescent_MixDgradIdeal (hMixDgradIdeal := hMixDgradIdeal)
    ∧ quiescent_MixDgradRefIdeal (hMixDgradRefIdeal := hMixDgradRefIdeal)
    ∧ quiescent_MixWgrad (hMixWgrad := hMixWgrad)
    ∧ quiescent_MixWgradIdeal (hMixWgradIdeal := hMixWgradIdeal)
    ∧ quiescent_MixWgradRefIdeal (hMixWgradRefIdeal := hMixWgradRefIdeal)
    ∧ quiescent_ProjDgrad (hProjDgrad := hProjDgrad)
    ∧ quiescent_ProjDgradIdeal (hProjDgradIdeal := hProjDgradIdeal)
    ∧ quiescent_ProjDgradRefIdeal (hProjDgradRefIdeal := hProjDgradRefIdeal)
    ∧ quiescent_ProjWgrad (hProjWgrad := hProjWgrad)
    ∧ quiescent_ProjWgradIdeal (hProjWgradIdeal := hProjWgradIdeal)
    ∧ quiescent_ProjWgradRefIdeal (hProjWgradRefIdeal := hProjWgradRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjRest (hProjRest := hProjRest)
    ∧ quiescent_ProjRestIdeal (hProjRestIdeal := hProjRestIdeal)
    ∧ quiescent_ProjRestRefIdeal (hProjRestRefIdeal := hProjRestRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_SgFwd (hSgFwd := hSgFwd)
    ∧ quiescent_SgFwdIdeal (hSgFwdIdeal := hSgFwdIdeal)
    ∧ quiescent_SgFwdRefIdeal (hSgFwdRefIdeal := hSgFwdRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ preserves_ConvBwd_ConvBwdIdeal
    ∧ algebraic_ConvBwdIdeal_ConvRefIdeal (hConvBwdIdeal := hConvBwdIdeal) (hConvRefIdeal := hConvRefIdeal)
    ∧ preserves_AttnBwd_AttnBwdIdeal
    ∧ preserves_DownDgrad_DownDgradIdeal
    ∧ algebraic_DownDgradIdeal_DownDgradRefIdeal (hDownDgradIdeal := hDownDgradIdeal) (hDownDgradRefIdeal := hDownDgradRefIdeal)
    ∧ preserves_DownWgrad_DownWgradIdeal
    ∧ algebraic_DownWgradIdeal_DownWgradRefIdeal (hDownWgradIdeal := hDownWgradIdeal) (hDownWgradRefIdeal := hDownWgradRefIdeal)
    ∧ preserves_UpWgrad_UpWgradIdeal
    ∧ algebraic_UpWgradIdeal_UpWgradRefIdeal (hUpWgradIdeal := hUpWgradIdeal) (hUpWgradRefIdeal := hUpWgradRefIdeal)
    ∧ preserves_UpDgrad_UpDgradIdeal
    ∧ algebraic_UpDgradIdeal_UpDgradRefIdeal (hUpDgradIdeal := hUpDgradIdeal) (hUpDgradRefIdeal := hUpDgradRefIdeal)
    ∧ preserves_MixDgrad_MixDgradIdeal
    ∧ algebraic_MixDgradIdeal_MixDgradRefIdeal (hMixDgradIdeal := hMixDgradIdeal) (hMixDgradRefIdeal := hMixDgradRefIdeal)
    ∧ preserves_MixWgrad_MixWgradIdeal
    ∧ algebraic_MixWgradIdeal_MixWgradRefIdeal (hMixWgradIdeal := hMixWgradIdeal) (hMixWgradRefIdeal := hMixWgradRefIdeal)
    ∧ preserves_ProjDgrad_ProjDgradIdeal
    ∧ algebraic_ProjDgradIdeal_ProjDgradRefIdeal (hProjDgradIdeal := hProjDgradIdeal) (hProjDgradRefIdeal := hProjDgradRefIdeal)
    ∧ preserves_ProjWgrad_ProjWgradIdeal
    ∧ algebraic_ProjWgradIdeal_ProjWgradRefIdeal (hProjWgradIdeal := hProjWgradIdeal) (hProjWgradRefIdeal := hProjWgradRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjRest_ProjRestIdeal
    ∧ algebraic_ProjRestIdeal_ProjRestRefIdeal (hProjRestIdeal := hProjRestIdeal) (hProjRestRefIdeal := hProjRestRefIdeal)
    ∧ preserves_MixFwd_MixFwdIdeal
    ∧ algebraic_MixFwdIdeal_MixFwdRefIdeal (hMixFwdIdeal := hMixFwdIdeal) (hMixFwdRefIdeal := hMixFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_SgFwd_SgFwdIdeal
    ∧ algebraic_SgFwdIdeal_SgFwdRefIdeal (hSgFwdIdeal := hSgFwdIdeal) (hSgFwdRefIdeal := hSgFwdRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
-- ==== ConvBwd.lean ====
abbrev S2048x1280 : Shape := ⟨2, ![2048, 1280]⟩
abbrev S2048x1024 : Shape := ⟨2, ![2048, 1024]⟩
abbrev S3x256 : Shape := ⟨2, ![3, 256]⟩
abbrev S1x256 : Shape := ⟨2, ![1, 256]⟩
abbrev S_ : Shape := ⟨0, ![]⟩
abbrev S8x256 : Shape := ⟨2, ![8, 256]⟩
abbrev S2048x256 : Shape := ⟨2, ![2048, 256]⟩
abbrev S2048x128 : Shape := ⟨2, ![2048, 128]⟩
abbrev S8x128 : Shape := ⟨2, ![8, 128]⟩
abbrev S1x128 : Shape := ⟨2, ![1, 128]⟩
abbrev S128 : Shape := ⟨1, ![128]⟩
abbrev S5x128 : Shape := ⟨2, ![5, 128]⟩

abbrev nBuf : Space → Nat
  | .hbm => 12
  | .vmem => 22
  | .smem => 0
  | _ => 0

abbrev bufTy : (tb : Table) → Fin (tcTables nBuf tb) → BufTy
  | .hbm, ⟨0, _⟩ => ⟨S2048x1280, .f32⟩
  | .hbm, ⟨1, _⟩ => ⟨S2048x1024, .f32⟩
  | .hbm, ⟨2, _⟩ => ⟨S3x256, .f32⟩
  | .hbm, ⟨3, _⟩ => ⟨S1x256, .f32⟩
  | .hbm, ⟨4, _⟩ => ⟨S_, .i32⟩
  | .hbm, ⟨5, _⟩ => ⟨S_, .f32⟩
  | .hbm, ⟨6, _⟩ => ⟨S8x256, .f32⟩
  | .hbm, ⟨7, _⟩ => ⟨S2048x256, .bf16⟩
  | .hbm, ⟨8, _⟩ => ⟨S2048x256, .bf16⟩
  | .hbm, ⟨9, _⟩ => ⟨S2048x256, .bf16⟩
  | .hbm, ⟨10, _⟩ => ⟨S8x256, .f32⟩
  | .hbm, ⟨11, _⟩ => ⟨S1x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S8x128, .f32⟩
  | .local _ .vmem, ⟨9, _⟩ => ⟨S8x128, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S8x128, .f32⟩
  | .local _ .vmem, ⟨19, _⟩ => ⟨S8x128, .f32⟩
  | .local _ .vmem, ⟨20, _⟩ => ⟨S1x128, .f32⟩
  | .local _ .vmem, ⟨21, _⟩ => ⟨S1x128, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConvRefIdeal.lean ====
abbrev S2048x1280 : Shape := ⟨2, ![2048, 1280]⟩
abbrev S2048x1024 : Shape := ⟨2, ![2048, 1024]⟩
abbrev S3x256 : Shape := ⟨2, ![3, 256]⟩
abbrev S1x256 : Shape := ⟨2, ![1, 256]⟩
abbrev S2048x256 : Shape := ⟨2, ![2048, 256]⟩
abbrev S_ : Shape := ⟨0, ![]⟩
abbrev S2x256 : Shape := ⟨2, ![2, 256]⟩
abbrev S2050x256 : Shape := ⟨2, ![2050, 256]⟩
abbrev S256 : Shape := ⟨1, ![256]⟩
abbrev S8x256 : Shape := ⟨2, ![8, 256]⟩

abbrev nBuf : Space → Nat
  | .hbm => 98
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S2048x1024, .f32⟩
  | .hbm, ⟨2, _⟩ => ⟨S3x256, .f32⟩
  | .hbm, ⟨3, _⟩ => ⟨S1x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S_, .f32⟩
  | .hbm, ⟨8, _⟩ => ⟨S2x256, .f32⟩
  | .hbm, ⟨9, _⟩ => ⟨S2048x256, .f32⟩
  | .hbm, ⟨10, _⟩ => ⟨S2050x256, .f32⟩
  | .hbm, ⟨11, _⟩ => ⟨S_, .f32⟩
  | .hbm, ⟨12, _⟩ => ⟨S2x256, .f32⟩
  | .hbm, ⟨13, _⟩ => ⟨S2048x256, .f32⟩
  | .hbm, ⟨14, _⟩ => ⟨S1x256, .f32⟩
  | .hbm, ⟨15, _⟩ => ⟨S256, .f32⟩
  | .hbm, ⟨16, _⟩ => ⟨S1x256, .f32⟩
  | .hbm, ⟨17, _⟩ => ⟨S2048x256, .f32⟩
  | .hbm, ⟨18, _⟩ => ⟨S2048x256, .f32⟩
  | .hbm, ⟨19, _⟩ => ⟨S_, .f32⟩
  | .hbm, ⟨20, _⟩ => ⟨S2048x256, .f32⟩
  | .hbm, ⟨21, _⟩ => ⟨S2048x256, .f32⟩
  | .hbm, ⟨22, _⟩ => ⟨S2048x256, .f32⟩
  | .hbm, ⟨23, _⟩ => ⟨S1x256, .f32⟩
  | .hbm, ⟨24, _⟩ => ⟨S256, .f32⟩
  | .hbm, ⟨25, _⟩ => ⟨S1x256, .f32⟩
  | .hbm, ⟨26, _⟩ => ⟨S2048x256, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S1x256, .f32⟩
  | .hbm, ⟨31, _⟩ => ⟨S256, .f32⟩
  | .hbm, ⟨32, _⟩ => ⟨S1x256, .f32⟩
  | .hbm, ⟨33, _⟩ => ⟨S2048x256, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S_, .f32⟩
  | .hbm, ⟨43, _⟩ => ⟨S256, .f32⟩
  | .hbm, ⟨44, _⟩ => ⟨S1x256, .f32⟩
  | .hbm, ⟨45, _⟩ => ⟨S2048x256, .f32⟩
  | .hbm, ⟨46, _⟩ => ⟨S_, .f32⟩
  | .hbm, ⟨47, _⟩ => ⟨S256, .f32⟩
  | .hbm, ⟨48, _⟩ => ⟨S1x256, .f32⟩
  | .hbm, ⟨49, _⟩ => ⟨S2048x256, .f32⟩
  | .hbm, ⟨50, _⟩ => ⟨S2048x256, .f32⟩
  | .hbm, ⟨51, _⟩ => ⟨S_, .f32⟩
  | .hbm, ⟨52, _⟩ => ⟨S256, .f32⟩
  | .hbm, ⟨53, _⟩ => ⟨S1x256, .f32⟩
  | .hbm, ⟨54, _⟩ => ⟨S_, .f32⟩
  | .hbm, ⟨55, _⟩ => ⟨S3x256, .f32⟩
  | .hbm, ⟨56, _⟩ => ⟨S_, .f32⟩
  | .hbm, ⟨57, _⟩ => ⟨S2050x256, .f32⟩
  | .hbm, ⟨58, _⟩ => ⟨S2048x256, .f32⟩
  | .hbm, ⟨59, _⟩ => ⟨S_, .f32⟩
  | .hbm, ⟨60, _⟩ => ⟨S256, .f32⟩
  | .hbm, ⟨61, _⟩ => ⟨S1x256, .f32⟩
  | .hbm, ⟨62, _⟩ => ⟨S2048x256, .f32⟩
  | .hbm, ⟨63, _⟩ => ⟨S2048x256, .f32⟩
  | .hbm, ⟨64, _⟩ => ⟨S_, .f32⟩
  | .hbm, ⟨65, _⟩ => ⟨S256, .f32⟩
  | .hbm, ⟨66, _⟩ => ⟨S1x256, .f32⟩
  | .hbm, ⟨67, _⟩ => ⟨S_, .f32⟩
  | .hbm, ⟨68, _⟩ => ⟨S3x256, .f32⟩
  | .hbm, ⟨69, _⟩ => ⟨S3x256, .f32⟩
  | .hbm, ⟨70, _⟩ => ⟨S_, .f32⟩
  | .hbm, ⟨71, _⟩ => ⟨S2050x256, .f32⟩
  | .hbm, ⟨72, _⟩ => ⟨S2050x256, .f32⟩
  | .hbm, ⟨73, _⟩ => ⟨S2048x256, .f32⟩
  | .hbm, ⟨74, _⟩ => ⟨S_, .f32⟩
  | .hbm, ⟨75, _⟩ => ⟨S256, .f32⟩
  | .hbm, ⟨76, _⟩ => ⟨S1x256, .f32⟩
  | .hbm, ⟨77, _⟩ => ⟨S2048x256, .f32⟩
  | .hbm, ⟨78, _⟩ => ⟨S2048x256, .f32⟩
  | .hbm, ⟨79, _⟩ => ⟨S_, .f32⟩
  | .hbm, ⟨80, _⟩ => ⟨S256, .f32⟩
  | .hbm, ⟨81, _⟩ => ⟨S1x256, .f32⟩
  | .hbm, ⟨82, _⟩ => ⟨S_, .f32⟩
  | .hbm, ⟨83, _⟩ => ⟨S3x256, .f32⟩
  | .hbm, ⟨84, _⟩ => ⟨S3x256, .f32⟩
  | .hbm, ⟨85, _⟩ => ⟨S_, .f32⟩
  | .hbm, ⟨86, _⟩ => ⟨S2050x256, .f32⟩
  | .hbm, ⟨87, _⟩ => ⟨S2050x256, .f32⟩
  | .hbm, ⟨88, _⟩ => ⟨S2x256, .f32⟩
  | .hbm, ⟨89, _⟩ => ⟨S2048x256, .f32⟩
  | .hbm, ⟨90, _⟩ => ⟨S2048x256, .f32⟩
  | .hbm, ⟨91, _⟩ => ⟨S2048x256, .f32⟩
  | .hbm, ⟨92, _⟩ => ⟨S2048x256, .bf16⟩
  | .hbm, ⟨93, _⟩ => ⟨S2048x256, .bf16⟩
  | .hbm, ⟨94, _⟩ => ⟨S2048x256, .bf16⟩
  | .hbm, ⟨95, _⟩ => ⟨S_, .i32⟩
  | .hbm, ⟨96, _⟩ => ⟨S_, .f32⟩
  | .hbm, ⟨97, _⟩ => ⟨S8x256, .f32⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c : Ref sig .tc := ⟨.hbm, 95, rfl⟩
abbrev main_call0_v0 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== AttnBwd.lean ====
abbrev S2048x1536 : Shape := ⟨2, ![2048, 1536]⟩
abbrev S2048x1024 : Shape := ⟨2, ![2048, 1024]⟩
abbrev S8x2048x128 : Shape := ⟨3, ![8, 2048, 128]⟩
abbrev S2048x512 : Shape := ⟨2, ![2048, 512]⟩
abbrev S512x128 : Shape := ⟨2, ![512, 128]⟩
abbrev S2048x128 : Shape := ⟨2, ![2048, 128]⟩
abbrev S2x512x128 : Shape := ⟨3, ![2, 512, 128]⟩
abbrev S8x128x128 : Shape := ⟨3, ![8, 128, 128]⟩
abbrev S128x128 : Shape := ⟨2, ![128, 128]⟩
abbrev S256x256 : Shape := ⟨2, ![256, 256]⟩
abbrev S1x128x128 : Shape := ⟨3, ![1, 128, 128]⟩
abbrev S1x512x128 : Shape := ⟨3, ![1, 512, 128]⟩
abbrev S128x256 : Shape := ⟨2, ![128, 256]⟩
abbrev S2x128x128 : Shape := ⟨3, ![2, 128, 128]⟩

abbrev nBuf : Space → Nat
  | .hbm => 6
  | .vmem => 27
  | .smem => 0
  | _ => 0

abbrev bufTy : (tb : Table) → Fin (tcTables nBuf tb) → BufTy
  | .hbm, ⟨0, _⟩ => ⟨S2048x1536, .bf16⟩
  | .hbm, ⟨1, _⟩ => ⟨S2048x1024, .f32⟩
  | .hbm, ⟨2, _⟩ => ⟨S8x2048x128, .f32⟩
  | .hbm, ⟨3, _⟩ => ⟨S2048x512, .bf16⟩
  | .hbm, ⟨4, _⟩ => ⟨S2048x512, .bf16⟩
  | .hbm, ⟨5, _⟩ => ⟨S2048x512, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S2x512x128, .f32⟩
  | .local _ .vmem, ⟨9, _⟩ => ⟨S2x512x128, .f32⟩
  | .local _ .vmem, ⟨10, _⟩ => ⟨S512x128, .bf16⟩
  | .local _ .vmem, ⟨11, _⟩ => ⟨S512x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S8x128x128, .f32⟩
  | .local _ .vmem, ⟨17, _⟩ => ⟨S8x128x128, .f32⟩
  | .local _ .vmem, ⟨18, _⟩ => ⟨S8x128x128, .f32⟩
  | .local _ .vmem, ⟨19, _⟩ => ⟨S8x128x128, .f32⟩
  | .local _ .vmem, ⟨20, _⟩ => ⟨S8x128x128, .f32⟩
  | .local _ .vmem, ⟨21, _⟩ => ⟨S8x128x128, .f32⟩
  | .local _ .vmem, ⟨22, _⟩ => ⟨S2x512x128, .bf16⟩
  | .local _ .vmem, ⟨23, _⟩ => ⟨S2x512x128, .bf16⟩
  | .local _ .vmem, ⟨24, _⟩ => ⟨S512x128, .f32⟩
  | .local _ .vmem, ⟨25, _⟩ => ⟨S2048x128, .f32⟩
  | .local _ .vmem, ⟨26, _⟩ => ⟨S2048x128, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_mult1 : BitVec 32 :=
  let c0_i32_43 : BitVec 32 := 0#32
  c0_i32_43
def k0_mult2 : BitVec 32 :=
  let c0_i32_45 : BitVec 32 := 0#32
  c0_i32_45
@[reducible] def k0_t1_loop (i : grid0.Coords) : Scf.Loop 32 :=
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let c1_i32_117 : BitVec 32 := 1#32
  ⟨c0_i32_115, v211, c1_i32_117⟩
def k0_mult3 (i : grid0.Coords) (k0_t1 : Fin (k0_t1_loop i).trips) : BitVec 32 :=
  let c2_i32_1386 : BitVec 32 := 2#32
  let c0_i32_114 : BitVec 32 := 0#32
  let c0_i32_115 : BitVec 32 := 0#32
  let c1_i32_117 : BitVec 32 := 1#32
  let arg21 : BitVec 32 := Scf.iv c0_i32_115 c1_i32_117 k0_t1
  let c1_i32_113 : BitVec 32 := 1#32
  let v2247 : BitVec 32 := Scalar.muli arg21 c1_i32_113
  let v2248 : BitVec 32 := Scalar.addi c0_i32_114 v2247
  let v2249 : BitVec 32 := Scalar.muli c2_i32_1386 v2248
  let c1_i32_1387 : BitVec 32 := 1#32
  let v2250 : BitVec 32 := Scalar.subi v2249 c1_i32_1387
  let c0_i32_1388 : BitVec 32 := 0#32
  let v2251 : BitVec 32 := Scalar.maxsi v2250 c0_i32_1388
  let c128_i32_1389 : BitVec 32 := 128#32
  let v2252 : BitVec 32 := Scalar.muli v2251 c128_i32_1389
  v2252
def k0_off1 (i : grid0.Coords) (k0_t1 : Fin (k0_t1_loop i).trips) : Fin 2 → Nat :=
  let c2_i32_1386 : BitVec 32 := 2#32
  let c0_i32_114 : BitVec 32 := 0#32
  let c0_i32_115 : BitVec 32 := 0#32
  let c1_i32_117 : BitVec 32 := 1#32
  let arg21 : BitVec 32 := Scf.iv c0_i32_115 c1_i32_117 k0_t1
  let c1_i32_113 : BitVec 32 := 1#32
  let v2247 : BitVec 32 := Scalar.muli arg21 c1_i32_113
  let v2248 : BitVec 32 := Scalar.addi c0_i32_114 v2247
  let v2249 : BitVec 32 := Scalar.muli c2_i32_1386 v2248
  let c1_i32_1387 : BitVec 32 := 1#32
  let v2250 : BitVec 32 := Scalar.subi v2249 c1_i32_1387
  let c0_i32_1388 : BitVec 32 := 0#32
  let v2251 : BitVec 32 := Scalar.maxsi v2250 c0_i32_1388
  let c128_i32_1389 : BitVec 32 := 128#32
  let v2252 : BitVec 32 := Scalar.muli v2251 c128_i32_1389
  let v2253 : BitVec 32 := v2252
  let v2254 : Index := Scalar.indexCast v2253
  let c0_1390 : Index := 0#32
  ![v2254.toNat, 0]
def k0_mult4 (i : grid0.Coords) (k0_t1 : Fin (k0_t1_loop i).trips) : BitVec 32 :=
  let c2_i32_1386 : BitVec 32 := 2#32
  let c0_i32_114 : BitVec 32 := 0#32
  let c0_i32_115 : BitVec 32 := 0#32
  let c1_i32_117 : BitVec 32 := 1#32
  let arg21 : BitVec 32 := Scf.iv c0_i32_115 c1_i32_117 k0_t1
  let c1_i32_113 : BitVec 32 := 1#32
  let v2247 : BitVec 32 := Scalar.muli arg21 c1_i32_113
  let v2248 : BitVec 32 := Scalar.addi c0_i32_114 v2247
  let v2249 : BitVec 32 := Scalar.muli c2_i32_1386 v2248
  let c1_i32_1387 : BitVec 32 := 1#32
  let v2250 : BitVec 32 := Scalar.subi v2249 c1_i32_1387
  let c0_i32_1388 : BitVec 32 := 0#32
  let v2251 : BitVec 32 := Scalar.maxsi v2250 c0_i32_1388
  let c128_i32_1443 : BitVec 32 := 128#32
  let v2316 : BitVec 32 := Scalar.muli v2251 c128_i32_1443
  v2316
def k0_mult5 (i : grid0.Coords) (k0_t1 : Fin (k0_t1_loop i).trips) : BitVec 32 :=
  let c2_i32_1386 : BitVec 32 := 2#32
  let c0_i32_114 : BitVec 32 := 0#32
  let c0_i32_115 : BitVec 32 := 0#32
  let c1_i32_117 : BitVec 32 := 1#32
  let arg21 : BitVec 32 := Scf.iv c0_i32_115 c1_i32_117 k0_t1
  let c1_i32_113 : BitVec 32 := 1#32
  let v2247 : BitVec 32 := Scalar.muli arg21 c1_i32_113
  let v2248 : BitVec 32 := Scalar.addi c0_i32_114 v2247
  let v2249 : BitVec 32 := Scalar.muli c2_i32_1386 v2248
  let c1_i32_1387 : BitVec 32 := 1#32
  let v2250 : BitVec 32 := Scalar.subi v2249 c1_i32_1387
  let c0_i32_1388 : BitVec 32 := 0#32
  let v2251 : BitVec 32 := Scalar.maxsi v2250 c0_i32_1388
  let c128_i32_1455 : BitVec 32 := 128#32
  let v2335 : BitVec 32 := Scalar.muli v2251 c128_i32_1455
  v2335
def k0_mult6 (i : grid0.Coords) (k0_t1 : Fin (k0_t1_loop i).trips) : BitVec 32 :=
  let c2_i32_1386 : BitVec 32 := 2#32
  let c0_i32_114 : BitVec 32 := 0#32
  let c0_i32_115 : BitVec 32 := 0#32
  let c1_i32_117 : BitVec 32 := 1#32
  let arg21 : BitVec 32 := Scf.iv c0_i32_115 c1_i32_117 k0_t1
  let c1_i32_113 : BitVec 32 := 1#32
  let v2247 : BitVec 32 := Scalar.muli arg21 c1_i32_113
  let v2248 : BitVec 32 := Scalar.addi c0_i32_114 v2247
  let v2249 : BitVec 32 := Scalar.muli c2_i32_1386 v2248
  let c1_i32_1467 : BitVec 32 := 1#32
  let v2354 : BitVec 32 := Scalar.addi v2249 c1_i32_1467
  let c128_i32_1468 : BitVec 32 := 128#32
  let v2355 : BitVec 32 := Scalar.muli v2354 c128_i32_1468
  v2355
def k0_off2 (i : grid0.Coords) (k0_t1 : Fin (k0_t1_loop i).trips) : Fin 2 → Nat :=
  let c2_i32_1386 : BitVec 32 := 2#32
  let c0_i32_114 : BitVec 32 := 0#32
  let c0_i32_115 : BitVec 32 := 0#32
  let c1_i32_117 : BitVec 32 := 1#32
  let arg21 : BitVec 32 := Scf.iv c0_i32_115 c1_i32_117 k0_t1
  let c1_i32_113 : BitVec 32 := 1#32
  let v2247 : BitVec 32 := Scalar.muli arg21 c1_i32_113
  let v2248 : BitVec 32 := Scalar.addi c0_i32_114 v2247
  let v2249 : BitVec 32 := Scalar.muli c2_i32_1386 v2248
  let c1_i32_1467 : BitVec 32 := 1#32
  let v2354 : BitVec 32 := Scalar.addi v2249 c1_i32_1467
  let c128_i32_1468 : BitVec 32 := 128#32
  let v2355 : BitVec 32 := Scalar.muli v2354 c128_i32_1468
  let v2356 : BitVec 32 := v2355
  let v2357 : Index := Scalar.indexCast v2356
  let c0_1469 : Index := 0#32
  ![v2357.toNat, 0]
def k0_mult7 (i : grid0.Coords) (k0_t1 : Fin (k0_t1_loop i).trips) : BitVec 32 :=
  let c2_i32_1386 : BitVec 32 := 2#32
  let c0_i32_114 : BitVec 32 := 0#32
  let c0_i32_115 : BitVec 32 := 0#32
  let c1_i32_117 : BitVec 32 := 1#32
  let arg21 : BitVec 32 := Scf.iv c0_i32_115 c1_i32_117 k0_t1
  let c1_i32_113 : BitVec 32 := 1#32
  let v2247 : BitVec 32 := Scalar.muli arg21 c1_i32_113
  let v2248 : BitVec 32 := Scalar.addi c0_i32_114 v2247
  let v2249 : BitVec 32 := Scalar.muli c2_i32_1386 v2248
  let c1_i32_1467 : BitVec 32 := 1#32
  let v2354 : BitVec 32 := Scalar.addi v2249 c1_i32_1467
  let c128_i32_1470 : BitVec 32 := 128#32
  let v2359 : BitVec 32 := Scalar.muli v2354 c128_i32_1470
  v2359
def k0_mult8 (i : grid0.Coords) (k0_t1 : Fin (k0_t1_loop i).trips) : BitVec 32 :=
  let c2_i32_1848 : BitVec 32 := 2#32
  let c0_i32_114 : BitVec 32 := 0#32
  let c0_i32_115 : BitVec 32 := 0#32
  let c1_i32_117 : BitVec 32 := 1#32
  let arg21 : BitVec 32 := Scf.iv c0_i32_115 c1_i32_117 k0_t1
  let c1_i32_113 : BitVec 32 := 1#32
  let v2247 : BitVec 32 := Scalar.muli arg21 c1_i32_113
  let v2248 : BitVec 32 := Scalar.addi c0_i32_114 v2247
  let v2987 : BitVec 32 := Scalar.muli c2_i32_1848 v2248
  let c1_i32_1849 : BitVec 32 := 1#32
  let v2988 : BitVec 32 := Scalar.addi v2987 c1_i32_1849
  let c1_i32_1850 : BitVec 32 := 1#32
  let v2989 : BitVec 32 := Scalar.subi v2988 c1_i32_1850
  let c0_i32_1851 : BitVec 32 := 0#32
  let v2990 : BitVec 32 := Scalar.maxsi v2989 c0_i32_1851
  let c128_i32_1852 : BitVec 32 := 128#32
  let v2991 : BitVec 32 := Scalar.muli v2990 c128_i32_1852
  v2991
def k0_off3 (i : grid0.Coords) (k0_t1 : Fin (k0_t1_loop i).trips) : Fin 2 → Nat :=
  let c2_i32_1848 : BitVec 32 := 2#32
  let c0_i32_114 : BitVec 32 := 0#32
  let c0_i32_115 : BitVec 32 := 0#32
  let c1_i32_117 : BitVec 32 := 1#32
  let arg21 : BitVec 32 := Scf.iv c0_i32_115 c1_i32_117 k0_t1
  let c1_i32_113 : BitVec 32 := 1#32
  let v2247 : BitVec 32 := Scalar.muli arg21 c1_i32_113
  let v2248 : BitVec 32 := Scalar.addi c0_i32_114 v2247
  let v2987 : BitVec 32 := Scalar.muli c2_i32_1848 v2248
  let c1_i32_1849 : BitVec 32 := 1#32
  let v2988 : BitVec 32 := Scalar.addi v2987 c1_i32_1849
  let c1_i32_1850 : BitVec 32 := 1#32
  let v2989 : BitVec 32 := Scalar.subi v2988 c1_i32_1850
  let c0_i32_1851 : BitVec 32 := 0#32
  let v2990 : BitVec 32 := Scalar.maxsi v2989 c0_i32_1851
  let c128_i32_1852 : BitVec 32 := 128#32
  let v2991 : BitVec 32 := Scalar.muli v2990 c128_i32_1852
  let v2992 : BitVec 32 := v2991
  let v2993 : Index := Scalar.indexCast v2992
  let c0_1853 : Index := 0#32
  ![v2993.toNat, 0]
def k0_mult9 (i : grid0.Coords) (k0_t1 : Fin (k0_t1_loop i).trips) : BitVec 32 :=
  let c2_i32_1848 : BitVec 32 := 2#32
  let c0_i32_114 : BitVec 32 := 0#32
  let c0_i32_115 : BitVec 32 := 0#32
  let c1_i32_117 : BitVec 32 := 1#32
  let arg21 : BitVec 32 := Scf.iv c0_i32_115 c1_i32_117 k0_t1
  let c1_i32_113 : BitVec 32 := 1#32
  let v2247 : BitVec 32 := Scalar.muli arg21 c1_i32_113
  let v2248 : BitVec 32 := Scalar.addi c0_i32_114 v2247
  let v2987 : BitVec 32 := Scalar.muli c2_i32_1848 v2248
  let c1_i32_1849 : BitVec 32 := 1#32
  let v2988 : BitVec 32 := Scalar.addi v2987 c1_i32_1849
  let c1_i32_1850 : BitVec 32 := 1#32
  let v2989 : BitVec 32 := Scalar.subi v2988 c1_i32_1850
  let c0_i32_1851 : BitVec 32 := 0#32
  let v2990 : BitVec 32 := Scalar.maxsi v2989 c0_i32_1851
  let c128_i32_1906 : BitVec 32 := 128#32
  let v3055 : BitVec 32 := Scalar.muli v2990 c128_i32_1906
  v3055
def k0_mult10 (i : grid0.Coords) (k0_t1 : Fin (k0_t1_loop i).trips) : BitVec 32 :=
  let c2_i32_1848 : BitVec 32 := 2#32
  let c0_i32_114 : BitVec 32 := 0#32
  let c0_i32_115 : BitVec 32 := 0#32
  let c1_i32_117 : BitVec 32 := 1#32
  let arg21 : BitVec 32 := Scf.iv c0_i32_115 c1_i32_117 k0_t1
  let c1_i32_113 : BitVec 32 := 1#32
  let v2247 : BitVec 32 := Scalar.muli arg21 c1_i32_113
  let v2248 : BitVec 32 := Scalar.addi c0_i32_114 v2247
  let v2987 : BitVec 32 := Scalar.muli c2_i32_1848 v2248
  let c1_i32_1849 : BitVec 32 := 1#32
  let v2988 : BitVec 32 := Scalar.addi v2987 c1_i32_1849
  let c1_i32_1850 : BitVec 32 := 1#32
  let v2989 : BitVec 32 := Scalar.subi v2988 c1_i32_1850
  let c0_i32_1851 : BitVec 32 := 0#32
  let v2990 : BitVec 32 := Scalar.maxsi v2989 c0_i32_1851
  let c128_i32_1918 : BitVec 32 := 128#32
  let v3074 : BitVec 32 := Scalar.muli v2990 c128_i32_1918
  v3074
def k0_mult11 (i : grid0.Coords) (k0_t1 : Fin (k0_t1_loop i).trips) : BitVec 32 :=
  let c2_i32_1848 : BitVec 32 := 2#32
  let c0_i32_114 : BitVec 32 := 0#32
  let c0_i32_115 : BitVec 32 := 0#32
  let c1_i32_117 : BitVec 32 := 1#32
  let arg21 : BitVec 32 := Scf.iv c0_i32_115 c1_i32_117 k0_t1
  let c1_i32_113 : BitVec 32 := 1#32
  let v2247 : BitVec 32 := Scalar.muli arg21 c1_i32_113
  let v2248 : BitVec 32 := Scalar.addi c0_i32_114 v2247
  let v2987 : BitVec 32 := Scalar.muli c2_i32_1848 v2248
  let c1_i32_1849 : BitVec 32 := 1#32
  let v2988 : BitVec 32 := Scalar.addi v2987 c1_i32_1849
  let c1_i32_1930 : BitVec 32 := 1#32
  let v3093 : BitVec 32 := Scalar.addi v2988 c1_i32_1930
  let c128_i32_1931 : BitVec 32 := 128#32
  let v3094 : BitVec 32 := Scalar.muli v3093 c128_i32_1931
  v3094
def k0_off4 (i : grid0.Coords) (k0_t1 : Fin (k0_t1_loop i).trips) : Fin 2 → Nat :=
  let c2_i32_1848 : BitVec 32 := 2#32
  let c0_i32_114 : BitVec 32 := 0#32
  let c0_i32_115 : BitVec 32 := 0#32
  let c1_i32_117 : BitVec 32 := 1#32
  let arg21 : BitVec 32 := Scf.iv c0_i32_115 c1_i32_117 k0_t1
  let c1_i32_113 : BitVec 32 := 1#32
  let v2247 : BitVec 32 := Scalar.muli arg21 c1_i32_113
  let v2248 : BitVec 32 := Scalar.addi c0_i32_114 v2247
  let v2987 : BitVec 32 := Scalar.muli c2_i32_1848 v2248
  let c1_i32_1849 : BitVec 32 := 1#32
  let v2988 : BitVec 32 := Scalar.addi v2987 c1_i32_1849
  let c1_i32_1930 : BitVec 32 := 1#32
  let v3093 : BitVec 32 := Scalar.addi v2988 c1_i32_1930
  let c128_i32_1931 : BitVec 32 := 128#32
  let v3094 : BitVec 32 := Scalar.muli v3093 c128_i32_1931
  let v3095 : BitVec 32 := v3094
  let v3096 : Index := Scalar.indexCast v3095
  let c0_1932 : Index := 0#32
  ![v3096.toNat, 0]
def k0_mult12 (i : grid0.Coords) (k0_t1 : Fin (k0_t1_loop i).trips) : BitVec 32 :=
  let c2_i32_1848 : BitVec 32 := 2#32
  let c0_i32_114 : BitVec 32 := 0#32
  let c0_i32_115 : BitVec 32 := 0#32
  let c1_i32_117 : BitVec 32 := 1#32
  let arg21 : BitVec 32 := Scf.iv c0_i32_115 c1_i32_117 k0_t1
  let c1_i32_113 : BitVec 32 := 1#32
  let v2247 : BitVec 32 := Scalar.muli arg21 c1_i32_113
  let v2248 : BitVec 32 := Scalar.addi c0_i32_114 v2247
  let v2987 : BitVec 32 := Scalar.muli c2_i32_1848 v2248
  let c1_i32_1849 : BitVec 32 := 1#32
  let v2988 : BitVec 32 := Scalar.addi v2987 c1_i32_1849
  let c1_i32_1930 : BitVec 32 := 1#32
  let v3093 : BitVec 32 := Scalar.addi v2988 c1_i32_1930
  let c128_i32_1933 : BitVec 32 := 128#32
  let v3098 : BitVec 32 := Scalar.muli v3093 c128_i32_1933
  v3098
@[reducible] def k0_t2_loop (i : grid0.Coords) : Scf.Loop 32 :=
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let v208 : BitVec 32 := Scalar.addi c0_i32_115 v207
  let c1_i32_118 : BitVec 32 := 1#32
  ⟨v211, v208, c1_i32_118⟩
def k0_mult13 (i : grid0.Coords) (k0_t2 : Fin (k0_t2_loop i).trips) : BitVec 32 :=
  let c2_i32_1386 : BitVec 32 := 2#32
  let c0_i32_114 : BitVec 32 := 0#32
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let c1_i32_118 : BitVec 32 := 1#32
  let arg21 : BitVec 32 := Scf.iv v211 c1_i32_118 k0_t2
  let c1_i32_113 : BitVec 32 := 1#32
  let v2247 : BitVec 32 := Scalar.muli arg21 c1_i32_113
  let v2248 : BitVec 32 := Scalar.addi c0_i32_114 v2247
  let v2249 : BitVec 32 := Scalar.muli c2_i32_1386 v2248
  let c1_i32_1387 : BitVec 32 := 1#32
  let v2250 : BitVec 32 := Scalar.subi v2249 c1_i32_1387
  let c0_i32_1388 : BitVec 32 := 0#32
  let v2251 : BitVec 32 := Scalar.maxsi v2250 c0_i32_1388
  let c128_i32_1389 : BitVec 32 := 128#32
  let v2252 : BitVec 32 := Scalar.muli v2251 c128_i32_1389
  v2252
def k0_off5 (i : grid0.Coords) (k0_t2 : Fin (k0_t2_loop i).trips) : Fin 2 → Nat :=
  let c2_i32_1386 : BitVec 32 := 2#32
  let c0_i32_114 : BitVec 32 := 0#32
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let c1_i32_118 : BitVec 32 := 1#32
  let arg21 : BitVec 32 := Scf.iv v211 c1_i32_118 k0_t2
  let c1_i32_113 : BitVec 32 := 1#32
  let v2247 : BitVec 32 := Scalar.muli arg21 c1_i32_113
  let v2248 : BitVec 32 := Scalar.addi c0_i32_114 v2247
  let v2249 : BitVec 32 := Scalar.muli c2_i32_1386 v2248
  let c1_i32_1387 : BitVec 32 := 1#32
  let v2250 : BitVec 32 := Scalar.subi v2249 c1_i32_1387
  let c0_i32_1388 : BitVec 32 := 0#32
  let v2251 : BitVec 32 := Scalar.maxsi v2250 c0_i32_1388
  let c128_i32_1389 : BitVec 32 := 128#32
  let v2252 : BitVec 32 := Scalar.muli v2251 c128_i32_1389
  let v2253 : BitVec 32 := v2252
  let v2254 : Index := Scalar.indexCast v2253
  let c0_1390 : Index := 0#32
  ![v2254.toNat, 0]
def k0_mult14 (i : grid0.Coords) (k0_t2 : Fin (k0_t2_loop i).trips) : BitVec 32 :=
  let c2_i32_1386 : BitVec 32 := 2#32
  let c0_i32_114 : BitVec 32 := 0#32
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let c1_i32_118 : BitVec 32 := 1#32
  let arg21 : BitVec 32 := Scf.iv v211 c1_i32_118 k0_t2
  let c1_i32_113 : BitVec 32 := 1#32
  let v2247 : BitVec 32 := Scalar.muli arg21 c1_i32_113
  let v2248 : BitVec 32 := Scalar.addi c0_i32_114 v2247
  let v2249 : BitVec 32 := Scalar.muli c2_i32_1386 v2248
  let c1_i32_1387 : BitVec 32 := 1#32
  let v2250 : BitVec 32 := Scalar.subi v2249 c1_i32_1387
  let c0_i32_1388 : BitVec 32 := 0#32
  let v2251 : BitVec 32 := Scalar.maxsi v2250 c0_i32_1388
  let c128_i32_1443 : BitVec 32 := 128#32
  let v2316 : BitVec 32 := Scalar.muli v2251 c128_i32_1443
  v2316
def k0_mult15 (i : grid0.Coords) (k0_t2 : Fin (k0_t2_loop i).trips) : BitVec 32 :=
  let c2_i32_1386 : BitVec 32 := 2#32
  let c0_i32_114 : BitVec 32 := 0#32
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let c1_i32_118 : BitVec 32 := 1#32
  let arg21 : BitVec 32 := Scf.iv v211 c1_i32_118 k0_t2
  let c1_i32_113 : BitVec 32 := 1#32
  let v2247 : BitVec 32 := Scalar.muli arg21 c1_i32_113
  let v2248 : BitVec 32 := Scalar.addi c0_i32_114 v2247
  let v2249 : BitVec 32 := Scalar.muli c2_i32_1386 v2248
  let c1_i32_1387 : BitVec 32 := 1#32
  let v2250 : BitVec 32 := Scalar.subi v2249 c1_i32_1387
  let c0_i32_1388 : BitVec 32 := 0#32
  let v2251 : BitVec 32 := Scalar.maxsi v2250 c0_i32_1388
  let c128_i32_1455 : BitVec 32 := 128#32
  let v2335 : BitVec 32 := Scalar.muli v2251 c128_i32_1455
  v2335
def k0_mult16 (i : grid0.Coords) (k0_t2 : Fin (k0_t2_loop i).trips) : BitVec 32 :=
  let c2_i32_1386 : BitVec 32 := 2#32
  let c0_i32_114 : BitVec 32 := 0#32
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let c1_i32_118 : BitVec 32 := 1#32
  let arg21 : BitVec 32 := Scf.iv v211 c1_i32_118 k0_t2
  let c1_i32_113 : BitVec 32 := 1#32
  let v2247 : BitVec 32 := Scalar.muli arg21 c1_i32_113
  let v2248 : BitVec 32 := Scalar.addi c0_i32_114 v2247
  let v2249 : BitVec 32 := Scalar.muli c2_i32_1386 v2248
  let c1_i32_1467 : BitVec 32 := 1#32
  let v2354 : BitVec 32 := Scalar.addi v2249 c1_i32_1467
  let c128_i32_1468 : BitVec 32 := 128#32
  let v2355 : BitVec 32 := Scalar.muli v2354 c128_i32_1468
  v2355
def k0_off6 (i : grid0.Coords) (k0_t2 : Fin (k0_t2_loop i).trips) : Fin 2 → Nat :=
  let c2_i32_1386 : BitVec 32 := 2#32
  let c0_i32_114 : BitVec 32 := 0#32
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let c1_i32_118 : BitVec 32 := 1#32
  let arg21 : BitVec 32 := Scf.iv v211 c1_i32_118 k0_t2
  let c1_i32_113 : BitVec 32 := 1#32
  let v2247 : BitVec 32 := Scalar.muli arg21 c1_i32_113
  let v2248 : BitVec 32 := Scalar.addi c0_i32_114 v2247
  let v2249 : BitVec 32 := Scalar.muli c2_i32_1386 v2248
  let c1_i32_1467 : BitVec 32 := 1#32
  let v2354 : BitVec 32 := Scalar.addi v2249 c1_i32_1467
  let c128_i32_1468 : BitVec 32 := 128#32
  let v2355 : BitVec 32 := Scalar.muli v2354 c128_i32_1468
  let v2356 : BitVec 32 := v2355
  let v2357 : Index := Scalar.indexCast v2356
  let c0_1469 : Index := 0#32
  ![v2357.toNat, 0]
def k0_mult17 (i : grid0.Coords) (k0_t2 : Fin (k0_t2_loop i).trips) : BitVec 32 :=
  let c2_i32_1386 : BitVec 32 := 2#32
  let c0_i32_114 : BitVec 32 := 0#32
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let c1_i32_118 : BitVec 32 := 1#32
  let arg21 : BitVec 32 := Scf.iv v211 c1_i32_118 k0_t2
  let c1_i32_113 : BitVec 32 := 1#32
  let v2247 : BitVec 32 := Scalar.muli arg21 c1_i32_113
  let v2248 : BitVec 32 := Scalar.addi c0_i32_114 v2247
  let v2249 : BitVec 32 := Scalar.muli c2_i32_1386 v2248
  let c1_i32_1467 : BitVec 32 := 1#32
  let v2354 : BitVec 32 := Scalar.addi v2249 c1_i32_1467
  let c128_i32_1470 : BitVec 32 := 128#32
  let v2359 : BitVec 32 := Scalar.muli v2354 c128_i32_1470
  v2359
def k0_mult18 (i : grid0.Coords) (k0_t2 : Fin (k0_t2_loop i).trips) : BitVec 32 :=
  let c2_i32_1848 : BitVec 32 := 2#32
  let c0_i32_114 : BitVec 32 := 0#32
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let c1_i32_118 : BitVec 32 := 1#32
  let arg21 : BitVec 32 := Scf.iv v211 c1_i32_118 k0_t2
  let c1_i32_113 : BitVec 32 := 1#32
  let v2247 : BitVec 32 := Scalar.muli arg21 c1_i32_113
  let v2248 : BitVec 32 := Scalar.addi c0_i32_114 v2247
  let v2987 : BitVec 32 := Scalar.muli c2_i32_1848 v2248
  let c1_i32_1849 : BitVec 32 := 1#32
  let v2988 : BitVec 32 := Scalar.addi v2987 c1_i32_1849
  let c1_i32_1850 : BitVec 32 := 1#32
  let v2989 : BitVec 32 := Scalar.subi v2988 c1_i32_1850
  let c0_i32_1851 : BitVec 32 := 0#32
  let v2990 : BitVec 32 := Scalar.maxsi v2989 c0_i32_1851
  let c128_i32_1852 : BitVec 32 := 128#32
  let v2991 : BitVec 32 := Scalar.muli v2990 c128_i32_1852
  v2991
def k0_off7 (i : grid0.Coords) (k0_t2 : Fin (k0_t2_loop i).trips) : Fin 2 → Nat :=
  let c2_i32_1848 : BitVec 32 := 2#32
  let c0_i32_114 : BitVec 32 := 0#32
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let c1_i32_118 : BitVec 32 := 1#32
  let arg21 : BitVec 32 := Scf.iv v211 c1_i32_118 k0_t2
  let c1_i32_113 : BitVec 32 := 1#32
  let v2247 : BitVec 32 := Scalar.muli arg21 c1_i32_113
  let v2248 : BitVec 32 := Scalar.addi c0_i32_114 v2247
  let v2987 : BitVec 32 := Scalar.muli c2_i32_1848 v2248
  let c1_i32_1849 : BitVec 32 := 1#32
  let v2988 : BitVec 32 := Scalar.addi v2987 c1_i32_1849
  let c1_i32_1850 : BitVec 32 := 1#32
  let v2989 : BitVec 32 := Scalar.subi v2988 c1_i32_1850
  let c0_i32_1851 : BitVec 32 := 0#32
  let v2990 : BitVec 32 := Scalar.maxsi v2989 c0_i32_1851
  let c128_i32_1852 : BitVec 32 := 128#32
  let v2991 : BitVec 32 := Scalar.muli v2990 c128_i32_1852
  let v2992 : BitVec 32 := v2991
  let v2993 : Index := Scalar.indexCast v2992
  let c0_1853 : Index := 0#32
  ![v2993.toNat, 0]
def k0_mult19 (i : grid0.Coords) (k0_t2 : Fin (k0_t2_loop i).trips) : BitVec 32 :=
  let c2_i32_1848 : BitVec 32 := 2#32
  let c0_i32_114 : BitVec 32 := 0#32
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let c1_i32_118 : BitVec 32 := 1#32
  let arg21 : BitVec 32 := Scf.iv v211 c1_i32_118 k0_t2
  let c1_i32_113 : BitVec 32 := 1#32
  let v2247 : BitVec 32 := Scalar.muli arg21 c1_i32_113
  let v2248 : BitVec 32 := Scalar.addi c0_i32_114 v2247
  let v2987 : BitVec 32 := Scalar.muli c2_i32_1848 v2248
  let c1_i32_1849 : BitVec 32 := 1#32
  let v2988 : BitVec 32 := Scalar.addi v2987 c1_i32_1849
  let c1_i32_1850 : BitVec 32 := 1#32
  let v2989 : BitVec 32 := Scalar.subi v2988 c1_i32_1850
  let c0_i32_1851 : BitVec 32 := 0#32
  let v2990 : BitVec 32 := Scalar.maxsi v2989 c0_i32_1851
  let c128_i32_1906 : BitVec 32 := 128#32
  let v3055 : BitVec 32 := Scalar.muli v2990 c128_i32_1906
  v3055
def k0_mult20 (i : grid0.Coords) (k0_t2 : Fin (k0_t2_loop i).trips) : BitVec 32 :=
  let c2_i32_1848 : BitVec 32 := 2#32
  let c0_i32_114 : BitVec 32 := 0#32
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let c1_i32_118 : BitVec 32 := 1#32
  let arg21 : BitVec 32 := Scf.iv v211 c1_i32_118 k0_t2
  let c1_i32_113 : BitVec 32 := 1#32
  let v2247 : BitVec 32 := Scalar.muli arg21 c1_i32_113
  let v2248 : BitVec 32 := Scalar.addi c0_i32_114 v2247
  let v2987 : BitVec 32 := Scalar.muli c2_i32_1848 v2248
  let c1_i32_1849 : BitVec 32 := 1#32
  let v2988 : BitVec 32 := Scalar.addi v2987 c1_i32_1849
  let c1_i32_1850 : BitVec 32 := 1#32
  let v2989 : BitVec 32 := Scalar.subi v2988 c1_i32_1850
  let c0_i32_1851 : BitVec 32 := 0#32
  let v2990 : BitVec 32 := Scalar.maxsi v2989 c0_i32_1851
  let c128_i32_1918 : BitVec 32 := 128#32
  let v3074 : BitVec 32 := Scalar.muli v2990 c128_i32_1918
  v3074
def k0_mult21 (i : grid0.Coords) (k0_t2 : Fin (k0_t2_loop i).trips) : BitVec 32 :=
  let c2_i32_1848 : BitVec 32 := 2#32
  let c0_i32_114 : BitVec 32 := 0#32
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let c1_i32_118 : BitVec 32 := 1#32
  let arg21 : BitVec 32 := Scf.iv v211 c1_i32_118 k0_t2
  let c1_i32_113 : BitVec 32 := 1#32
  let v2247 : BitVec 32 := Scalar.muli arg21 c1_i32_113
  let v2248 : BitVec 32 := Scalar.addi c0_i32_114 v2247
  let v2987 : BitVec 32 := Scalar.muli c2_i32_1848 v2248
  let c1_i32_1849 : BitVec 32 := 1#32
  let v2988 : BitVec 32 := Scalar.addi v2987 c1_i32_1849
  let c1_i32_1930 : BitVec 32 := 1#32
  let v3093 : BitVec 32 := Scalar.addi v2988 c1_i32_1930
  let c128_i32_1931 : BitVec 32 := 128#32
  let v3094 : BitVec 32 := Scalar.muli v3093 c128_i32_1931
  v3094
def k0_off8 (i : grid0.Coords) (k0_t2 : Fin (k0_t2_loop i).trips) : Fin 2 → Nat :=
  let c2_i32_1848 : BitVec 32 := 2#32
  let c0_i32_114 : BitVec 32 := 0#32
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let c1_i32_118 : BitVec 32 := 1#32
  let arg21 : BitVec 32 := Scf.iv v211 c1_i32_118 k0_t2
  let c1_i32_113 : BitVec 32 := 1#32
  let v2247 : BitVec 32 := Scalar.muli arg21 c1_i32_113
  let v2248 : BitVec 32 := Scalar.addi c0_i32_114 v2247
  let v2987 : BitVec 32 := Scalar.muli c2_i32_1848 v2248
  let c1_i32_1849 : BitVec 32 := 1#32
  let v2988 : BitVec 32 := Scalar.addi v2987 c1_i32_1849
  let c1_i32_1930 : BitVec 32 := 1#32
  let v3093 : BitVec 32 := Scalar.addi v2988 c1_i32_1930
  let c128_i32_1931 : BitVec 32 := 128#32
  let v3094 : BitVec 32 := Scalar.muli v3093 c128_i32_1931
  let v3095 : BitVec 32 := v3094
  let v3096 : Index := Scalar.indexCast v3095
  let c0_1932 : Index := 0#32
  ![v3096.toNat, 0]
def k0_mult22 (i : grid0.Coords) (k0_t2 : Fin (k0_t2_loop i).trips) : BitVec 32 :=
  let c2_i32_1848 : BitVec 32 := 2#32
  let c0_i32_114 : BitVec 32 := 0#32
  let c0_i32_115 : BitVec 32 := 0#32
  let arg1 : BitVec 32 := BitVec.ofNat 32 (i 1).val
  let c4_i32 : BitVec 32 := 4#32
  let v95 : BitVec 32 := Scalar.muli arg1 c4_i32
  let c0_i32_104 : BitVec 32 := 0#32
  let v187 : BitVec 1 := Scalar.cmpi .sgt v95 c0_i32_104
  let v188 : BitVec 32 := Scalar.extui v187
  let c0_i32_105 : BitVec 32 := 0#32
  let v189 : BitVec 1 := Scalar.cmpi .slt v95 c0_i32_105
  let v190 : BitVec 32 := Scalar.extui v189
  let v191 : BitVec 32 := Scalar.subi v188 v190
  let c2_i32 : BitVec 32 := 2#32
  let c0_i32_106 : BitVec 32 := 0#32
  let v192 : BitVec 1 := Scalar.cmpi .sgt c2_i32 c0_i32_106
  let v193 : BitVec 32 := Scalar.extui v192
  let c0_i32_107 : BitVec 32 := 0#32
  let v194 : BitVec 1 := Scalar.cmpi .slt c2_i32 c0_i32_107
  let v195 : BitVec 32 := Scalar.extui v194
  let v196 : BitVec 32 := Scalar.subi v193 v195
  let v197 : BitVec 1 := Scalar.cmpi .ne v191 v196
  let v198 : BitVec 32 := Scalar.remsi v95 c2_i32
  let c0_i32_108 : BitVec 32 := 0#32
  let v199 : BitVec 1 := Scalar.cmpi .ne v198 c0_i32_108
  let v200 : BitVec 1 := Scalar.andi v197 v199
  let v186 : BitVec 32 := Scalar.divsi v95 c2_i32
  let c1_i32 : BitVec 32 := 1#32
  let v201 : BitVec 32 := Scalar.subi v186 c1_i32
  let v202 : BitVec 32 := Scalar.select v200 v201 v186
  let c0_i32_109 : BitVec 32 := 0#32
  let v203 : BitVec 32 := Scalar.subi v202 c0_i32_109
  let c1_i32_110 : BitVec 32 := 1#32
  let c1_i32_111 : BitVec 32 := 1#32
  let v204 : BitVec 32 := Scalar.subi c1_i32_110 c1_i32_111
  let v205 : BitVec 32 := Scalar.addi v203 v204
  let c1_i32_112 : BitVec 32 := 1#32
  let v206 : BitVec 32 := Scalar.divsi v205 c1_i32_112
  let v207 : BitVec 32 := Scalar.subi v206 c0_i32_115
  let c1_i32_116 : BitVec 32 := 1#32
  let v209 : BitVec 32 := Scalar.divsi v207 c1_i32_116
  let v210 : BitVec 32 := Scalar.muli v209 c1_i32_116
  let v211 : BitVec 32 := Scalar.addi c0_i32_115 v210
  let c1_i32_118 : BitVec 32 := 1#32
  let arg21 : BitVec 32 := Scf.iv v211 c1_i32_118 k0_t2
  let c1_i32_113 : BitVec 32 := 1#32
  let v2247 : BitVec 32 := Scalar.muli arg21 c1_i32_113
  let v2248 : BitVec 32 := Scalar.addi c0_i32_114 v2247
  let v2987 : BitVec 32 := Scalar.muli c2_i32_1848 v2248
  let c1_i32_1849 : BitVec 32 := 1#32
  let v2988 : BitVec 32 := Scalar.addi v2987 c1_i32_1849
  let c1_i32_1930 : BitVec 32 := 1#32
  let v3093 : BitVec 32 := Scalar.addi v2988 c1_i32_1930
  let c128_i32_1933 : BitVec 32 := 128#32
  let v3098 : BitVec 32 := Scalar.muli v3093 c128_i32_1933
  v3098
def k0_mult23 (i : grid0.Coords) : BitVec 32 :=
  let arg1 : BitVec 32 := BitVec.ofNat 32 (i 1).val
  let c4_i32 : BitVec 32 := 4#32
  let v95 : BitVec 32 := Scalar.muli arg1 c4_i32
  let c0_i32_119 : BitVec 32 := 0#32
  let v212 : BitVec 32 := Scalar.addi v95 c0_i32_119
  let c1_i32_120 : BitVec 32 := 1#32
  let v213 : BitVec 32 := Scalar.subi v212 c1_i32_120
  let c0_i32_121 : BitVec 32 := 0#32
  let v214 : BitVec 32 := Scalar.maxsi v213 c0_i32_121
  let c128_i32_122 : BitVec 32 := 128#32
  let v215 : BitVec 32 := Scalar.muli v214 c128_i32_122
  v215
def k0_off9 (i : grid0.Coords) (c0_i32_119 : BitVec 32) : Fin 2 → Nat :=
  let arg1 : BitVec 32 := BitVec.ofNat 32 (i 1).val
  let c4_i32 : BitVec 32 := 4#32
  let v95 : BitVec 32 := Scalar.muli arg1 c4_i32
  let v212 : BitVec 32 := Scalar.addi v95 c0_i32_119
  let c1_i32_120 : BitVec 32 := 1#32
  let v213 : BitVec 32 := Scalar.subi v212 c1_i32_120
  let c0_i32_121 : BitVec 32 := 0#32
  let v214 : BitVec 32 := Scalar.maxsi v213 c0_i32_121
  let c128_i32_122 : BitVec 32 := 128#32
  let v215 : BitVec 32 := Scalar.muli v214 c128_i32_122
  let v216 : BitVec 32 := v215
  let v217 : Index := Scalar.indexCast v216
  let c0_123 : Index := 0#32
  ![v217.toNat, 0]
def k0_mult24 (i : grid0.Coords) : BitVec 32 :=
  let arg1 : BitVec 32 := BitVec.ofNat 32 (i 1).val
  let c4_i32 : BitVec 32 := 4#32
  let v95 : BitVec 32 := Scalar.muli arg1 c4_i32
  let c0_i32_119 : BitVec 32 := 0#32
  let v212 : BitVec 32 := Scalar.addi v95 c0_i32_119
  let c1_i32_120 : BitVec 32 := 1#32
  let v213 : BitVec 32 := Scalar.subi v212 c1_i32_120
  let c0_i32_121 : BitVec 32 := 0#32
  let v214 : BitVec 32 := Scalar.maxsi v213 c0_i32_121
  let c128_i32_173 : BitVec 32 := 128#32
  let v279 : BitVec 32 := Scalar.muli v214 c128_i32_173
  v279
def k0_mult25 (i : grid0.Coords) : BitVec 32 :=
  let arg1 : BitVec 32 := BitVec.ofNat 32 (i 1).val
  let c4_i32 : BitVec 32 := 4#32
  let v95 : BitVec 32 := Scalar.muli arg1 c4_i32
  let c0_i32_119 : BitVec 32 := 0#32
  let v212 : BitVec 32 := Scalar.addi v95 c0_i32_119
  let c1_i32_120 : BitVec 32 := 1#32
  let v213 : BitVec 32 := Scalar.subi v212 c1_i32_120
  let c0_i32_121 : BitVec 32 := 0#32
  let v214 : BitVec 32 := Scalar.maxsi v213 c0_i32_121
  let c128_i32_185 : BitVec 32 := 128#32
  let v298 : BitVec 32 := Scalar.muli v214 c128_i32_185
  v298
def k0_mult26 (i : grid0.Coords) : BitVec 32 :=
  let arg1 : BitVec 32 := BitVec.ofNat 32 (i 1).val
  let c4_i32 : BitVec 32 := 4#32
  let v95 : BitVec 32 := Scalar.muli arg1 c4_i32
  let c0_i32_119 : BitVec 32 := 0#32
  let v212 : BitVec 32 := Scalar.addi v95 c0_i32_119
  let c1_i32_197 : BitVec 32 := 1#32
  let v317 : BitVec 32 := Scalar.addi v212 c1_i32_197
  let c128_i32_198 : BitVec 32 := 128#32
  let v318 : BitVec 32 := Scalar.muli v317 c128_i32_198
  v318
def k0_off10 (i : grid0.Coords) (c0_i32_119 : BitVec 32) : Fin 2 → Nat :=
  let arg1 : BitVec 32 := BitVec.ofNat 32 (i 1).val
  let c4_i32 : BitVec 32 := 4#32
  let v95 : BitVec 32 := Scalar.muli arg1 c4_i32
  let v212 : BitVec 32 := Scalar.addi v95 c0_i32_119
  let c1_i32_197 : BitVec 32 := 1#32
  let v317 : BitVec 32 := Scalar.addi v212 c1_i32_197
  let c128_i32_198 : BitVec 32 := 128#32
  let v318 : BitVec 32 := Scalar.muli v317 c128_i32_198
  let v319 : BitVec 32 := v318
  let v320 : Index := Scalar.indexCast v319
  let c0_199 : Index := 0#32
  ![v320.toNat, 0]
def k0_mult27 (i : grid0.Coords) : BitVec 32 :=
  let arg1 : BitVec 32 := BitVec.ofNat 32 (i 1).val
  let c4_i32 : BitVec 32 := 4#32
  let v95 : BitVec 32 := Scalar.muli arg1 c4_i32
  let c0_i32_119 : BitVec 32 := 0#32
  let v212 : BitVec 32 := Scalar.addi v95 c0_i32_119
  let c1_i32_197 : BitVec 32 := 1#32
  let v317 : BitVec 32 := Scalar.addi v212 c1_i32_197
  let c128_i32_200 : BitVec 32 := 128#32
  let v322 : BitVec 32 := Scalar.muli v317 c128_i32_200
  v322
def k0_mult28 (i : grid0.Coords) : BitVec 32 :=
  let arg1 : BitVec 32 := BitVec.ofNat 32 (i 1).val
  let c4_i32 : BitVec 32 := 4#32
  let v95 : BitVec 32 := Scalar.muli arg1 c4_i32
  let c1_i32_568 : BitVec 32 := 1#32
  let v946 : BitVec 32 := Scalar.addi v95 c1_i32_568
  let c1_i32_569 : BitVec 32 := 1#32
  let v947 : BitVec 32 := Scalar.subi v946 c1_i32_569
  let c0_i32_570 : BitVec 32 := 0#32
  let v948 : BitVec 32 := Scalar.maxsi v947 c0_i32_570
  let c128_i32_571 : BitVec 32 := 128#32
  let v949 : BitVec 32 := Scalar.muli v948 c128_i32_571
  v949
def k0_mult29 (i : grid0.Coords) : BitVec 32 :=
  let arg1 : BitVec 32 := BitVec.ofNat 32 (i 1).val
  let c4_i32 : BitVec 32 := 4#32
  let v95 : BitVec 32 := Scalar.muli arg1 c4_i32
  let c1_i32_568 : BitVec 32 := 1#32
  let v946 : BitVec 32 := Scalar.addi v95 c1_i32_568
  let c1_i32_569 : BitVec 32 := 1#32
  let v947 : BitVec 32 := Scalar.subi v946 c1_i32_569
  let c0_i32_570 : BitVec 32 := 0#32
  let v948 : BitVec 32 := Scalar.maxsi v947 c0_i32_570
  let c128_i32_625 : BitVec 32 := 128#32
  let v1013 : BitVec 32 := Scalar.muli v948 c128_i32_625
  v1013
def k0_mult30 (i : grid0.Coords) : BitVec 32 :=
  let arg1 : BitVec 32 := BitVec.ofNat 32 (i 1).val
  let c4_i32 : BitVec 32 := 4#32
  let v95 : BitVec 32 := Scalar.muli arg1 c4_i32
  let c1_i32_568 : BitVec 32 := 1#32
  let v946 : BitVec 32 := Scalar.addi v95 c1_i32_568
  let c1_i32_569 : BitVec 32 := 1#32
  let v947 : BitVec 32 := Scalar.subi v946 c1_i32_569
  let c0_i32_570 : BitVec 32 := 0#32
  let v948 : BitVec 32 := Scalar.maxsi v947 c0_i32_570
  let c128_i32_637 : BitVec 32 := 128#32
  let v1032 : BitVec 32 := Scalar.muli v948 c128_i32_637
  v1032
def k0_mult31 (i : grid0.Coords) : BitVec 32 :=
  let arg1 : BitVec 32 := BitVec.ofNat 32 (i 1).val
  let c4_i32 : BitVec 32 := 4#32
  let v95 : BitVec 32 := Scalar.muli arg1 c4_i32
  let c1_i32_568 : BitVec 32 := 1#32
  let v946 : BitVec 32 := Scalar.addi v95 c1_i32_568
  let c1_i32_657 : BitVec 32 := 1#32
  let v1059 : BitVec 32 := Scalar.addi v946 c1_i32_657
  let c128_i32_658 : BitVec 32 := 128#32
  let v1060 : BitVec 32 := Scalar.muli v1059 c128_i32_658
  v1060
def k0_mult32 (i : grid0.Coords) : BitVec 32 :=
  let arg1 : BitVec 32 := BitVec.ofNat 32 (i 1).val
  let c4_i32 : BitVec 32 := 4#32
  let v95 : BitVec 32 := Scalar.muli arg1 c4_i32
  let c1_i32_568 : BitVec 32 := 1#32
  let v946 : BitVec 32 := Scalar.addi v95 c1_i32_568
  let c1_i32_657 : BitVec 32 := 1#32
  let v1059 : BitVec 32 := Scalar.addi v946 c1_i32_657
  let c128_i32_660 : BitVec 32 := 128#32
  let v1064 : BitVec 32 := Scalar.muli v1059 c128_i32_660
  v1064
def k0_mult33 (i : grid0.Coords) : BitVec 32 :=
  let arg1 : BitVec 32 := BitVec.ofNat 32 (i 1).val
  let c4_i32 : BitVec 32 := 4#32
  let v95 : BitVec 32 := Scalar.muli arg1 c4_i32
  let c2_i32_934 : BitVec 32 := 2#32
  let v1532 : BitVec 32 := Scalar.addi v95 c2_i32_934
  let c1_i32_935 : BitVec 32 := 1#32
  let v1533 : BitVec 32 := Scalar.subi v1532 c1_i32_935
  let c0_i32_936 : BitVec 32 := 0#32
  let v1534 : BitVec 32 := Scalar.maxsi v1533 c0_i32_936
  let c128_i32_937 : BitVec 32 := 128#32
  let v1535 : BitVec 32 := Scalar.muli v1534 c128_i32_937
  v1535
def k0_mult34 (i : grid0.Coords) : BitVec 32 :=
  let arg1 : BitVec 32 := BitVec.ofNat 32 (i 1).val
  let c4_i32 : BitVec 32 := 4#32
  let v95 : BitVec 32 := Scalar.muli arg1 c4_i32
  let c2_i32_934 : BitVec 32 := 2#32
  let v1532 : BitVec 32 := Scalar.addi v95 c2_i32_934
  let c1_i32_935 : BitVec 32 := 1#32
  let v1533 : BitVec 32 := Scalar.subi v1532 c1_i32_935
  let c0_i32_936 : BitVec 32 := 0#32
  let v1534 : BitVec 32 := Scalar.maxsi v1533 c0_i32_936
  let c128_i32_978 : BitVec 32 := 128#32
  let v1584 : BitVec 32 := Scalar.muli v1534 c128_i32_978
  v1584
def k0_mult35 (i : grid0.Coords) : BitVec 32 :=
  let arg1 : BitVec 32 := BitVec.ofNat 32 (i 1).val
  let c4_i32 : BitVec 32 := 4#32
  let v95 : BitVec 32 := Scalar.muli arg1 c4_i32
  let c2_i32_934 : BitVec 32 := 2#32
  let v1532 : BitVec 32 := Scalar.addi v95 c2_i32_934
  let c1_i32_935 : BitVec 32 := 1#32
  let v1533 : BitVec 32 := Scalar.subi v1532 c1_i32_935
  let c0_i32_936 : BitVec 32 := 0#32
  let v1534 : BitVec 32 := Scalar.maxsi v1533 c0_i32_936
  let c128_i32_990 : BitVec 32 := 128#32
  let v1603 : BitVec 32 := Scalar.muli v1534 c128_i32_990
  v1603
def k0_mult36 (i : grid0.Coords) : BitVec 32 :=
  let arg1 : BitVec 32 := BitVec.ofNat 32 (i 1).val
  let c4_i32 : BitVec 32 := 4#32
  let v95 : BitVec 32 := Scalar.muli arg1 c4_i32
  let c2_i32_934 : BitVec 32 := 2#32
  let v1532 : BitVec 32 := Scalar.addi v95 c2_i32_934
  let c1_i32_1010 : BitVec 32 := 1#32
  let v1630 : BitVec 32 := Scalar.addi v1532 c1_i32_1010
  let c128_i32_1011 : BitVec 32 := 128#32
  let v1631 : BitVec 32 := Scalar.muli v1630 c128_i32_1011
  v1631
def k0_mult37 (i : grid0.Coords) : BitVec 32 :=
  let arg1 : BitVec 32 := BitVec.ofNat 32 (i 1).val
  let c4_i32 : BitVec 32 := 4#32
  let v95 : BitVec 32 := Scalar.muli arg1 c4_i32
  let c2_i32_934 : BitVec 32 := 2#32
  let v1532 : BitVec 32 := Scalar.addi v95 c2_i32_934
  let c1_i32_1010 : BitVec 32 := 1#32
  let v1630 : BitVec 32 := Scalar.addi v1532 c1_i32_1010
  let c128_i32_1013 : BitVec 32 := 128#32
  let v1635 : BitVec 32 := Scalar.muli v1630 c128_i32_1013
  v1635
def k0_mult38 (i : grid0.Coords) : BitVec 32 :=
  let arg1 : BitVec 32 := BitVec.ofNat 32 (i 1).val
  let c4_i32 : BitVec 32 := 4#32
  let v95 : BitVec 32 := Scalar.muli arg1 c4_i32
  let c3_i32 : BitVec 32 := 3#32
  let v1947 : BitVec 32 := Scalar.addi v95 c3_i32
  let c1_i32_1193 : BitVec 32 := 1#32
  let v1948 : BitVec 32 := Scalar.subi v1947 c1_i32_1193
  let c0_i32_1194 : BitVec 32 := 0#32
  let v1949 : BitVec 32 := Scalar.maxsi v1948 c0_i32_1194
  let c128_i32_1195 : BitVec 32 := 128#32
  let v1950 : BitVec 32 := Scalar.muli v1949 c128_i32_1195
  v1950
def k0_mult39 (i : grid0.Coords) : BitVec 32 :=
  let arg1 : BitVec 32 := BitVec.ofNat 32 (i 1).val
  let c4_i32 : BitVec 32 := 4#32
  let v95 : BitVec 32 := Scalar.muli arg1 c4_i32
  let c3_i32 : BitVec 32 := 3#32
  let v1947 : BitVec 32 := Scalar.addi v95 c3_i32
  let c1_i32_1193 : BitVec 32 := 1#32
  let v1948 : BitVec 32 := Scalar.subi v1947 c1_i32_1193
  let c0_i32_1194 : BitVec 32 := 0#32
  let v1949 : BitVec 32 := Scalar.maxsi v1948 c0_i32_1194
  let c128_i32_1223 : BitVec 32 := 128#32
  let v1984 : BitVec 32 := Scalar.muli v1949 c128_i32_1223
  v1984
def k0_mult40 (i : grid0.Coords) : BitVec 32 :=
  let arg1 : BitVec 32 := BitVec.ofNat 32 (i 1).val
  let c4_i32 : BitVec 32 := 4#32
  let v95 : BitVec 32 := Scalar.muli arg1 c4_i32
  let c3_i32 : BitVec 32 := 3#32
  let v1947 : BitVec 32 := Scalar.addi v95 c3_i32
  let c1_i32_1193 : BitVec 32 := 1#32
  let v1948 : BitVec 32 := Scalar.subi v1947 c1_i32_1193
  let c0_i32_1194 : BitVec 32 := 0#32
  let v1949 : BitVec 32 := Scalar.maxsi v1948 c0_i32_1194
  let c128_i32_1235 : BitVec 32 := 128#32
  let v2003 : BitVec 32 := Scalar.muli v1949 c128_i32_1235
  v2003
def k0_mult41 (i : grid0.Coords) : BitVec 32 :=
  let arg1 : BitVec 32 := BitVec.ofNat 32 (i 1).val
  let c4_i32 : BitVec 32 := 4#32
  let v95 : BitVec 32 := Scalar.muli arg1 c4_i32
  let c4_i32_1339 : BitVec 32 := 4#32
  let v2182 : BitVec 32 := Scalar.addi v95 c4_i32_1339
  let c1_i32_1340 : BitVec 32 := 1#32
  let v2183 : BitVec 32 := Scalar.subi v2182 c1_i32_1340
  let c128_i32_1341 : BitVec 32 := 128#32
  let v2184 : BitVec 32 := Scalar.muli v2183 c128_i32_1341
  v2184
def k0_off11 (i : grid0.Coords) : Fin 2 → Nat :=
  let arg1 : BitVec 32 := BitVec.ofNat 32 (i 1).val
  let c4_i32 : BitVec 32 := 4#32
  let v95 : BitVec 32 := Scalar.muli arg1 c4_i32
  let c4_i32_1339 : BitVec 32 := 4#32
  let v2182 : BitVec 32 := Scalar.addi v95 c4_i32_1339
  let c1_i32_1340 : BitVec 32 := 1#32
  let v2183 : BitVec 32 := Scalar.subi v2182 c1_i32_1340
  let c128_i32_1341 : BitVec 32 := 128#32
  let v2184 : BitVec 32 := Scalar.muli v2183 c128_i32_1341
  let v2185 : BitVec 32 := v2184
  let v2186 : Index := Scalar.indexCast v2185
  let c0_1342 : Index := 0#32
  ![v2186.toNat, 0]
def k0_mult42 (i : grid0.Coords) : BitVec 32 :=
  let arg1 : BitVec 32 := BitVec.ofNat 32 (i 1).val
  let c4_i32 : BitVec 32 := 4#32
  let v95 : BitVec 32 := Scalar.muli arg1 c4_i32
  let c4_i32_1339 : BitVec 32 := 4#32
  let v2182 : BitVec 32 := Scalar.addi v95 c4_i32_1339
  let c1_i32_1340 : BitVec 32 := 1#32
  let v2183 : BitVec 32 := Scalar.subi v2182 c1_i32_1340
  let c128_i32_1356 : BitVec 32 := 128#32
  let v2203 : BitVec 32 := Scalar.muli v2183 c128_i32_1356
  v2203
def k0_mult43 (i : grid0.Coords) : BitVec 32 :=
  let arg1 : BitVec 32 := BitVec.ofNat 32 (i 1).val
  let c4_i32 : BitVec 32 := 4#32
  let v95 : BitVec 32 := Scalar.muli arg1 c4_i32
  let c4_i32_1339 : BitVec 32 := 4#32
  let v2182 : BitVec 32 := Scalar.addi v95 c4_i32_1339
  let c1_i32_1340 : BitVec 32 := 1#32
  let v2183 : BitVec 32 := Scalar.subi v2182 c1_i32_1340
  let c128_i32_1368 : BitVec 32 := 128#32
  let v2222 : BitVec 32 := Scalar.muli v2183 c128_i32_1368
  v2222
def k0_cond2 (i : grid0.Coords) : BitVec 1 :=
  let arg1 : BitVec 32 := BitVec.ofNat 32 (i 1).val
  let c3_i32_1384 : BitVec 32 := 3#32
  let v2244 : BitVec 1 := Scalar.cmpi .eq arg1 c3_i32_1384
  let v2245 : BitVec 32 := Scalar.extui v2244
  let c0_i32_1385 : BitVec 32 := 0#32
  let v2246 : BitVec 1 := Scalar.cmpi .ne v2245 c0_i32_1385
  v2246

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DownDgrad.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S2048x1024, .bf16⟩
  | .hbm, ⟨8, _⟩ => ⟨S4096x1024, .bf16⟩
  | .hbm, ⟨9, _⟩ => ⟨S2048x4096, .bf16⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownDgradRefIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== DownWgrad.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x1024 : Shape := ⟨2, ![1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S2048x1024, .bf16⟩
  | .hbm, ⟨8, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownWgradRefIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== UpWgrad.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S2048x4096, .bf16⟩
  | .hbm, ⟨4, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpWgradRefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDgrad.lean ====
abbrev S1024x4096 : Shape := ⟨2, ![1024, 4096]⟩
abbrev S2048x4096 : Shape := ⟨2, ![2048, 4096]⟩
abbrev S1024x8x512 : Shape := ⟨3, ![1024, 8, 512]⟩
abbrev S8x1024x512 : Shape := ⟨3, ![8, 1024, 512]⟩
abbrev S2048x1024 : Shape := ⟨2, ![2048, 1024]⟩
abbrev S8x512x512 : Shape := ⟨3, ![8, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S2048x4096, .f32⟩
  | .hbm, ⟨2, _⟩ => ⟨S1024x8x512, .f32⟩
  | .hbm, ⟨3, _⟩ => ⟨S8x1024x512, .f32⟩
  | .hbm, ⟨4, _⟩ => ⟨S8x1024x512, .bf16⟩
  | .hbm, ⟨5, _⟩ => ⟨S2048x4096, .bf16⟩
  | .hbm, ⟨6, _⟩ => ⟨S2048x1024, .f32⟩
  | .local _ .vmem, ⟨0, _⟩ => ⟨S1024x4096, .bf16⟩
  | .local _ .vmem, ⟨1, _⟩ => ⟨S1024x4096, .bf16⟩
  | .local _ .vmem, ⟨2, _⟩ => ⟨S8x512x512, .bf16⟩
  | .local _ .vmem, ⟨3, _⟩ => ⟨S8x512x512, .bf16⟩
  | .local _ .vmem, ⟨4, _⟩ => ⟨S1024x512, .f32⟩
  | .local _ .vmem, ⟨5, _⟩ => ⟨S1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDgradRefIdeal.lean ====
abbrev S1024x4096 : Shape := ⟨2, ![1024, 4096]⟩
abbrev S2048x4096 : Shape := ⟨2, ![2048, 4096]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S2048x4096, .f32⟩
  | .hbm, ⟨2, _⟩ => ⟨S_, .f32⟩
  | .hbm, ⟨3, _⟩ => ⟨S2048x1024, .f32⟩
  | .hbm, ⟨4, _⟩ => ⟨S2048x4096, .f32⟩
  | .hbm, ⟨5, _⟩ => ⟨S2048x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixDgrad.lean ====
abbrev S1024x1024 : Shape := ⟨2, ![1024, 1024]⟩
abbrev S2048x1024 : Shape := ⟨2, ![2048, 1024]⟩
abbrev S512x1024 : Shape := ⟨2, ![512, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixDgradRefIdeal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixWgrad.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixWgradRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjDgrad.lean ====
abbrev S1024x2816 : Shape := ⟨2, ![1024, 2816]⟩
abbrev S2048x2816 : Shape := ⟨2, ![2048, 2816]⟩
abbrev S_ : Shape := ⟨0, ![]⟩
abbrev S8x128 : Shape := ⟨2, ![8, 128]⟩
abbrev S2048x1024 : Shape := ⟨2, ![2048, 1024]⟩
abbrev S512x2816 : Shape := ⟨2, ![512, 2816]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S1024x2816, .f32⟩
  | .hbm, ⟨1, _⟩ => ⟨S2048x2816, .f32⟩
  | .hbm, ⟨2, _⟩ => ⟨S_, .f32⟩
  | .hbm, ⟨3, _⟩ => ⟨S8x128, .f32⟩
  | .hbm, ⟨4, _⟩ => ⟨S2048x2816, .bf16⟩
  | .hbm, ⟨5, _⟩ => ⟨S1024x2816, .bf16⟩
  | .hbm, ⟨6, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S512x2816, .bf16⟩
  | .local _ .vmem, ⟨3, _⟩ => ⟨S512x2816, .bf16⟩
  | .local _ .vmem, ⟨4, _⟩ => ⟨S8x128, .f32⟩
  | .local _ .vmem, ⟨5, _⟩ => ⟨S1024x512, .f32⟩
  | .local _ .vmem, ⟨6, _⟩ => ⟨S1024x512, .f32⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjDgradRefIdeal.lean ====
abbrev S1024x2816 : Shape := ⟨2, ![1024, 2816]⟩
abbrev S2048x2816 : Shape := ⟨2, ![2048, 2816]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2816, .f32⟩
  | .hbm, ⟨1, _⟩ => ⟨S2048x2816, .f32⟩
  | .hbm, ⟨2, _⟩ => ⟨S_, .f32⟩
  | .hbm, ⟨3, _⟩ => ⟨S2048x1024, .f32⟩
  | .hbm, ⟨4, _⟩ => ⟨S2048x2816, .f32⟩
  | .hbm, ⟨5, _⟩ => ⟨S2048x1024, .f32⟩
  | _, _ => ⟨S1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ProjWgrad.lean ====
abbrev S2048x1024 : Shape := ⟨2, ![2048, 1024]⟩
abbrev S2048x2816 : Shape := ⟨2, ![2048, 2816]⟩
abbrev S1024x2816 : Shape := ⟨2, ![1024, 2816]⟩
abbrev S2048x1408 : Shape := ⟨2, ![2048, 1408]⟩
abbrev S1024x1408 : Shape := ⟨2, ![1024, 1408]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x1024, .bf16⟩
  | .hbm, ⟨3, _⟩ => ⟨S2048x2816, .bf16⟩
  | .hbm, ⟨4, _⟩ => ⟨S1024x2816, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1024x1408, .bf16⟩
  | .local _ .vmem, ⟨4, _⟩ => ⟨S1024x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjWgradRefIdeal.lean ====
abbrev S2048x1024 : Shape := ⟨2, ![2048, 1024]⟩
abbrev S2048x2816 : Shape := ⟨2, ![2048, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S_, .f32⟩
  | .hbm, ⟨3, _⟩ => ⟨S1024x2816, .f32⟩
  | .hbm, ⟨4, _⟩ => ⟨S2048x2816, .f32⟩
  | .hbm, ⟨5, _⟩ => ⟨S2816x1024, .f32⟩
  | .hbm, ⟨6, _⟩ => ⟨S1024x2816, .f32⟩
  | .hbm, ⟨7, _⟩ => ⟨S1024x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlpUp.lean ====
abbrev S2048x1024 : Shape := ⟨2, ![2048, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S2048x4096 : Shape := ⟨2, ![2048, 4096]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1024x8x512, .f32⟩
  | .hbm, ⟨3, _⟩ => ⟨S8x1024x512, .f32⟩
  | .hbm, ⟨4, _⟩ => ⟨S8x1024x512, .bf16⟩
  | .hbm, ⟨5, _⟩ => ⟨S2048x1024, .bf16⟩
  | .hbm, ⟨6, _⟩ => ⟨S2048x4096, .bf16⟩
  | .hbm, ⟨7, _⟩ => ⟨S2048x4096, .bf16⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlpUpRefIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .bf16⟩
  | .hbm, ⟨7, _⟩ => ⟨S2048x4096, .f32⟩
  | .hbm, ⟨8, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MlpDown.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S1024x4096 : Shape := ⟨2, ![1024, 4096]⟩
abbrev S4096x256 : Shape := ⟨2, ![4096, 256]⟩
abbrev S1024x256 : Shape := ⟨2, ![1024, 256]⟩
abbrev S1x256 : Shape := ⟨2, ![1, 256]⟩

abbrev nBuf : Space → Nat
  | .hbm => 8
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1x1024, .f32⟩
  | .hbm, ⟨4, _⟩ => ⟨S2048x4096, .bf16⟩
  | .hbm, ⟨5, _⟩ => ⟨S4096x1024, .bf16⟩
  | .hbm, ⟨6, _⟩ => ⟨S2048x1024, .f32⟩
  | .hbm, ⟨7, _⟩ => ⟨S2048x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .f32⟩
  | .local _ .vmem, ⟨5, _⟩ => ⟨S1024x256, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlpDownRefIdeal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== ProjQkv.lean ====
abbrev S2048x1024 : Shape := ⟨2, ![2048, 1024]⟩
abbrev S1024x2816 : Shape := ⟨2, ![1024, 2816]⟩
abbrev S2048x1536 : Shape := ⟨2, ![2048, 1536]⟩
abbrev S1024x512 : Shape := ⟨2, ![1024, 512]⟩
abbrev S2048x512 : Shape := ⟨2, ![2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x1024, .bf16⟩
  | .hbm, ⟨3, _⟩ => ⟨S1024x2816, .bf16⟩
  | .hbm, ⟨4, _⟩ => ⟨S2048x1536, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjQkvRefIdeal.lean ====
abbrev S2048x1024 : Shape := ⟨2, ![2048, 1024]⟩
abbrev S1024x2816 : Shape := ⟨2, ![1024, 2816]⟩
abbrev S2048x2816 : Shape := ⟨2, ![2048, 2816]⟩
abbrev S2048x1536 : Shape := ⟨2, ![2048, 1536]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x2816, .f32⟩
  | .hbm, ⟨3, _⟩ => ⟨S2048x1536, .f32⟩
  | .hbm, ⟨4, _⟩ => ⟨S2048x1536, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjRest.lean ====
abbrev S2048x1024 : Shape := ⟨2, ![2048, 1024]⟩
abbrev S1024x2816 : Shape := ⟨2, ![1024, 2816]⟩
abbrev S2048x1280 : Shape := ⟨2, ![2048, 1280]⟩
abbrev S1024x256 : Shape := ⟨2, ![1024, 256]⟩
abbrev S2048x256 : Shape := ⟨2, ![2048, 256]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x1024, .bf16⟩
  | .hbm, ⟨3, _⟩ => ⟨S1024x2816, .bf16⟩
  | .hbm, ⟨4, _⟩ => ⟨S2048x1280, .f32⟩
  | .local _ .vmem, ⟨0, _⟩ => ⟨S2048x1024, .bf16⟩
  | .local _ .vmem, ⟨1, _⟩ => ⟨S1024x256, .bf16⟩
  | .local _ .vmem, ⟨2, _⟩ => ⟨S1024x256, .bf16⟩
  | .local _ .vmem, ⟨3, _⟩ => ⟨S2048x256, .f32⟩
  | .local _ .vmem, ⟨4, _⟩ => ⟨S2048x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRestRefIdeal.lean ====
abbrev S2048x1024 : Shape := ⟨2, ![2048, 1024]⟩
abbrev S1024x2816 : Shape := ⟨2, ![1024, 2816]⟩
abbrev S2048x2816 : Shape := ⟨2, ![2048, 2816]⟩
abbrev S2048x1280 : Shape := ⟨2, ![2048, 1280]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S2048x2816, .f32⟩
  | .hbm, ⟨3, _⟩ => ⟨S2048x1280, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixFwd.lean ====
abbrev S2048x1024 : Shape := ⟨2, ![2048, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .bf16⟩
  | .hbm, ⟨8, _⟩ => ⟨S1024x1024, .bf16⟩
  | .hbm, ⟨9, _⟩ => ⟨S2048x1024, .f32⟩
  | .hbm, ⟨10, _⟩ => ⟨S2048x1024, .f32⟩
  | .hbm, ⟨11, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MixFwdRefIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== NormFwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== ConvFwd.lean ====
abbrev S2048x1280 : Shape := ⟨2, ![2048, 1280]⟩
abbrev S3x256 : Shape := ⟨2, ![3, 256]⟩
abbrev S1x256 : Shape := ⟨2, ![1, 256]⟩
abbrev S_ : Shape := ⟨0, ![]⟩
abbrev S8x256 : Shape := ⟨2, ![8, 256]⟩
abbrev S2048x256 : Shape := ⟨2, ![2048, 256]⟩
abbrev S2048x128 : Shape := ⟨2, ![2048, 128]⟩
abbrev S8x128 : Shape := ⟨2, ![8, 128]⟩
abbrev S1x128 : Shape := ⟨2, ![1, 128]⟩

abbrev nBuf : Space → Nat
  | .hbm => 7
  | .vmem => 12
  | .smem => 0
  | _ => 0

abbrev bufTy : (tb : Table) → Fin (tcTables nBuf tb) → BufTy
  | .hbm, ⟨0, _⟩ => ⟨S2048x1280, .f32⟩
  | .hbm, ⟨1, _⟩ => ⟨S3x256, .f32⟩
  | .hbm, ⟨2, _⟩ => ⟨S1x256, .f32⟩
  | .hbm, ⟨3, _⟩ => ⟨S_, .i32⟩
  | .hbm, ⟨4, _⟩ => ⟨S_, .f32⟩
  | .hbm, ⟨5, _⟩ => ⟨S8x256, .f32⟩
  | .hbm, ⟨6, _⟩ => ⟨S2048x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S8x128, .f32⟩
  | .local _ .vmem, ⟨7, _⟩ => ⟨S8x128, .f32⟩
  | .local _ .vmem, ⟨8, _⟩ => ⟨S1x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvFwdRefIdeal.lean ====
abbrev S2048x1280 : Shape := ⟨2, ![2048, 1280]⟩
abbrev S3x256 : Shape := ⟨2, ![3, 256]⟩
abbrev S1x256 : Shape := ⟨2, ![1, 256]⟩
abbrev S2048x256 : Shape := ⟨2, ![2048, 256]⟩
abbrev S_ : Shape := ⟨0, ![]⟩
abbrev S2x256 : Shape := ⟨2, ![2, 256]⟩
abbrev S2050x256 : Shape := ⟨2, ![2050, 256]⟩
abbrev S256 : Shape := ⟨1, ![256]⟩

abbrev nBuf : Space → Nat
  | .hbm => 36
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S3x256, .f32⟩
  | .hbm, ⟨2, _⟩ => ⟨S1x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S_, .f32⟩
  | .hbm, ⟨7, _⟩ => ⟨S2x256, .f32⟩
  | .hbm, ⟨8, _⟩ => ⟨S2048x256, .f32⟩
  | .hbm, ⟨9, _⟩ => ⟨S2050x256, .f32⟩
  | .hbm, ⟨10, _⟩ => ⟨S2048x256, .f32⟩
  | .hbm, ⟨11, _⟩ => ⟨S1x256, .f32⟩
  | .hbm, ⟨12, _⟩ => ⟨S256, .f32⟩
  | .hbm, ⟨13, _⟩ => ⟨S1x256, .f32⟩
  | .hbm, ⟨14, _⟩ => ⟨S2048x256, .f32⟩
  | .hbm, ⟨15, _⟩ => ⟨S2048x256, .f32⟩
  | .hbm, ⟨16, _⟩ => ⟨S_, .f32⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S1x256, .f32⟩
  | .hbm, ⟨21, _⟩ => ⟨S256, .f32⟩
  | .hbm, ⟨22, _⟩ => ⟨S1x256, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S2048x256, .f32⟩
  | .hbm, ⟨27, _⟩ => ⟨S1x256, .f32⟩
  | .hbm, ⟨28, _⟩ => ⟨S256, .f32⟩
  | .hbm, ⟨29, _⟩ => ⟨S1x256, .f32⟩
  | .hbm, ⟨30, _⟩ => ⟨S2048x256, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S2048x256, .f32⟩
  | .hbm, ⟨35, _⟩ => ⟨S2048x256, .f32⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== NormBwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S2048x1024, .bf16⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== NormBwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== LossHead.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S2048x1024, .bf16⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossHeadRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x1024, .f32⟩
  | .hbm, ⟨58, _⟩ => ⟨S2048x1024, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S1x1024, .f32⟩
  | .hbm, ⟨79, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_cst_8 : Ref sig .tc := ⟨.hbm, 38, rfl⟩
abbrev main_cst_9 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== SgFwd.lean ====
abbrev S2048x1280 : Shape := ⟨2, ![2048, 1280]⟩
abbrev S1x256 : Shape := ⟨2, ![1, 256]⟩
abbrev S4x128x128 : Shape := ⟨3, ![4, 128, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S2048x256 : Shape := ⟨2, ![2048, 256]⟩
abbrev S512x256 : Shape := ⟨2, ![512, 256]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 8
  | .vmem => 9
  | .smem => 0
  | _ => 0

abbrev bufTy : (tb : Table) → Fin (tcTables nBuf tb) → BufTy
  | .hbm, ⟨0, _⟩ => ⟨S2048x1280, .f32⟩
  | .hbm, ⟨1, _⟩ => ⟨S1x256, .f32⟩
  | .hbm, ⟨2, _⟩ => ⟨S4x128x128, .f32⟩
  | .hbm, ⟨3, _⟩ => ⟨S4x128, .f32⟩
  | .hbm, ⟨4, _⟩ => ⟨S128x4, .f32⟩
  | .hbm, ⟨5, _⟩ => ⟨S128x4x64, .f32⟩
  | .hbm, ⟨6, _⟩ => ⟨S128x256, .f32⟩
  | .hbm, ⟨7, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S4x128x128, .f32⟩
  | .local _ .vmem, ⟨6, _⟩ => ⟨S128x256, .f32⟩
  | .local _ .vmem, ⟨7, _⟩ => ⟨S512x256, .f32⟩
  | .local _ .vmem, ⟨8, _⟩ => ⟨S512x256, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SgFwdRefIdeal.lean ====
abbrev S2048x1280 : Shape := ⟨2, ![2048, 1280]⟩
abbrev S1x256 : Shape := ⟨2, ![1, 256]⟩
abbrev S4x128x128 : Shape := ⟨3, ![4, 128, 128]⟩
abbrev S4x128 : Shape := ⟨2, ![4, 128]⟩
abbrev S128x4 : Shape := ⟨2, ![128, 4]⟩
abbrev S128x4x1 : Shape := ⟨3, ![128, 4, 1]⟩
abbrev S128x4x1x64 : Shape := ⟨4, ![128, 4, 1, 64]⟩
abbrev S128x4x64 : Shape := ⟨3, ![128, 4, 64]⟩
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S16x128x4x64 : Shape := ⟨4, ![16, 128, 4, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x16x64x128 : Shape := ⟨4, ![4, 16, 64, 128]⟩
abbrev S1x128x4x64 : Shape := ⟨4, ![1, 128, 4, 64]⟩

abbrev nBuf : Space → Nat
  | .hbm => 96
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S1x256, .f32⟩
  | .hbm, ⟨2, _⟩ => ⟨S4x128x128, .f32⟩
  | .hbm, ⟨3, _⟩ => ⟨S4x128, .f32⟩
  | .hbm, ⟨4, _⟩ => ⟨S128x4, .f32⟩
  | .hbm, ⟨5, _⟩ => ⟨S128x4x1, .f32⟩
  | .hbm, ⟨6, _⟩ => ⟨S128x4x1x64, .f32⟩
  | .hbm, ⟨7, _⟩ => ⟨S128x4x64, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x256, .f32⟩
  | .hbm, ⟨12, _⟩ => ⟨S_, .f32⟩
  | .hbm, ⟨13, _⟩ => ⟨S2048x256, .f32⟩
  | .hbm, ⟨14, _⟩ => ⟨S2048x256, .f32⟩
  | .hbm, ⟨15, _⟩ => ⟨S2048x256, .f32⟩
  | .hbm, ⟨16, _⟩ => ⟨S_, .f32⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S_, .f32⟩
  | .hbm, ⟨21, _⟩ => ⟨S2048x256, .f32⟩
  | .hbm, ⟨22, _⟩ => ⟨S2048x256, .f32⟩
  | .hbm, ⟨23, _⟩ => ⟨S_, .f32⟩
  | .hbm, ⟨24, _⟩ => ⟨S2048x256, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S2048x256, .f32⟩
  | .hbm, ⟨29, _⟩ => ⟨S_, .f32⟩
  | .hbm, ⟨30, _⟩ => ⟨S2048x256, .f32⟩
  | .hbm, ⟨31, _⟩ => ⟨S2048x256, .f32⟩
  | .hbm, ⟨32, _⟩ => ⟨S2048x256, .f32⟩
  | .hbm, ⟨33, _⟩ => ⟨S_, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S_, .f32⟩
  | .hbm, ⟨38, _⟩ => ⟨S2048x256, .f32⟩
  | .hbm, ⟨39, _⟩ => ⟨S2048x256, .f32⟩
  | .hbm, ⟨40, _⟩ => ⟨S_, .f32⟩
  | .hbm, ⟨41, _⟩ => ⟨S2048x256, .f32⟩
  | .hbm, ⟨42, _⟩ => ⟨S2048x256, .f32⟩
  | .hbm, ⟨43, _⟩ => ⟨S2048x256, .f32⟩
  | .hbm, ⟨44, _⟩ => ⟨S2048x256, .f32⟩
  | .hbm, ⟨45, _⟩ => ⟨S_, .f32⟩
  | .hbm, ⟨46, _⟩ => ⟨S2048, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S2048x1, .f32⟩
  | .hbm, ⟨55, _⟩ => ⟨S2048x256, .f32⟩
  | .hbm, ⟨56, _⟩ => ⟨S2048x256, .f32⟩
  | .hbm, ⟨57, _⟩ => ⟨S2048x256, .f32⟩
  | .hbm, ⟨58, _⟩ => ⟨S2048x256, .f32⟩
  | .hbm, ⟨59, _⟩ => ⟨S16x128x4x64, .f32⟩
  | .hbm, ⟨60, _⟩ => ⟨S128, .i32⟩
  | .hbm, ⟨61, _⟩ => ⟨S_, .i32⟩
  | .hbm, ⟨62, _⟩ => ⟨S_, .i32⟩
  | .hbm, ⟨63, _⟩ => ⟨S128, .i32⟩
  | .hbm, ⟨64, _⟩ => ⟨S128, .i32⟩
  | .hbm, ⟨65, _⟩ => ⟨S128, .i32⟩
  | .hbm, ⟨66, _⟩ => ⟨S_, .i32⟩
  | .hbm, ⟨67, _⟩ => ⟨S128, .i32⟩
  | .hbm, ⟨68, _⟩ => ⟨S128, .i1⟩
  | .hbm, ⟨69, _⟩ => ⟨S128, .i32⟩
  | .hbm, ⟨70, _⟩ => ⟨S128, .i32⟩
  | .hbm, ⟨71, _⟩ => ⟨S_, .i32⟩
  | .hbm, ⟨72, _⟩ => ⟨S128, .i32⟩
  | .hbm, ⟨73, _⟩ => ⟨S128, .i1⟩
  | .hbm, ⟨74, _⟩ => ⟨S128, .i1⟩
  | .hbm, ⟨75, _⟩ => ⟨S_, .i32⟩
  | .hbm, ⟨76, _⟩ => ⟨S128, .i32⟩
  | .hbm, ⟨77, _⟩ => ⟨S128, .i32⟩
  | .hbm, ⟨78, _⟩ => ⟨S128, .i32⟩
  | .hbm, ⟨79, _⟩ => ⟨S128x1, .i32⟩
  | .hbm, ⟨80, _⟩ => ⟨S1x128, .i32⟩
  | .hbm, ⟨81, _⟩ => ⟨S128x128, .i32⟩
  | .hbm, ⟨82, _⟩ => ⟨S128x128, .i32⟩
  | .hbm, ⟨83, _⟩ => ⟨S128x128, .i1⟩
  | .hbm, ⟨84, _⟩ => ⟨S1x128x128, .i1⟩
  | .hbm, ⟨85, _⟩ => ⟨S_, .f32⟩
  | .hbm, ⟨86, _⟩ => ⟨S4x128x128, .f32⟩
  | .hbm, ⟨87, _⟩ => ⟨S4x128x128, .i1⟩
  | .hbm, ⟨88, _⟩ => ⟨S4x128x128, .f32⟩
  | .hbm, ⟨89, _⟩ => ⟨S4x16x64x128, .f32⟩
  | .hbm, ⟨90, _⟩ => ⟨S16x128x4x64, .f32⟩
  | .hbm, ⟨91, _⟩ => ⟨S1x128x4x64, .f32⟩
  | .hbm, ⟨92, _⟩ => ⟨S16x128x4x64, .f32⟩
  | .hbm, ⟨93, _⟩ => ⟨S16x128x4x64, .f32⟩
  | .hbm, ⟨94, _⟩ => ⟨S2048x256, .f32⟩
  | .hbm, ⟨95, _⟩ => ⟨S2048x256, .f32⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_c : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_0 : Ref sig .tc := ⟨.hbm, 75, rfl⟩
abbrev main_call0_v12 : Ref sig .tc := ⟨.hbm, 76, rfl⟩
abbrev main_call0_v13 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_call1_v0 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩

abbrev nD : Nat := 1
abbrev τ : Topo := Topo.v7x

variable {F : FTy → Type} [FloatOps F]
-- ==== AdaBwd.lean ====
abbrev S8x1024 : Shape := ⟨2, ![8, 1024]⟩
abbrev S2x8x768 : Shape := ⟨3, ![2, 8, 768]⟩
abbrev S2x1024x768 : Shape := ⟨3, ![2, 1024, 768]⟩
abbrev S1x8x768 : Shape := ⟨3, ![1, 8, 768]⟩
abbrev S8x768 : Shape := ⟨2, ![8, 768]⟩
abbrev S1024x768 : Shape := ⟨2, ![1024, 768]⟩
abbrev S1x1024x768 : Shape := ⟨3, ![1, 1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S2x1024x768, .f32⟩
  | .local _ .vmem, ⟨0, _⟩ => ⟨S8x1024, .f32⟩
  | .local _ .vmem, ⟨1, _⟩ => ⟨S2x8x768, .f32⟩
  | .local _ .vmem, ⟨2, _⟩ => ⟨S2x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaBwdRefIdeal.lean ====
abbrev S8x1024 : Shape := ⟨2, ![8, 1024]⟩
abbrev S2x8x768 : Shape := ⟨3, ![2, 8, 768]⟩
abbrev S_ : Shape := ⟨0, ![]⟩
abbrev S2x1024x768 : Shape := ⟨3, ![2, 1024, 768]⟩
abbrev S2x768x8 : Shape := ⟨3, ![2, 768, 8]⟩
abbrev S2x768x1024 : Shape := ⟨3, ![2, 768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S_, .f32⟩
  | .hbm, ⟨3, _⟩ => ⟨S2x1024x768, .f32⟩
  | .hbm, ⟨4, _⟩ => ⟨S2x768x8, .f32⟩
  | .hbm, ⟨5, _⟩ => ⟨S2x8x768, .f32⟩
  | .hbm, ⟨6, _⟩ => ⟨S2x768x8, .f32⟩
  | .hbm, ⟨7, _⟩ => ⟨S2x768x1024, .f32⟩
  | .hbm, ⟨8, _⟩ => ⟨S2x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdaFwd.lean ====
abbrev S8x1024 : Shape := ⟨2, ![8, 1024]⟩
abbrev S2x1024x768 : Shape := ⟨3, ![2, 1024, 768]⟩
abbrev S2x768 : Shape := ⟨2, ![2, 768]⟩
abbrev S2x1x768 : Shape := ⟨3, ![2, 1, 768]⟩
abbrev S2x8x768 : Shape := ⟨3, ![2, 8, 768]⟩
abbrev S1x1024x768 : Shape := ⟨3, ![1, 1024, 768]⟩
abbrev S1024x768 : Shape := ⟨2, ![1024, 768]⟩
abbrev S8x768 : Shape := ⟨2, ![8, 768]⟩
abbrev S1x1x768 : Shape := ⟨3, ![1, 1, 768]⟩
abbrev S1x768 : Shape := ⟨2, ![1, 768]⟩
abbrev S1x8x768 : Shape := ⟨3, ![1, 8, 768]⟩

abbrev nBuf : Space → Nat
  | .hbm => 6
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x768, .f32⟩
  | .hbm, ⟨3, _⟩ => ⟨S2x1x768, .f32⟩
  | .hbm, ⟨4, _⟩ => ⟨S2x8x768, .f32⟩
  | .hbm, ⟨5, _⟩ => ⟨S8x1024, .f32⟩
  | .local _ .vmem, ⟨0, _⟩ => ⟨S8x1024, .f32⟩
  | .local _ .vmem, ⟨1, _⟩ => ⟨S2x1024x768, .f32⟩
  | .local _ .vmem, ⟨2, _⟩ => ⟨S2x1x768, .f32⟩
  | .local _ .vmem, ⟨3, _⟩ => ⟨S2x8x768, .f32⟩
  | .local _ .vmem, ⟨4, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== AdaFwdRefIdeal.lean ====
abbrev S8x1024 : Shape := ⟨2, ![8, 1024]⟩
abbrev S2x1024x768 : Shape := ⟨3, ![2, 1024, 768]⟩
abbrev S2x768 : Shape := ⟨2, ![2, 768]⟩
abbrev S_ : Shape := ⟨0, ![]⟩
abbrev S2x768x8 : Shape := ⟨3, ![2, 768, 8]⟩
abbrev S2x8x768 : Shape := ⟨3, ![2, 8, 768]⟩
abbrev S2x1x768 : Shape := ⟨3, ![2, 1, 768]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x768x8, .f32⟩
  | .hbm, ⟨13, _⟩ => ⟨S2x8x768, .f32⟩
  | .hbm, ⟨14, _⟩ => ⟨S2x1x768, .f32⟩
  | .hbm, ⟨15, _⟩ => ⟨S2x8x768, .f32⟩
  | .hbm, ⟨16, _⟩ => ⟨S2x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.ConvPure.lean ====
module

public import proofs.«01_k».proof.Proof.Gen.ConvBwdIdeal.Frame
public import proofs.«01_k».proof.Proof.Gen.ConvRefIdeal.Read
public import Idealize.ShloMosaic.Lib.Pipeline.ValueKit

@[expose] public section

set_option maxRecDepth 16384

noncomputable section

open Idealize.ShloMosaic Idealize.ShloMosaic.TcCoe Idealize.SL.Sem

namespace Cert.ConvBwdIdeal.GradPure

open Cert.ConvBwdIdeal Cert.ConvBwdIdeal.Gen
open Cert.ConvRefIdeal.Read

variable (x0 : FVec Ideal S2048x1280 .f32) (x1 : FVec Ideal S2048x1024 .f32) (x2 : FVec Ideal S3x256 .f32) (x3 : FVec Ideal S1x256 .f32)
variable (g c h d : FVec Ideal S2048x128 .f32) (w : FVec Ideal S8x128 .f32) (b : FVec Ideal S1x128 .f32)

/-- One channel of the blocks a grid point loads is channel `k` of the arrays: the gate in columns 0 to 255 of the
    projection, the two factors of the convolved product in columns 256 to 767, the cotangent in columns 512 to 767. -/
structure Channel (l : Fin 128) (k : Fin 256) : Prop where
  gate : ∀ r : Fin 2048, g (ix2 r l) = x0 (ix2 r ⟨k.val, by omega⟩)
  left : ∀ r : Fin 2048, c (ix2 r l) = x0 (ix2 r ⟨256 + k.val, by omega⟩)
  right : ∀ r : Fin 2048, h (ix2 r l) = x0 (ix2 r ⟨512 + k.val, by omega⟩)
  ct : ∀ r : Fin 2048, d (ix2 r l) = x1 (ix2 r ⟨512 + k.val, by omega⟩)
  tap0 : w (ix2 0 l) = x2 (ix2 0 k)
  tap1 : w (ix2 1 l) = x2 (ix2 1 k)
  tap2 : w (ix2 2 l) = x2 (ix2 2 k)
  bias : b (ix2 0 l) = x3 (ix2 0 k)

variable {x0 x1 x2 x3 g c h d w b}

theorem sel_ge1 (r : Fin 2048) (a : EReal) :
    Scalar.select (IntOp.cmpi .sge (BitVec.ofNat 32 r.val) 1#32) a 0 = if 1 ≤ r.val then a else 0 := by
  word_cmp

theorem sel_ge2 (r : Fin 2048) (a : EReal) :
    Scalar.select (IntOp.cmpi .sge (BitVec.ofNat 32 r.val) 2#32) a 0 = if 2 ≤ r.val then a else 0 := by
  word_cmp

theorem sel_lt1 (r : Fin 2048) (a : EReal) :
    Scalar.select (IntOp.cmpi .slt (BitVec.ofNat 32 r.val) 2047#32) a 0 = if r.val < 2047 then a else 0 := by
  word_cmp

theorem sel_lt2 (r : Fin 2048) (a : EReal) :
    Scalar.select (IntOp.cmpi .slt (BitVec.ofNat 32 r.val) 2046#32) a 0 = if r.val < 2046 then a else 0 := by
  word_cmp

/-- The transposed convolution of a column: the rolled and masked sum of the kernel is the padded sum of the reference. -/
theorem back_at (p q : Fin 2048 → EReal) (t0 t1 t2 : EReal) (r : Fin 2048) :
    (t2 * (q r * p r) +
          Scalar.select (IntOp.cmpi .slt (BitVec.ofNat 32 r.val) 2047#32)
            (t1 * (q ⟨(r.val + 2048 - 2047) % 2048, by omega⟩ * p ⟨(r.val + 2048 - 2047) % 2048, by omega⟩)) 0 +
        Scalar.select (IntOp.cmpi .slt (BitVec.ofNat 32 r.val) 2046#32)
          (t0 * (q ⟨(r.val + 2048 - 2046) % 2048, by omega⟩ * p ⟨(r.val + 2048 - 2046) % 2048, by omega⟩)) 0) =
    ((p r * q r * t2 +
          if h : 1 ≤ 2 + r.val ∧ 2 + r.val - 1 < 2048 then
            p ⟨2 + r.val - 1, by omega⟩ * q ⟨2 + r.val - 1, by omega⟩ * t1 else 0) +
        if h : 2 + r.val < 2048 then p ⟨2 + r.val, by omega⟩ * q ⟨2 + r.val, by omega⟩ * t0 else 0) := by
  rw [sel_lt1, sel_lt2]
  by_cases h2 : r.val < 2046
  · rw [if_pos h2, if_pos (by omega), dif_pos (by omega), dif_pos (by omega)]
    rw [show (⟨(r.val + 2048 - 2046) % 2048, by omega⟩ : Fin 2048) = ⟨2 + r.val, by omega⟩ from Fin.ext (by simp only []; omega)]
    rw [show (⟨(r.val + 2048 - 2047) % 2048, by omega⟩ : Fin 2048) = ⟨2 + r.val - 1, by omega⟩ from Fin.ext (by simp only []; omega)]
    ac_rfl
  · by_cases h1 : r.val < 2047
    · rw [if_neg h2, if_pos h1, dif_pos (by omega), dif_neg (by omega)]
      rw [show (⟨(r.val + 2048 - 2047) % 2048, by omega⟩ : Fin 2048) = ⟨2 + r.val - 1, by omega⟩ from Fin.ext (by simp only []; omega)]
      ac_rfl
    · rw [if_neg h2, if_neg h1, dif_neg (by omega), dif_neg (by omega)]
      ac_rfl

theorem gate_at {l : Fin 128} {k : Fin 256} (H : Channel x0 x1 x2 x3 g c h d w b l k) (r : Fin 2048) :
    k0_pay6 (F := Ideal) c h d w b (ix2 r l) = val_main_v72 (F := Ideal) x0 x1 x2 x3 (ix2 r k) := by
  pointwise [k0_pay6, k0_pay2, k0_pay3, k0_pay4, k0_pay5, H.left, H.right, H.ct, H.tap0, H.tap1, H.tap2, H.bias, val_main_v0, val_main_v1, val_main_v2, val_main_cst, val_main_v3, val_main_v4, val_main_v5, val_main_cst_0,
    val_main_v6, val_main_v7, val_main_v8, val_main_v9, val_main_v10, val_main_v11, val_main_v12, val_main_cst_1,
    val_main_v13, val_main_v14, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v32, val_main_v33,
    val_main_v34, val_main_cst_2, val_main_v35, val_main_v36, val_main_v37, val_main_cst_3, val_main_v38,
    val_main_v39, val_main_v40, val_main_v41, val_main_cst_4, val_main_v42, val_main_v43, val_main_cst_5,
    val_main_v44, val_main_cst_6, val_main_v45, val_main_v46, val_main_cst_7, val_main_v47, val_main_v48,
    val_main_v49, val_main_v50, val_main_cst_8, val_main_v51, val_main_v52, val_main_cst_9, val_main_v53,
    val_main_v54, val_main_cst_10, val_main_v55, val_main_v56, val_main_v57, val_main_cst_11, val_main_v58,
    val_main_v59, val_main_v60, val_main_v61, val_main_cst_12, val_main_v62, val_main_v63, val_main_cst_13,
    val_main_v64, val_main_v65, val_main_cst_14, val_main_v66, val_main_v67, val_main_v68, val_main_v69,
    val_main_v70, val_main_v71, val_main_v72, val_main_v73, val_main_v74, val_main_c, val_main_call0_v0,
    val_main_v75]
  rw [sel_ge1, sel_ge2]
  by_cases h2 : 2 ≤ r.val
  · rw [if_pos h2, if_pos (by omega), dif_neg (by omega), dif_neg (by omega)]
    rw [show (⟨(r.val + 2048 - 2) % 2048, by omega⟩ : Fin 2048) = ⟨r.val - 2, by omega⟩ from Fin.ext (by simp only []; omega)]
    rw [show (⟨(r.val + 2048 - 1) % 2048, by omega⟩ : Fin 2048) = ⟨1 + r.val - 2, by omega⟩ from Fin.ext (by simp only []; omega)]
    ac_rfl
  · by_cases h1 : 1 ≤ r.val
    · rw [if_neg h2, if_pos h1, dif_pos (by omega), dif_neg (by omega), zero_mul]
      rw [show (⟨(r.val + 2048 - 1) % 2048, by omega⟩ : Fin 2048) = ⟨1 + r.val - 2, by omega⟩ from Fin.ext (by simp only []; omega)]
      ac_rfl
    · rw [if_neg h2, if_neg h1, dif_pos (by omega), dif_pos (by omega), zero_mul, zero_mul]
      ac_rfl

theorem left_at {l : Fin 128} {k : Fin 256} (H : Channel x0 x1 x2 x3 g c h d w b l k) (r : Fin 2048) :
    k0_pay11 (F := Ideal) h (k0_pay2 w) (k0_pay7 d g) (ix2 r l) = val_main_v73 (F := Ideal) x0 x1 x2 (ix2 r k) := by
  pointwise [k0_pay11, k0_pay10, k0_pay2, k0_pay7, H.gate, H.right, H.ct, H.tap0, H.tap1, H.tap2, H.bias, val_main_v0, val_main_v1, val_main_v2, val_main_cst, val_main_v3, val_main_v4, val_main_v5, val_main_cst_0,
    val_main_v6, val_main_v7, val_main_v8, val_main_v9, val_main_v10, val_main_v11, val_main_v12, val_main_cst_1,
    val_main_v13, val_main_v14, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v32, val_main_v33,
    val_main_v34, val_main_cst_2, val_main_v35, val_main_v36, val_main_v37, val_main_cst_3, val_main_v38,
    val_main_v39, val_main_v40, val_main_v41, val_main_cst_4, val_main_v42, val_main_v43, val_main_cst_5,
    val_main_v44, val_main_cst_6, val_main_v45, val_main_v46, val_main_cst_7, val_main_v47, val_main_v48,
    val_main_v49, val_main_v50, val_main_cst_8, val_main_v51, val_main_v52, val_main_cst_9, val_main_v53,
    val_main_v54, val_main_cst_10, val_main_v55, val_main_v56, val_main_v57, val_main_cst_11, val_main_v58,
    val_main_v59, val_main_v60, val_main_v61, val_main_cst_12, val_main_v62, val_main_v63, val_main_cst_13,
    val_main_v64, val_main_v65, val_main_cst_14, val_main_v66, val_main_v67, val_main_v68, val_main_v69,
    val_main_v70, val_main_v71, val_main_v72, val_main_v73, val_main_v74, val_main_c, val_main_call0_v0,
    val_main_v75]
  exact congrArg (· * _) (back_at (fun r => x0 (ix2 r ⟨k.val, by omega⟩)) (fun r => x1 (ix2 r ⟨512 + k.val, by omega⟩)) _ _ _ r)

theorem right_at {l : Fin 128} {k : Fin 256} (H : Channel x0 x1 x2 x3 g c h d w b l k) (r : Fin 2048) :
    k0_pay1 (F := Ideal) c (k0_pay10 (k0_pay2 w) (k0_pay7 d g)) (ix2 r l) = val_main_v74 (F := Ideal) x0 x1 x2 (ix2 r k) := by
  pointwise [k0_pay1, k0_pay10, k0_pay2, k0_pay7, H.gate, H.left, H.ct, H.tap0, H.tap1, H.tap2, H.bias, val_main_v0, val_main_v1, val_main_v2, val_main_cst, val_main_v3, val_main_v4, val_main_v5, val_main_cst_0,
    val_main_v6, val_main_v7, val_main_v8, val_main_v9, val_main_v10, val_main_v11, val_main_v12, val_main_cst_1,
    val_main_v13, val_main_v14, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v32, val_main_v33,
    val_main_v34, val_main_cst_2, val_main_v35, val_main_v36, val_main_v37, val_main_cst_3, val_main_v38,
    val_main_v39, val_main_v40, val_main_v41, val_main_cst_4, val_main_v42, val_main_v43, val_main_cst_5,
    val_main_v44, val_main_cst_6, val_main_v45, val_main_v46, val_main_cst_7, val_main_v47, val_main_v48,
    val_main_v49, val_main_v50, val_main_cst_8, val_main_v51, val_main_v52, val_main_cst_9, val_main_v53,
    val_main_v54, val_main_cst_10, val_main_v55, val_main_v56, val_main_v57, val_main_cst_11, val_main_v58,
    val_main_v59, val_main_v60, val_main_v61, val_main_cst_12, val_main_v62, val_main_v63, val_main_cst_13,
    val_main_v64, val_main_v65, val_main_cst_14, val_main_v66, val_main_v67, val_main_v68, val_main_v69,
    val_main_v70, val_main_v71, val_main_v72, val_main_v73, val_main_v74, val_main_c, val_main_call0_v0,
    val_main_v75]
  exact (congrArg (· * _) (back_at (fun r => x0 (ix2 r ⟨k.val, by omega⟩)) (fun r => x1 (ix2 r ⟨512 + k.val, by omega⟩)) _ _ _ r)).trans
    (mul_comm _ _)

/-- A sum over the rows, the first two apart. -/
theorem sum_two (f : Fin 2048 → EReal) :
    ∑ x, f x = ∑ x : Fin 2, f ⟨x.val, by omega⟩ + ∑ x : Fin 2046, f ⟨2 + x.val, by omega⟩ :=
  Fin.sum_univ_add (a := 2) (b := 2046) f

/-- The gradient of the tap two rows back. -/
theorem tap0_sum (p q c h : Fin 2048 → EReal) :
    ∑ x : Fin 2048, Scalar.select (IntOp.cmpi .sge (BitVec.ofNat 32 x.val) 2#32)
        (q x * p x * (c ⟨(x.val + 2048 - 2) % 2048, by omega⟩ * h ⟨(x.val + 2048 - 2) % 2048, by omega⟩)) 0 =
      ∑ x : Fin 2, 0 * (p ⟨x.val, by omega⟩ * q ⟨x.val, by omega⟩) +
        ∑ x : Fin 2046, c ⟨x.val, by omega⟩ * h ⟨x.val, by omega⟩ * (p ⟨2 + x.val, by omega⟩ * q ⟨2 + x.val, by omega⟩) := by
  rw [sum_two]
  refine congrArg₂ (· + ·) (Finset.sum_congr rfl fun x _ => ?_) (Finset.sum_congr rfl fun x _ => ?_)
  · exact (sel_ge2 ⟨x.val, by omega⟩ _).trans ((if_neg (by simp only []; omega)).trans (zero_mul _).symm)
  · refine (sel_ge2 ⟨2 + x.val, by omega⟩ _).trans ((if_pos (by simp only []; omega)).trans ?_)
    rw [show (⟨(2 + x.val + 2048 - 2) % 2048, by omega⟩ : Fin 2048) = ⟨x.val, by omega⟩ from Fin.ext (by simp only []; omega)]
    ac_rfl

/-- The gradient of the tap one row back. -/
theorem tap1_sum (p q c h : Fin 2048 → EReal) :
    ∑ x : Fin 2048, Scalar.select (IntOp.cmpi .sge (BitVec.ofNat 32 x.val) 1#32)
        (q x * p x * (c ⟨(x.val + 2048 - 1) % 2048, by omega⟩ * h ⟨(x.val + 2048 - 1) % 2048, by omega⟩)) 0 =
      ∑ x : Fin 2048, (if h' : 1 + x.val < 2 then 0 else
        c ⟨1 + x.val - 2, by omega⟩ * h ⟨1 + x.val - 2, by omega⟩) * (p x * q x) := by
  refine Finset.sum_congr rfl fun x _ => (sel_ge1 x _).trans ?_
  by_cases hx : 1 ≤ x.val
  · rw [if_pos hx, dif_neg (by omega)]
    rw [show (⟨(x.val + 2048 - 1) % 2048, by omega⟩ : Fin 2048) = ⟨1 + x.val - 2, by omega⟩ from Fin.ext (by simp only []; omega)]
    ac_rfl
  · rw [if_neg hx, dif_pos (by omega), zero_mul]

theorem taps_at {l : Fin 128} {k : Fin 256} (H : Channel x0 x1 x2 x3 g c h d w b l k) (r : Fin 8) :
    k0_pay9 (F := Ideal) (k0_pay3 c h) (k0_pay4 c h) (k0_pay5 c h) (k0_pay7 d g) (ix2 r l) = val_main_v75 (F := Ideal) x0 x1 (ix2 r k) := by
  pointwise [k0_pay9, k0_pay3, k0_pay4, k0_pay5, k0_pay7, H.gate, H.left, H.right, H.ct, val_main_v0, val_main_v1, val_main_v2, val_main_cst, val_main_v3, val_main_v4, val_main_v5, val_main_cst_0,
    val_main_v6, val_main_v7, val_main_v8, val_main_v9, val_main_v10, val_main_v11, val_main_v12, val_main_cst_1,
    val_main_v13, val_main_v14, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v32, val_main_v33,
    val_main_v34, val_main_cst_2, val_main_v35, val_main_v36, val_main_v37, val_main_cst_3, val_main_v38,
    val_main_v39, val_main_v40, val_main_v41, val_main_cst_4, val_main_v42, val_main_v43, val_main_cst_5,
    val_main_v44, val_main_cst_6, val_main_v45, val_main_v46, val_main_cst_7, val_main_v47, val_main_v48,
    val_main_v49, val_main_v50, val_main_cst_8, val_main_v51, val_main_v52, val_main_cst_9, val_main_v53,
    val_main_v54, val_main_cst_10, val_main_v55, val_main_v56, val_main_v57, val_main_cst_11, val_main_v58,
    val_main_v59, val_main_v60, val_main_v61, val_main_cst_12, val_main_v62, val_main_v63, val_main_cst_13,
    val_main_v64, val_main_v65, val_main_cst_14, val_main_v66, val_main_v67, val_main_v68, val_main_v69,
    val_main_v70, val_main_v71, val_main_v72, val_main_v73, val_main_v74, val_main_c, val_main_call0_v0,
    val_main_v75]
  by_cases h0 : r.val = 0
  · refine (dif_pos (by omega)).trans (Eq.symm ((dif_pos (by omega)).trans ?_))
    refine (congrArg₂ (· + ·) (congrArg₂ (· + ·) (dif_neg (by omega)) (dif_neg (by omega))) (dif_pos (by omega))).trans ?_
    refine (congrArg (· + _) (zero_add _)).trans ((zero_add _).trans ((Fin.sum_univ_one _).trans ?_))
    exact (tap0_sum (fun r => x0 (ix2 r ⟨k.val, by omega⟩)) (fun r => x1 (ix2 r ⟨512 + k.val, by omega⟩))
      (fun r => x0 (ix2 r ⟨256 + k.val, by omega⟩)) (fun r => x0 (ix2 r ⟨512 + k.val, by omega⟩))).symm
  · refine (dif_neg (by omega)).trans ?_
    by_cases h1 : r.val = 1
    · refine (dif_pos (by omega)).trans (Eq.symm ((dif_pos (by omega)).trans ?_))
      refine (congrArg₂ (· + ·) (congrArg₂ (· + ·) (dif_neg (by omega)) (dif_pos (by omega))) (dif_neg (by omega))).trans ?_
      refine (add_zero _).trans ((zero_add _).trans ((Fin.sum_univ_one _).trans ?_))
      exact (tap1_sum (fun r => x0 (ix2 r ⟨k.val, by omega⟩)) (fun r => x1 (ix2 r ⟨512 + k.val, by omega⟩))
        (fun r => x0 (ix2 r ⟨256 + k.val, by omega⟩)) (fun r => x0 (ix2 r ⟨512 + k.val, by omega⟩))).symm
    · refine (dif_neg (by omega)).trans ?_
      by_cases h2 : r.val = 2
      · refine (dif_pos (by omega)).trans (Eq.symm ((dif_pos (by omega)).trans ?_))
        refine (congrArg₂ (· + ·) (congrArg₂ (· + ·) (dif_pos (by omega)) (dif_neg (by omega))) (dif_neg (by omega))).trans ?_
        refine (add_zero _).trans ((add_zero _).trans ((Fin.sum_univ_one _).trans ?_))
        exact Finset.sum_congr rfl fun x _ => (mul_comm _ _).trans (congrArg (· * _) (mul_comm _ _))
      · refine (dif_neg (by omega)).trans (Eq.symm ((dif_neg (by omega)).trans ?_))
        simp [FloatOps.sitofp]

theorem bias_at {l : Fin 128} {k : Fin 256} (H : Channel x0 x1 x2 x3 g c h d w b l k) (r : Fin 1) :
    k0_pay8 (F := Ideal) (k0_pay7 d g) (ix2 r l) = val_main_v36 (F := Ideal) x0 x1 (ix2 r k) := by
  pointwise [k0_pay8, k0_pay7, H.gate, H.ct, val_main_v0, val_main_v1, val_main_v2, val_main_cst, val_main_v3, val_main_v4, val_main_v5, val_main_cst_0,
    val_main_v6, val_main_v7, val_main_v8, val_main_v9, val_main_v10, val_main_v11, val_main_v12, val_main_cst_1,
    val_main_v13, val_main_v14, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v32, val_main_v33,
    val_main_v34, val_main_cst_2, val_main_v35, val_main_v36, val_main_v37, val_main_cst_3, val_main_v38,
    val_main_v39, val_main_v40, val_main_v41, val_main_cst_4, val_main_v42, val_main_v43, val_main_cst_5,
    val_main_v44, val_main_cst_6, val_main_v45, val_main_v46, val_main_cst_7, val_main_v47, val_main_v48,
    val_main_v49, val_main_v50, val_main_cst_8, val_main_v51, val_main_v52, val_main_cst_9, val_main_v53,
    val_main_v54, val_main_cst_10, val_main_v55, val_main_v56, val_main_v57, val_main_cst_11, val_main_v58,
    val_main_v59, val_main_v60, val_main_v61, val_main_cst_12, val_main_v62, val_main_v63, val_main_cst_13,
    val_main_v64, val_main_v65, val_main_cst_14, val_main_v66, val_main_v67, val_main_v68, val_main_v69,
    val_main_v70, val_main_v71, val_main_v72, val_main_v73, val_main_v74, val_main_c, val_main_call0_v0,
    val_main_v75]
  exact Finset.sum_congr rfl fun x _ => mul_comm _ _

end Cert.ConvBwdIdeal.GradPure
-- ==== Proof.ConvValue.lean ====
module

public import proofs.«01_k».proof.Defs
public import proofs.«01_k».proof.Proof.ConvPure
public import proofs.«01_k».proof.Proof.Gen.ConvRefIdeal.Run

@[expose] public section

set_option maxRecDepth 16384

noncomputable section

open Idealize.ShloMosaic Idealize.ShloMosaic.TcCoe Idealize.SL.Sem

namespace Cert.ConvBwdIdeal.GradValue

open Cert.ConvBwdIdeal Cert.ConvBwdIdeal.Gen Cert.ConvBwdIdeal.GradPure

variable (m : (ℓ : Loc nD τ sig) → Buf (Elt Ideal) ℓ)

/-- Where the windows stand at a grid point: a block of 128 channels of each of the three column groups. -/
theorem idx : ∀ t : Fin cfg0.N, win0_0.index t = ![0, t.val] ∧ win0_1.index t = ![0, 2 + t.val] ∧ win0_2.index t = ![0, 4 + t.val]
    ∧ win0_3.index t = ![0, 4 + t.val] ∧ win0_4.index t = ![0, t.val] ∧ win0_5.index t = ![0, t.val]
    ∧ win0_6.index t = ![0, t.val] ∧ win0_7.index t = ![0, t.val] ∧ win0_8.index t = ![0, t.val]
    ∧ win0_9.index t = ![0, t.val] ∧ win0_10.index t = ![0, t.val] ∧ t.val < 2 :=
  (by decide +kernel : ∀ t : Fin grid0.N, _)

theorem eq_ix2 {n0 n1 : ℕ} (y : (⟨2, ![n0, n1]⟩ : Shape).Idx) : y = ix2 (y 0) (y 1) := by
  blk_ext

theorem pad8_at (x : FVec Ideal S3x256 .f32) (v : FVec Ideal S_ .f32) (j : Fin 3) (k : Fin 256) :
    pad S8x256 ![0, 0] ![5, 0] ![0, 0] x v pads_S3x256_S8x256_050_000 h_S_ (ix2 (⟨j.val, by omega⟩ : Fin 8) k) = x (ix2 j k) := by
  pointwise

/-- The taps a window reads are the taps, padded to eight rows by the host. -/
theorem taps8 (c : Dev nD) (j : Fin 3) (k : Fin 256) :
    V m c main_v0 (ix2 (⟨j.val, by omega⟩ : Fin 8) k) = m ((c : Thread nD τ).loc main_arg2) (ix2 j k) := by
  have e : V m c main_v0 = pad S8x256 ![0, 0] ![5, 0] ![0, 0] (m ((c : Thread nD τ).loc main_arg2)) (sitofp (F := Ideal) .f32 (constantI S_ 32 0#32) : FVec Ideal S_ .f32) pads_S3x256_S8x256_050_000 h_S_ := by
    simp only [V, hostOps0, hostOps0_1, List.flatten_cons, List.flatten_nil, List.append_nil, List.cons_append, List.nil_append]
    after_results_simp <;> rfl
  rw [e]
  exact pad8_at _ _ j k

/-- A channel of the blocks at a grid point is that channel of the arrays. -/
theorem channel (c : Dev nD) (t : Fin cfg0.N) (l : Fin 128) :
    Channel (m ((c : Thread nD τ).loc main_arg0)) (m ((c : Thread nD τ).loc main_arg1)) (m ((c : Thread nD τ).loc main_arg2))
      (m ((c : Thread nD τ).loc main_arg3)) (iblk m c 0 t) (iblk m c 1 t) (iblk m c 2 t) (iblk m c 3 t) (iblk m c 4 t) (iblk m c 5 t)
      l ⟨t.val * 128 + l.val, by have := (idx t).2.2.2.2.2.2.2.2.2.2.2; omega⟩ where
  gate r := by blk_ext [iblk, V, idx t]
  left r := by blk_ext [iblk, V, idx t]
  right r := by blk_ext [iblk, V, idx t]
  ct r := by blk_ext [iblk, V, idx t]
  tap0 := (by blk_ext [iblk, idx t] : iblk m c 4 t (ix2 0 l) = V m c main_v0 (ix2 ⟨(0 : Fin 3).val, by omega⟩ _)).trans (taps8 m c 0 _)
  tap1 := (by blk_ext [iblk, idx t] : iblk m c 4 t (ix2 1 l) = V m c main_v0 (ix2 ⟨(1 : Fin 3).val, by omega⟩ _)).trans (taps8 m c 1 _)
  tap2 := (by blk_ext [iblk, idx t] : iblk m c 4 t (ix2 2 l) = V m c main_v0 (ix2 ⟨(2 : Fin 3).val, by omega⟩ _)).trans (taps8 m c 2 _)
  bias := by blk_ext [iblk, V, idx t]

theorem point6 (c : Dev nD) (t : Fin cfg0.N) (y : S2048x128.Idx) :
    k0_pay6 (F := Ideal) (iblk m c 1 t) (iblk m c 2 t) (iblk m c 3 t) (iblk m c 4 t) (iblk m c 5 t) y = Cert.ConvRefIdeal.Read.val_main_v72 (F := Ideal) (m ((c : Thread nD τ).loc main_arg0)) (m ((c : Thread nD τ).loc main_arg1)) (m ((c : Thread nD τ).loc main_arg2)) (m ((c : Thread nD τ).loc main_arg3))
      (ix2 (y 0) ⟨t.val * 128 + (y 1).val, by have := (idx t).2.2.2.2.2.2.2.2.2.2.2; have : (y 1).val < 128 := (y 1).isLt; omega⟩) := by
  obtain ⟨r, l, rfl⟩ : ∃ (r : Fin 2048) (l : Fin 128), y = ix2 r l := ⟨y 0, y 1, by blk_ext⟩
  exact gate_at (channel m c t l) r

theorem final6 (c : Dev nD) : (dats m 0 c).arrAt 6 (cfgs 0).N
    = Cert.ConvRefIdeal.Read.val_main_v72 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  have e : (((cfg0.win 6).blk t).view.emb y) = ix2 (y 0) ⟨t.val * 128 + (y 1).val, by
      have := (idx t).2.2.2.2.2.2.2.2.2.2.2; have : (y 1).val < 128 := (y 1).isLt; omega⟩ := by blk_ext [idx t]
  blk_simp
  rw [after0_6]
  unfold_out out0_6
  frame_out
  exact (point6 m c t y).trans (congrArg _ e.symm)

theorem point7 (c : Dev nD) (t : Fin cfg0.N) (y : S2048x128.Idx) :
    k0_pay11 (F := Ideal) (iblk m c 2 t) (k0_pay2 (iblk m c 4 t)) (k0_pay7 (iblk m c 3 t) (iblk m c 0 t)) y = Cert.ConvRefIdeal.Read.val_main_v73 (F := Ideal) (m ((c : Thread nD τ).loc main_arg0)) (m ((c : Thread nD τ).loc main_arg1)) (m ((c : Thread nD τ).loc main_arg2))
      (ix2 (y 0) ⟨t.val * 128 + (y 1).val, by have := (idx t).2.2.2.2.2.2.2.2.2.2.2; have : (y 1).val < 128 := (y 1).isLt; omega⟩) := by
  obtain ⟨r, l, rfl⟩ : ∃ (r : Fin 2048) (l : Fin 128), y = ix2 r l := ⟨y 0, y 1, by blk_ext⟩
  exact left_at (channel m c t l) r

theorem final7 (c : Dev nD) : (dats m 0 c).arrAt 7 (cfgs 0).N
    = Cert.ConvRefIdeal.Read.val_main_v73 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  have e : (((cfg0.win 7).blk t).view.emb y) = ix2 (y 0) ⟨t.val * 128 + (y 1).val, by
      have := (idx t).2.2.2.2.2.2.2.2.2.2.2; have : (y 1).val < 128 := (y 1).isLt; omega⟩ := by blk_ext [idx t]
  blk_simp
  rw [after0_7]
  unfold_out out0_7
  frame_out
  exact (point7 m c t y).trans (congrArg _ e.symm)

theorem point8 (c : Dev nD) (t : Fin cfg0.N) (y : S2048x128.Idx) :
    k0_pay1 (F := Ideal) (iblk m c 1 t) (k0_pay10 (k0_pay2 (iblk m c 4 t)) (k0_pay7 (iblk m c 3 t) (iblk m c 0 t))) y = Cert.ConvRefIdeal.Read.val_main_v74 (F := Ideal) (m ((c : Thread nD τ).loc main_arg0)) (m ((c : Thread nD τ).loc main_arg1)) (m ((c : Thread nD τ).loc main_arg2))
      (ix2 (y 0) ⟨t.val * 128 + (y 1).val, by have := (idx t).2.2.2.2.2.2.2.2.2.2.2; have : (y 1).val < 128 := (y 1).isLt; omega⟩) := by
  obtain ⟨r, l, rfl⟩ : ∃ (r : Fin 2048) (l : Fin 128), y = ix2 r l := ⟨y 0, y 1, by blk_ext⟩
  exact right_at (channel m c t l) r

theorem final8 (c : Dev nD) : (dats m 0 c).arrAt 8 (cfgs 0).N
    = Cert.ConvRefIdeal.Read.val_main_v74 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  have e : (((cfg0.win 8).blk t).view.emb y) = ix2 (y 0) ⟨t.val * 128 + (y 1).val, by
      have := (idx t).2.2.2.2.2.2.2.2.2.2.2; have : (y 1).val < 128 := (y 1).isLt; omega⟩ := by blk_ext [idx t]
  blk_simp
  rw [after0_8]
  unfold_out out0_8
  frame_out
  exact (point8 m c t y).trans (congrArg _ e.symm)

theorem point9 (c : Dev nD) (t : Fin cfg0.N) (y : S8x128.Idx) :
    k0_pay9 (F := Ideal) (k0_pay3 (iblk m c 1 t) (iblk m c 2 t)) (k0_pay4 (iblk m c 1 t) (iblk m c 2 t)) (k0_pay5 (iblk m c 1 t) (iblk m c 2 t)) (k0_pay7 (iblk m c 3 t) (iblk m c 0 t)) y = Cert.ConvRefIdeal.Read.val_main_v75 (F := Ideal) (m ((c : Thread nD τ).loc main_arg0)) (m ((c : Thread nD τ).loc main_arg1))
      (ix2 (y 0) ⟨t.val * 128 + (y 1).val, by have := (idx t).2.2.2.2.2.2.2.2.2.2.2; have : (y 1).val < 128 := (y 1).isLt; omega⟩) := by
  obtain ⟨r, l, rfl⟩ : ∃ (r : Fin 8) (l : Fin 128), y = ix2 r l := ⟨y 0, y 1, by blk_ext⟩
  exact taps_at (channel m c t l) r

theorem final9 (c : Dev nD) : (dats m 0 c).arrAt 9 (cfgs 0).N
    = Cert.ConvRefIdeal.Read.val_main_v75 (F := Ideal) (m ((c : Thread nD τ).loc main_arg0)) (m ((c : Thread nD τ).loc main_arg1)) := by
  refine (dats m 0 c).arrAt_eq_of_covers 9 _ (by decide +kernel) fun t _ y => ?_
  have e : (((cfg0.win 9).blk t).view.emb y) = ix2 (y 0) ⟨t.val * 128 + (y 1).val, by
      have := (idx t).2.2.2.2.2.2.2.2.2.2.2; have : (y 1).val < 128 := (y 1).isLt; omega⟩ := by blk_ext [idx t]
  blk_simp
  rw [after0_9]
  unfold_out out0_9
  frame_out
  exact (point9 m c t y).trans (congrArg _ e.symm)

theorem point10 (c : Dev nD) (t : Fin cfg0.N) (y : S1x128.Idx) :
    k0_pay8 (F := Ideal) (k0_pay7 (iblk m c 3 t) (iblk m c 0 t)) y = Cert.ConvRefIdeal.Read.val_main_v36 (F := Ideal) (m ((c : Thread nD τ).loc main_arg0)) (m ((c : Thread nD τ).loc main_arg1))
      (ix2 (y 0) ⟨t.val * 128 + (y 1).val, by have := (idx t).2.2.2.2.2.2.2.2.2.2.2; have : (y 1).val < 128 := (y 1).isLt; omega⟩) := by
  obtain ⟨r, l, rfl⟩ : ∃ (r : Fin 1) (l : Fin 128), y = ix2 r l := ⟨y 0, y 1, by blk_ext⟩
  exact bias_at (channel m c t l) r

theorem final10 (c : Dev nD) : (dats m 0 c).arrAt 10 (cfgs 0).N
    = Cert.ConvRefIdeal.Read.val_main_v36 (F := Ideal) (m ((c : Thread nD τ).loc main_arg0)) (m ((c : Thread nD τ).loc main_arg1)) := by
  refine (dats m 0 c).arrAt_eq_of_covers 10 _ (by decide +kernel) fun t _ y => ?_
  have e : (((cfg0.win 10).blk t).view.emb y) = ix2 (y 0) ⟨t.val * 128 + (y 1).val, by
      have := (idx t).2.2.2.2.2.2.2.2.2.2.2; have : (y 1).val < 128 := (y 1).isLt; omega⟩ := by blk_ext [idx t]
  blk_simp
  rw [after0_10]
  unfold_out out0_10
  frame_out
  exact (point10 m c t y).trans (congrArg _ e.symm)

/-- The kernel and the reference leave the same five gradients. -/
theorem algebraic : Cert.algebraic_ConvBwdIdeal_ConvRefIdeal (hConvBwdIdeal := Cert.ConvBwdIdeal.Gen.facts)
    (hConvRefIdeal := Cert.ConvRefIdeal.Gen.facts) := by
  pair_intro
  · run_from Cert.ConvBwdIdeal.Gen.run_main m g
    exact V_main_arg2 m _
  · run_from Cert.ConvRefIdeal.Value.run m' g'
    · exact (final6 m _).symm
    · exact (final7 m _).symm
    · exact (final8 m _).symm
    · exact (final9 m _).symm
    · exact (final10 m _).symm

end Cert.ConvBwdIdeal.GradValue
-- ==== Proof.AttnHavoc.lean ====
module

public import Idealize.ShloMosaic.Lib.Pipeline.FrameBody
public import Idealize.ShloMosaic.Lib.Scf
public import Idealize.ShloMosaic.Lib.Tactic
public import Idealize.ShloMosaic.Lib.ReshapeSlab

/-! Programs that keep a resource: whatever such a program loads and stores, it holds the same buffers at its end as at
its start, at contents that are not named. Enough for a frame, where nothing is said of what is computed. -/

@[expose] public section

noncomputable section

namespace Cert.Havoc

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

local notation "𝕄" => MT nD τ sig Unit Val ℕ U ℕ

variable (defs : Defs nD τ sig Val Λ) (𝒱 : Variants) (c : Thread nD τ)

/-- The program runs from `R` to `R`. -/
def Keeps (R : sProp 𝕄) {α : Type} (p : Prog (TpuEff nD τ sig Val Λ c.2) α) : Prop :=
  R ⊢ wp frame (wpE (Ix := Unit) (Name := ℕ) (U := U) (Lvl := ℕ) defs 𝒱 c none) Set.univ p fun _ => R

/-- A memref's buffer, at some contents. -/
def anyOf {sp : Space} {s : Shape} {e : EltTy} (m : Memref sig c.2.kind sp s e) : sProp 𝕄 :=
  iprop(∃ f : Buf Val (m.view.loc c), (m.view.loc c ↦[m.view.set]{fullShare} f))

/-- `R` holds the memref's buffer, and takes it back. -/
def Has (R : sProp 𝕄) {sp : Space} {s : Shape} {e : EltTy} (m : Memref sig c.2.kind sp s e) : Prop :=
  R ⊢ iprop(anyOf (U := U) c m ∗ (anyOf (U := U) c m -∗ R))

variable {defs 𝒱 c}
variable {R : sProp (MT nD τ sig Unit Val ℕ U ℕ)}

theorem Keeps.ret {α : Type} (a : α) : Keeps (U := U) defs 𝒱 c R (pure a : Prog (TpuEff nD τ sig Val Λ c.2) α) :=
  le_wp_ret frame (wpE defs 𝒱 c none) Set.univ a (fun _ => R)

theorem Keeps.bind {α β : Type} {p : Prog (TpuEff nD τ sig Val Λ c.2) α} {k : α → Prog (TpuEff nD τ sig Val Λ c.2) β}
    (hp : Keeps (U := U) defs 𝒱 c R p) (hk : ∀ a, Keeps (U := U) defs 𝒱 c R (k a)) : Keeps (U := U) defs 𝒱 c R (p >>= k) :=
  Hoare.bind frame (wpE defs 𝒱 c none) Set.univ hp hk

theorem Keeps.load {cs : CoreSpace} {s : Shape} {e : EltTy} {m : Memref sig c.2.kind cs s e} {r : LoadRect s} {hl : m.view.LoadsAt r}
    (h : Has (U := U) c R m) : Keeps (U := U) defs 𝒱 c R (Prog.lift (.load m r hl) : Prog (TpuEff nD τ sig Val Λ c.2) (r.shape.Idx → Val e)) := by
  refine BIBase.Entails.trans h ?_
  unfold anyOf
  iintro ⟨⟨%f, H⟩, Hk⟩
  iapply (wp_load 𝒱 c none Set.univ (m := m) (r := r) (f := f) (S := m.view.set) (q := fullShare)
    (by unfold View.setOn View.set; exact Finset.map_subset_map.mpr (Finset.subset_univ _))) $$ H
  iintro H
  iapply (le_wp_ret frame (wpE defs 𝒱 c none) Set.univ)
  iapply Hk
  iexists f
  iexact H

theorem Keeps.store {cs : CoreSpace} {s : Shape} {e : EltTy} {m : Memref sig c.2.kind cs s e} {r : Rect s} {w : r.shape.Idx → Val e}
    {Mk : Finset r.shape.Idx} {hx : (m.access r).Stores Mk} {hm : Mk = Finset.univ ∨ ∀ a, r.stride a = 1}
    (h : Has (U := U) c R m) : Keeps (U := U) defs 𝒱 c R (Prog.lift (.store m r w Mk hx hm) : Prog (TpuEff nD τ sig Val Λ c.2) PUnit) := by
  refine BIBase.Entails.trans h ?_
  unfold anyOf
  iintro ⟨⟨%f, H⟩, Hk⟩
  iapply (wp_store 𝒱 c none Set.univ (m := m) (r := r) (f := f) (S := m.view.set)
    ((m.setOn_access_subset_setOn r Mk).trans (by unfold View.setOn View.set; exact Finset.map_subset_map.mpr (Finset.subset_univ _)))) $$ H
  iintro H
  iapply (le_wp_ret frame (wpE defs 𝒱 c none) Set.univ)
  iapply Hk
  iexists _
  iexact H

theorem Keeps.for {σ : Type} {w : Nat} {l : Scf.Loop w} {hok : l.OK} {init : σ} {body : Fin l.trips → σ → Prog (TpuEff nD τ sig Val Λ c.2) σ}
    (h : ∀ k acc, Keeps (U := U) defs 𝒱 c R (body k acc)) : Keeps (U := U) defs 𝒱 c R (Scf.Loop.for l hok init body) := by
  unfold Keeps
  iintro H
  iapply (Scf.wp_for frame (wpE defs 𝒱 c none) Set.univ l.lb l.ub l.st hok init body (fun _ _ => R) h)
  isplitl [H]
  · iexact H
  · iintro %acc H
    iexact H

theorem Keeps.dite {α : Type} {P : Prop} {_ : Decidable P} {p : P → Prog (TpuEff nD τ sig Val Λ c.2) α} {q : ¬P → Prog (TpuEff nD τ sig Val Λ c.2) α}
    (hp : ∀ h, Keeps (U := U) defs 𝒱 c R (p h)) (hq : ∀ h, Keeps (U := U) defs 𝒱 c R (q h)) : Keeps (U := U) defs 𝒱 c R (if h : P then p h else q h) := by
  split
  · exact hp _
  · exact hq _

theorem Has.left {sp : Space} {s : Shape} {e : EltTy} {m : Memref sig c.2.kind sp s e} : Has (U := U) c iprop(anyOf (U := U) c m ∗ R) m := by
  unfold Has
  iintro ⟨H, HR⟩
  isplitl [H]; · iexact H
  iintro H
  isplitl [H]; · iexact H
  iexact HR

theorem Has.right {P : sProp (MT nD τ sig Unit Val ℕ U ℕ)} {sp : Space} {s : Shape} {e : EltTy} {m : Memref sig c.2.kind sp s e}
    (h : Has (U := U) c R m) : Has (U := U) c iprop(P ∗ R) m := by
  unfold Has at h ⊢
  iintro ⟨HP, HR⟩
  ihave HR := h $$ HR
  icases HR with ⟨H, Hk⟩
  isplitl [H]; · iexact H
  iintro H
  isplitl [HP]; · iexact HP
  iapply Hk
  iexact H

theorem Has.of_owns (c : Thread nD τ) {sp : Space} {s : Shape} {e : EltTy} (m : Memref sig c.2.kind sp s e) {X : s.Idx → Val e} :
    (owns (Ix := Unit) (Name := ℕ) (U := U) (Lvl := ℕ) c m fullShare X : sProp (MT nD τ sig Unit Val ℕ U ℕ)) ⊢ anyOf (U := U) c m := by
  unfold owns anyOf
  iintro ⟨%f, -, H⟩
  iexists f
  iexact H

theorem Has.to_owns (c : Thread nD τ) {sp : Space} {s : Shape} {e : EltTy} (m : Memref sig c.2.kind sp s e) :
    anyOf (U := U) c m ⊢ (iprop(∃ X : s.Idx → Val e, ⌜True⌝ ∗ owns (Ix := Unit) (Name := ℕ) (U := U) (Lvl := ℕ) c m fullShare X) : sProp (MT nD τ sig Unit Val ℕ U ℕ)) := by
  unfold owns anyOf
  iintro ⟨%f, H⟩
  iexists _
  isplitr; · ipureintro; trivial
  iexists f
  isplitr; · ipureintro; rfl
  iexact H

theorem Has.of_whole (c : Thread nD τ) (b : Ref sig c.2.kind) :
    (iprop(∃ f : Buf Val (c.loc b), (c.loc b) ↦{fullShare} f) : sProp (MT nD τ sig Unit Val ℕ U ℕ)) ⊢ anyOf (U := U) c (Memref.whole b) := by
  unfold anyOf
  rw [show (Memref.whole b).view.set = Finset.univ from View.set_whole _]

theorem Has.to_whole (c : Thread nD τ) (b : Ref sig c.2.kind) :
    anyOf (U := U) c (Memref.whole b) ⊢ (iprop(∃ f : Buf Val (c.loc b), (c.loc b) ↦{fullShare} f) : sProp (MT nD τ sig Unit Val ℕ U ℕ)) := by
  unfold anyOf
  rw [show (Memref.whole b).view.set = Finset.univ from View.set_whole _]

end Cert.Havoc

end
-- ==== Proof.AttnIdealParts.lean ====
module

public import proofs.«01_k».proof.Proof.Gen.AttnBwdIdeal.Frame
public import proofs.«01_k».proof.Proof.Gen.AttnBwdIdeal.Skeleton
public import proofs.«01_k».proof.Proof.AttnHavoc

/-! The parts of the idealized attention gradient's body, each from its buffers to its buffers: what it loads and stores is not
named. -/

@[expose] public section

set_option maxRecDepth 65536

noncomputable section

namespace Cert.AttnBwdIdeal.Safe

open Cert.AttnBwdIdeal Cert.AttnBwdIdeal.Gen Cert.Havoc
open Idealize.ShloMosaic Idealize.ShloMosaic.TcCoe
open Idealize.SL Idealize.SL.RA Idealize.SL.BI

variable {F : FTy → Type} [FloatOps F]

local notation "𝒱₀" => Variants.none

variable (c : Dev nD) {R : sProp (MT nD τ sig Unit (Elt F) ℕ (UR sig nD τ) ℕ)} (i : grid0.Coords)
variable {arg2 : Memref sig .tc .vmem S512x128 .bf16} (harg2 : arg2.IsWhole)
variable {arg3 : Memref sig .tc .vmem S2048x128 .bf16} (harg3 : arg3.IsWhole)
variable {arg4 : Memref sig .tc .vmem S2048x128 .bf16} (harg4 : arg4.IsWhole)
variable {arg5 : Memref sig .tc .vmem S512x128 .f32} (harg5 : arg5.IsWhole)
variable {arg6 : Memref sig .tc .vmem S2x512x128 .f32} (harg6 : arg6.IsWhole)
variable {arg7 : Memref sig .tc .vmem S512x128 .bf16} (harg7 : arg7.IsWhole)
variable {arg8 : Memref sig .tc .vmem S2048x128 .bf16} (harg8 : arg8.IsWhole)
variable {arg9 : Memref sig .tc .vmem S2048x128 .bf16} (harg9 : arg9.IsWhole)
variable {arg10 : Memref sig .tc .vmem S8x128x128 .f32} (harg10 : arg10.IsWhole)
variable {arg11 : Memref sig .tc .vmem S8x128x128 .f32} (harg11 : arg11.IsWhole)
variable {arg12 : Memref sig .tc .vmem S8x128x128 .f32} (harg12 : arg12.IsWhole)
variable {arg13 : Memref sig .tc .vmem S8x128x128 .f32} (harg13 : arg13.IsWhole)
variable {arg14 : Memref sig .tc .vmem S8x128x128 .f32} (harg14 : arg14.IsWhole)
variable {arg15 : Memref sig .tc .vmem S8x128x128 .f32} (harg15 : arg15.IsWhole)
variable {arg16 : Memref sig .tc .vmem S2x512x128 .bf16} (harg16 : arg16.IsWhole)
variable {arg17 : Memref sig .tc .vmem S2x512x128 .bf16} (harg17 : arg17.IsWhole)
variable {arg18 : Memref sig .tc .vmem S512x128 .f32} (harg18 : arg18.IsWhole)
variable {arg19 : Memref sig .tc .vmem S2048x128 .f32} (harg19 : arg19.IsWhole)
variable {arg20 : Memref sig .tc .vmem S2048x128 .f32} (harg20 : arg20.IsWhole)
variable (h2 : Has (U := UR sig nD τ) (c : Thread nD τ) R arg2)
variable (h3 : Has (U := UR sig nD τ) (c : Thread nD τ) R arg3)
variable (h4 : Has (U := UR sig nD τ) (c : Thread nD τ) R arg4)
variable (h5 : Has (U := UR sig nD τ) (c : Thread nD τ) R arg5)
variable (h6 : Has (U := UR sig nD τ) (c : Thread nD τ) R arg6)
variable (h7 : Has (U := UR sig nD τ) (c : Thread nD τ) R arg7)
variable (h8 : Has (U := UR sig nD τ) (c : Thread nD τ) R arg8)
variable (h9 : Has (U := UR sig nD τ) (c : Thread nD τ) R arg9)
variable (h10 : Has (U := UR sig nD τ) (c : Thread nD τ) R arg10)
variable (h11 : Has (U := UR sig nD τ) (c : Thread nD τ) R arg11)
variable (h12 : Has (U := UR sig nD τ) (c : Thread nD τ) R arg12)
variable (h13 : Has (U := UR sig nD τ) (c : Thread nD τ) R arg13)
variable (h14 : Has (U := UR sig nD τ) (c : Thread nD τ) R arg14)
variable (h15 : Has (U := UR sig nD τ) (c : Thread nD τ) R arg15)
variable (h16 : Has (U := UR sig nD τ) (c : Thread nD τ) R arg16)
variable (h17 : Has (U := UR sig nD τ) (c : Thread nD τ) R arg17)
variable (h18 : Has (U := UR sig nD τ) (c : Thread nD τ) R arg18)
variable (h19 : Has (U := UR sig nD τ) (c : Thread nD τ) R arg19)
variable (h20 : Has (U := UR sig nD τ) (c : Thread nD τ) R arg20)
include h2 h3 h4 h5 h6 h7 h8 h9 h10 h11 h12 h13 h14 h15 h16 h17 h18 h19 h20

theorem part85 : Keeps (U := UR sig nD τ) defs₀ 𝒱₀ (c : Thread nD τ) R (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  rw [k0_part85_eq_skeleton]
  delta k0_part85_skel
  exact .dite (fun _ => .bind (.load h19) fun _ => .bind (.store h19) fun _ => .bind (.load h20) fun _ => .bind (.store h20) fun _ => .bind (.load h2) fun _ => .bind (.load h5) fun _ => .ret _) (fun _ => .bind (.load h2) fun _ => .bind (.load h5) fun _ => .ret _)

theorem part86 : ∀ x0 x1 x2 x3, Keeps (U := UR sig nD τ) defs₀ 𝒱₀ (c : Thread nD τ) R (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3) := by
  intro x0 x1 x2 x3
  rw [k0_part86_eq_skeleton]
  delta k0_part86_skel
  exact .ret _

theorem part87 : ∀ x0 x1 x2 x3, Keeps (U := UR sig nD τ) defs₀ 𝒱₀ (c : Thread nD τ) R (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3) := by
  intro x0 x1 x2 x3
  rw [k0_part87_eq_skeleton]
  delta k0_part87_skel
  exact .bind (.load h18) fun _ => .bind (.store h18) fun _ => .bind (.load h14) fun _ => .bind (.store h14) fun _ => .bind (.load h15) fun _ => .bind (.store h15) fun _ => .bind (.load h16) fun _ => .bind (.store h16) fun _ => .bind (.load h17) fun _ => .bind (.store h17) fun _ => .bind (.load h3) fun _ => .ret _

theorem part88 : ∀ x0 x1 x2 x3 x4 x5 x6 x7 x8, Keeps (U := UR sig nD τ) defs₀ 𝒱₀ (c : Thread nD τ) R (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8) := by
  intro x0 x1 x2 x3 x4 x5 x6 x7 x8
  rw [k0_part88_eq_skeleton]
  delta k0_part88_skel
  exact .bind (.load h4) fun _ => .bind (.load h10) fun _ => .bind (.store h10) fun _ => .bind (.load h12) fun _ => .bind (.store h12) fun _ => .bind (.load h10) fun _ => .bind (.store h10) fun _ => .bind (.load h12) fun _ => .bind (.store h12) fun _ => .bind (.load h10) fun _ => .bind (.store h10) fun _ => .bind (.load h12) fun _ => .bind (.store h12) fun _ => .ret _

theorem part89 : ∀ x0 x1 x2 x3 x4 x5 x6 x7 x8, Keeps (U := UR sig nD τ) defs₀ 𝒱₀ (c : Thread nD τ) R (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8) := by
  intro x0 x1 x2 x3 x4 x5 x6 x7 x8
  rw [k0_part89_eq_skeleton]
  delta k0_part89_skel
  exact .bind (.load h10) fun _ => .bind (.store h10) fun _ => .bind (.load h12) fun _ => .bind (.store h12) fun _ => .bind (.load h10) fun _ => .bind (.store h10) fun _ => .bind (.load h12) fun _ => .bind (.store h12) fun _ => .bind (.load h10) fun _ => .bind (.store h10) fun _ => .bind (.load h12) fun _ => .bind (.store h12) fun _ => .bind (.load h10) fun _ => .ret _

theorem part90 : ∀ x0 x1 x2 x3 x4 x5 x6, Keeps (U := UR sig nD τ) defs₀ 𝒱₀ (c : Thread nD τ) R (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part90_eq_skeleton]
  delta k0_part90_skel
  exact .bind (.store h10) fun _ => .bind (.load h12) fun _ => .bind (.store h12) fun _ => .bind (.load h10) fun _ => .bind (.store h10) fun _ => .bind (.load h12) fun _ => .bind (.store h12) fun _ => .ret _

theorem part1 : ∀ x0 x1 x2 x3 x4, Keeps (U := UR sig nD τ) defs₀ 𝒱₀ (c : Thread nD τ) R (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part1_eq_skeleton]
  delta k0_part1_skel
  exact .bind (.load h3) fun _ => .bind (.load h18) fun _ => .bind (.load h16) fun _ => .bind (.load h16) fun _ => .bind (.load h18) fun _ => .bind (.store h18) fun _ => .bind (.load h18) fun _ => .bind (.load h16) fun _ => .bind (.load h16) fun _ => .ret _

theorem part2 : ∀ x0 x1 x2 x3 x4, Keeps (U := UR sig nD τ) defs₀ 𝒱₀ (c : Thread nD τ) R (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part2_eq_skeleton]
  delta k0_part2_skel
  exact .bind (.load h18) fun _ => .bind (.store h18) fun _ => .bind (.load h18) fun _ => .bind (.load h16) fun _ => .bind (.load h16) fun _ => .bind (.load h18) fun _ => .bind (.store h18) fun _ => .bind (.load h18) fun _ => .bind (.load h16) fun _ => .bind (.load h16) fun _ => .ret _

theorem part3 : ∀ x0 x1 x2 x3 x4 x5 x6 x7, Keeps (U := UR sig nD τ) defs₀ 𝒱₀ (c : Thread nD τ) R (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7) := by
  intro x0 x1 x2 x3 x4 x5 x6 x7
  rw [k0_part3_eq_skeleton]
  delta k0_part3_skel
  exact .bind (.load h18) fun _ => .bind (.store h18) fun _ => .bind (.load h19) fun _ => .bind (.load h16) fun _ => .bind (.load h16) fun _ => .bind (.load h19) fun _ => .bind (.store h19) fun _ => .bind (.load h20) fun _ => .bind (.load h17) fun _ => .bind (.load h17) fun _ => .ret _

theorem part4 : ∀ x0 x1 x2 x3 x4 x5 x6 x7 x8 x9 x10, Keeps (U := UR sig nD τ) defs₀ 𝒱₀ (c : Thread nD τ) R (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10) := by
  intro x0 x1 x2 x3 x4 x5 x6 x7 x8 x9 x10
  rw [k0_part4_eq_skeleton]
  delta k0_part4_skel
  exact .bind (.load h20) fun _ => .bind (.store h20) fun _ => .bind (.load h3) fun _ => .bind (.load h4) fun _ => .bind (.load h11) fun _ => .bind (.store h11) fun _ => .bind (.load h13) fun _ => .bind (.store h13) fun _ => .bind (.load h11) fun _ => .bind (.store h11) fun _ => .ret _

theorem part5 : ∀ x0 x1 x2 x3 x4 x5 x6 x7 x8, Keeps (U := UR sig nD τ) defs₀ 𝒱₀ (c : Thread nD τ) R (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8) := by
  intro x0 x1 x2 x3 x4 x5 x6 x7 x8
  rw [k0_part5_eq_skeleton]
  delta k0_part5_skel
  exact .bind (.load h13) fun _ => .bind (.store h13) fun _ => .bind (.load h11) fun _ => .bind (.store h11) fun _ => .bind (.load h13) fun _ => .bind (.store h13) fun _ => .bind (.load h11) fun _ => .bind (.store h11) fun _ => .bind (.load h13) fun _ => .bind (.store h13) fun _ => .bind (.load h11) fun _ => .bind (.store h11) fun _ => .bind (.load h13) fun _ => .bind (.store h13) fun _ => .ret _

theorem part6 : ∀ x0 x1 x2 x3 x4 x5 x6 x7 x8, Keeps (U := UR sig nD τ) defs₀ 𝒱₀ (c : Thread nD τ) R (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8) := by
  intro x0 x1 x2 x3 x4 x5 x6 x7 x8
  rw [k0_part6_eq_skeleton]
  delta k0_part6_skel
  exact .bind (.load h11) fun _ => .bind (.store h11) fun _ => .bind (.load h13) fun _ => .bind (.store h13) fun _ => .bind (.load h11) fun _ => .bind (.store h11) fun _ => .bind (.load h13) fun _ => .bind (.store h13) fun _ => .bind (.load h11) fun _ => .bind (.store h11) fun _ => .bind (.load h13) fun _ => .bind (.store h13) fun _ => .bind (.load h10) fun _ => .ret _

theorem part7 : ∀ x0 x1 x2, Keeps (U := UR sig nD τ) defs₀ 𝒱₀ (c : Thread nD τ) R (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part7_eq_skeleton]
  delta k0_part7_skel
  exact .bind (.load h10) fun _ => .bind (.load h10) fun _ => .ret _

theorem part8 : ∀ x0 x1 x2, Keeps (U := UR sig nD τ) defs₀ 𝒱₀ (c : Thread nD τ) R (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part8_eq_skeleton]
  delta k0_part8_skel
  exact .bind (.load h10) fun _ => .bind (.load h10) fun _ => .ret _

theorem part9 : ∀ x0, Keeps (U := UR sig nD τ) defs₀ 𝒱₀ (c : Thread nD τ) R (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0) := by
  intro x0
  rw [k0_part9_eq_skeleton]
  delta k0_part9_skel
  exact .bind (.load h10) fun _ => .bind (.load h10) fun _ => .bind (.load h10) fun _ => .ret _

theorem part10 : ∀ x0 x1 x2 x3 x4 x5, Keeps (U := UR sig nD τ) defs₀ 𝒱₀ (c : Thread nD τ) R (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part10_eq_skeleton]
  delta k0_part10_skel
  exact .bind (.load h14) fun _ => .bind (.load h6) fun _ => .bind (.load h10) fun _ => .bind (.load h12) fun _ => .bind (.load h17) fun _ => .bind (.store h17) fun _ => .ret _

theorem part11 : ∀ x0 x1 x2 x3, Keeps (U := UR sig nD τ) defs₀ 𝒱₀ (c : Thread nD τ) R (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3) := by
  intro x0 x1 x2 x3
  rw [k0_part11_eq_skeleton]
  delta k0_part11_skel
  exact .bind (.load h14) fun _ => .bind (.store h14) fun _ => .bind (.load h14) fun _ => .bind (.load h6) fun _ => .bind (.load h10) fun _ => .bind (.load h12) fun _ => .bind (.load h17) fun _ => .bind (.store h17) fun _ => .bind (.load h14) fun _ => .bind (.store h14) fun _ => .bind (.load h14) fun _ => .ret _

theorem part12 : ∀ x0 x1 x2 x3 x4, Keeps (U := UR sig nD τ) defs₀ 𝒱₀ (c : Thread nD τ) R (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part12_eq_skeleton]
  delta k0_part12_skel
  exact .bind (.load h6) fun _ => .bind (.load h10) fun _ => .bind (.load h12) fun _ => .bind (.load h17) fun _ => .bind (.store h17) fun _ => .bind (.load h14) fun _ => .bind (.store h14) fun _ => .bind (.load h14) fun _ => .bind (.load h6) fun _ => .ret _

theorem part13 : ∀ x0 x1 x2 x3 x4 x5 x6, Keeps (U := UR sig nD τ) defs₀ 𝒱₀ (c : Thread nD τ) R (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part13_eq_skeleton]
  delta k0_part13_skel
  exact .bind (.load h10) fun _ => .bind (.load h12) fun _ => .bind (.load h17) fun _ => .bind (.store h17) fun _ => .bind (.load h14) fun _ => .bind (.store h14) fun _ => .bind (.load h14) fun _ => .bind (.load h6) fun _ => .bind (.load h10) fun _ => .ret _

theorem part14 : ∀ x0 x1 x2 x3 x4 x5, Keeps (U := UR sig nD τ) defs₀ 𝒱₀ (c : Thread nD τ) R (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part14_eq_skeleton]
  delta k0_part14_skel
  exact .bind (.load h12) fun _ => .bind (.load h17) fun _ => .bind (.store h17) fun _ => .bind (.load h14) fun _ => .bind (.store h14) fun _ => .bind (.load h14) fun _ => .bind (.load h6) fun _ => .bind (.load h10) fun _ => .bind (.load h12) fun _ => .ret _

theorem part15 : ∀ x0 x1 x2 x3 x4 x5 x6, Keeps (U := UR sig nD τ) defs₀ 𝒱₀ (c : Thread nD τ) R (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part15_eq_skeleton]
  delta k0_part15_skel
  exact .bind (.load h17) fun _ => .bind (.store h17) fun _ => .bind (.load h14) fun _ => .bind (.store h14) fun _ => .bind (.load h14) fun _ => .bind (.load h6) fun _ => .bind (.load h10) fun _ => .bind (.load h12) fun _ => .bind (.load h17) fun _ => .ret _

theorem part16 : ∀ x0 x1 x2 x3 x4 x5, Keeps (U := UR sig nD τ) defs₀ 𝒱₀ (c : Thread nD τ) R (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part16_eq_skeleton]
  delta k0_part16_skel
  exact .bind (.store h17) fun _ => .bind (.load h14) fun _ => .bind (.store h14) fun _ => .bind (.load h14) fun _ => .bind (.load h6) fun _ => .bind (.load h10) fun _ => .bind (.load h12) fun _ => .bind (.load h17) fun _ => .bind (.store h17) fun _ => .bind (.load h14) fun _ => .ret _

theorem part17 : ∀ x0 x1 x2 x3 x4 x5 x6, Keeps (U := UR sig nD τ) defs₀ 𝒱₀ (c : Thread nD τ) R (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part17_eq_skeleton]
  delta k0_part17_skel
  exact .bind (.store h14) fun _ => .bind (.load h15) fun _ => .bind (.load h10) fun _ => .bind (.load h16) fun _ => .bind (.store h16) fun _ => .bind (.load h15) fun _ => .bind (.store h15) fun _ => .bind (.load h15) fun _ => .bind (.load h10) fun _ => .ret _

theorem part18 : ∀ x0 x1 x2 x3 x4 x5, Keeps (U := UR sig nD τ) defs₀ 𝒱₀ (c : Thread nD τ) R (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part18_eq_skeleton]
  delta k0_part18_skel
  exact .bind (.load h16) fun _ => .bind (.store h16) fun _ => .bind (.load h15) fun _ => .bind (.store h15) fun _ => .bind (.load h15) fun _ => .bind (.load h10) fun _ => .bind (.load h16) fun _ => .bind (.store h16) fun _ => .bind (.load h15) fun _ => .bind (.store h15) fun _ => .bind (.load h15) fun _ => .ret _

theorem part19 : ∀ x0 x1 x2 x3 x4 x5 x6, Keeps (U := UR sig nD τ) defs₀ 𝒱₀ (c : Thread nD τ) R (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part19_eq_skeleton]
  delta k0_part19_skel
  exact .bind (.load h10) fun _ => .bind (.load h16) fun _ => .bind (.store h16) fun _ => .bind (.load h15) fun _ => .bind (.store h15) fun _ => .bind (.load h15) fun _ => .bind (.load h10) fun _ => .bind (.load h16) fun _ => .bind (.store h16) fun _ => .ret _

theorem part20 : ∀ x0 x1 x2 x3 x4 x5 x6, Keeps (U := UR sig nD τ) defs₀ 𝒱₀ (c : Thread nD τ) R (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part20_eq_skeleton]
  delta k0_part20_skel
  exact .bind (.load h15) fun _ => .bind (.store h15) fun _ => .bind (.load h15) fun _ => .bind (.load h10) fun _ => .bind (.load h16) fun _ => .bind (.store h16) fun _ => .bind (.load h15) fun _ => .bind (.store h15) fun _ => .bind (.load h15) fun _ => .bind (.load h10) fun _ => .ret _

theorem part21 : ∀ x0 x1 x2 x3 x4 x5 x6, Keeps (U := UR sig nD τ) defs₀ 𝒱₀ (c : Thread nD τ) R (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part21_eq_skeleton]
  delta k0_part21_skel
  exact .bind (.load h16) fun _ => .bind (.store h16) fun _ => .bind (.load h15) fun _ => .bind (.store h15) fun _ => .bind (.load h15) fun _ => .bind (.load h10) fun _ => .bind (.load h16) fun _ => .bind (.store h16) fun _ => .bind (.load h15) fun _ => .bind (.store h15) fun _ => .ret _

theorem part22 : ∀ x0 x1 x2, Keeps (U := UR sig nD τ) defs₀ 𝒱₀ (c : Thread nD τ) R (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part22_eq_skeleton]
  delta k0_part22_skel
  exact .bind (.load h3) fun _ => .bind (.load h18) fun _ => .bind (.load h16) fun _ => .bind (.load h16) fun _ => .bind (.load h18) fun _ => .bind (.store h18) fun _ => .bind (.load h18) fun _ => .bind (.load h16) fun _ => .bind (.load h16) fun _ => .ret _

theorem part23 : ∀ x0 x1 x2 x3 x4 x5, Keeps (U := UR sig nD τ) defs₀ 𝒱₀ (c : Thread nD τ) R (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part23_eq_skeleton]
  delta k0_part23_skel
  exact .bind (.load h18) fun _ => .bind (.store h18) fun _ => .bind (.load h18) fun _ => .bind (.load h16) fun _ => .bind (.load h16) fun _ => .bind (.load h18) fun _ => .bind (.store h18) fun _ => .bind (.load h18) fun _ => .bind (.load h16) fun _ => .bind (.load h16) fun _ => .ret _

theorem part24 : ∀ x0 x1 x2 x3 x4 x5, Keeps (U := UR sig nD τ) defs₀ 𝒱₀ (c : Thread nD τ) R (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part24_eq_skeleton]
  delta k0_part24_skel
  exact .bind (.load h18) fun _ => .bind (.store h18) fun _ => .bind (.load h19) fun _ => .bind (.load h16) fun _ => .bind (.load h16) fun _ => .bind (.load h19) fun _ => .bind (.store h19) fun _ => .bind (.load h20) fun _ => .bind (.load h17) fun _ => .bind (.load h17) fun _ => .ret _

theorem part25 : ∀ x0 x1 x2 x3 x4 x5 x6 x7 x8 x9 x10, Keeps (U := UR sig nD τ) defs₀ 𝒱₀ (c : Thread nD τ) R (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10) := by
  intro x0 x1 x2 x3 x4 x5 x6 x7 x8 x9 x10
  rw [k0_part25_eq_skeleton]
  delta k0_part25_skel
  exact .bind (.load h20) fun _ => .bind (.store h20) fun _ => .bind (.load h3) fun _ => .bind (.load h4) fun _ => .bind (.load h10) fun _ => .bind (.store h10) fun _ => .bind (.load h12) fun _ => .bind (.store h12) fun _ => .bind (.load h10) fun _ => .bind (.store h10) fun _ => .bind (.load h12) fun _ => .ret _

theorem part26 : ∀ x0 x1 x2 x3 x4 x5 x6 x7 x8 x9, Keeps (U := UR sig nD τ) defs₀ 𝒱₀ (c : Thread nD τ) R (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9) := by
  intro x0 x1 x2 x3 x4 x5 x6 x7 x8 x9
  rw [k0_part26_eq_skeleton]
  delta k0_part26_skel
  exact .bind (.store h12) fun _ => .bind (.load h10) fun _ => .bind (.store h10) fun _ => .bind (.load h12) fun _ => .bind (.store h12) fun _ => .bind (.load h10) fun _ => .bind (.store h10) fun _ => .bind (.load h12) fun _ => .bind (.store h12) fun _ => .bind (.load h10) fun _ => .bind (.store h10) fun _ => .bind (.load h12) fun _ => .bind (.store h12) fun _ => .ret _

theorem part27 : ∀ x0 x1 x2 x3 x4 x5 x6 x7, Keeps (U := UR sig nD τ) defs₀ 𝒱₀ (c : Thread nD τ) R (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7) := by
  intro x0 x1 x2 x3 x4 x5 x6 x7
  rw [k0_part27_eq_skeleton]
  delta k0_part27_skel
  exact .bind (.load h10) fun _ => .bind (.store h10) fun _ => .bind (.load h12) fun _ => .bind (.store h12) fun _ => .bind (.load h10) fun _ => .bind (.store h10) fun _ => .bind (.load h12) fun _ => .bind (.store h12) fun _ => .bind (.load h10) fun _ => .bind (.store h10) fun _ => .bind (.load h12) fun _ => .bind (.store h12) fun _ => .bind (.load h11) fun _ => .ret _

theorem part28 : ∀ x0 x1 x2 x3, Keeps (U := UR sig nD τ) defs₀ 𝒱₀ (c : Thread nD τ) R (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3) := by
  intro x0 x1 x2 x3
  rw [k0_part28_eq_skeleton]
  delta k0_part28_skel
  exact .bind (.load h11) fun _ => .bind (.load h11) fun _ => .ret _

theorem part29 : ∀ x0 x1 x2, Keeps (U := UR sig nD τ) defs₀ 𝒱₀ (c : Thread nD τ) R (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part29_eq_skeleton]
  delta k0_part29_skel
  exact .bind (.load h11) fun _ => .bind (.load h11) fun _ => .bind (.load h11) fun _ => .ret _

theorem part30 : ∀ x0 x1 x2, Keeps (U := UR sig nD τ) defs₀ 𝒱₀ (c : Thread nD τ) R (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part30_eq_skeleton]
  delta k0_part30_skel
  exact .bind (.load h11) fun _ => .bind (.load h11) fun _ => .ret _

theorem part31 : ∀ x0 x1 x2 x3 x4 x5, Keeps (U := UR sig nD τ) defs₀ 𝒱₀ (c : Thread nD τ) R (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part31_eq_skeleton]
  delta k0_part31_skel
  exact .bind (.load h14) fun _ => .bind (.load h6) fun _ => .bind (.load h11) fun _ => .bind (.load h13) fun _ => .bind (.load h17) fun _ => .bind (.store h17) fun _ => .bind (.load h14) fun _ => .bind (.store h14) fun _ => .ret _

theorem part32 : ∀ x0 x1 x2, Keeps (U := UR sig nD τ) defs₀ 𝒱₀ (c : Thread nD τ) R (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part32_eq_skeleton]
  delta k0_part32_skel
  exact .bind (.load h14) fun _ => .bind (.load h6) fun _ => .bind (.load h11) fun _ => .bind (.load h13) fun _ => .bind (.load h17) fun _ => .bind (.store h17) fun _ => .bind (.load h14) fun _ => .bind (.store h14) fun _ => .bind (.load h14) fun _ => .bind (.load h6) fun _ => .ret _

theorem part33 : ∀ x0 x1 x2 x3 x4 x5, Keeps (U := UR sig nD τ) defs₀ 𝒱₀ (c : Thread nD τ) R (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part33_eq_skeleton]
  delta k0_part33_skel
  exact .bind (.load h11) fun _ => .bind (.load h13) fun _ => .bind (.load h17) fun _ => .bind (.store h17) fun _ => .bind (.load h14) fun _ => .bind (.store h14) fun _ => .bind (.load h14) fun _ => .bind (.load h6) fun _ => .bind (.load h11) fun _ => .ret _

theorem part34 : ∀ x0 x1 x2 x3 x4 x5 x6 x7, Keeps (U := UR sig nD τ) defs₀ 𝒱₀ (c : Thread nD τ) R (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7) := by
  intro x0 x1 x2 x3 x4 x5 x6 x7
  rw [k0_part34_eq_skeleton]
  delta k0_part34_skel
  exact .bind (.load h13) fun _ => .bind (.load h17) fun _ => .bind (.store h17) fun _ => .bind (.load h14) fun _ => .bind (.store h14) fun _ => .bind (.load h14) fun _ => .bind (.load h6) fun _ => .bind (.load h11) fun _ => .bind (.load h13) fun _ => .ret _

theorem part35 : ∀ x0 x1 x2 x3 x4 x5 x6, Keeps (U := UR sig nD τ) defs₀ 𝒱₀ (c : Thread nD τ) R (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part35_eq_skeleton]
  delta k0_part35_skel
  exact .bind (.load h17) fun _ => .bind (.store h17) fun _ => .bind (.load h14) fun _ => .bind (.store h14) fun _ => .bind (.load h14) fun _ => .bind (.load h6) fun _ => .bind (.load h11) fun _ => .bind (.load h13) fun _ => .ret _

theorem part36 : ∀ x0 x1 x2 x3 x4 x5, Keeps (U := UR sig nD τ) defs₀ 𝒱₀ (c : Thread nD τ) R (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part36_eq_skeleton]
  delta k0_part36_skel
  exact .bind (.load h17) fun _ => .bind (.store h17) fun _ => .bind (.load h14) fun _ => .bind (.store h14) fun _ => .bind (.load h14) fun _ => .bind (.load h6) fun _ => .bind (.load h11) fun _ => .bind (.load h13) fun _ => .bind (.load h17) fun _ => .bind (.store h17) fun _ => .ret _

theorem part37 : ∀ x0 x1 x2 x3, Keeps (U := UR sig nD τ) defs₀ 𝒱₀ (c : Thread nD τ) R (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3) := by
  intro x0 x1 x2 x3
  rw [k0_part37_eq_skeleton]
  delta k0_part37_skel
  exact .bind (.load h14) fun _ => .bind (.store h14) fun _ => .bind (.load h14) fun _ => .bind (.load h6) fun _ => .bind (.load h11) fun _ => .bind (.load h13) fun _ => .bind (.load h17) fun _ => .bind (.store h17) fun _ => .bind (.load h14) fun _ => .bind (.store h14) fun _ => .ret _

theorem part38 : ∀ x0 x1 x2 x3 x4 x5, Keeps (U := UR sig nD τ) defs₀ 𝒱₀ (c : Thread nD τ) R (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part38_eq_skeleton]
  delta k0_part38_skel
  exact .bind (.load h15) fun _ => .bind (.load h11) fun _ => .bind (.load h16) fun _ => .bind (.store h16) fun _ => .bind (.load h15) fun _ => .bind (.store h15) fun _ => .bind (.load h15) fun _ => .bind (.load h11) fun _ => .bind (.load h16) fun _ => .ret _

theorem part39 : ∀ x0 x1 x2 x3 x4 x5 x6, Keeps (U := UR sig nD τ) defs₀ 𝒱₀ (c : Thread nD τ) R (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part39_eq_skeleton]
  delta k0_part39_skel
  exact .bind (.store h16) fun _ => .bind (.load h15) fun _ => .bind (.store h15) fun _ => .bind (.load h15) fun _ => .bind (.load h11) fun _ => .bind (.load h16) fun _ => .bind (.store h16) fun _ => .bind (.load h15) fun _ => .bind (.store h15) fun _ => .bind (.load h15) fun _ => .bind (.load h11) fun _ => .ret _

theorem part40 : ∀ x0 x1 x2 x3 x4 x5 x6, Keeps (U := UR sig nD τ) defs₀ 𝒱₀ (c : Thread nD τ) R (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part40_eq_skeleton]
  delta k0_part40_skel
  exact .bind (.load h16) fun _ => .bind (.store h16) fun _ => .bind (.load h15) fun _ => .bind (.store h15) fun _ => .bind (.load h15) fun _ => .bind (.load h11) fun _ => .bind (.load h16) fun _ => .bind (.store h16) fun _ => .bind (.load h15) fun _ => .ret _

theorem part41 : ∀ x0 x1 x2 x3 x4 x5 x6, Keeps (U := UR sig nD τ) defs₀ 𝒱₀ (c : Thread nD τ) R (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part41_eq_skeleton]
  delta k0_part41_skel
  exact .bind (.store h15) fun _ => .bind (.load h15) fun _ => .bind (.load h11) fun _ => .bind (.load h16) fun _ => .bind (.store h16) fun _ => .bind (.load h15) fun _ => .bind (.store h15) fun _ => .bind (.load h15) fun _ => .bind (.load h11) fun _ => .ret _

set_option maxHeartbeats 2000000 in
theorem part42 : ∀ x0 x1 x2 x3 x4 x5 x6 x7 x8 x9 x10 x11 x12 x13 x14 x15 x16 x17 x18 x19 x20 x21 x22 x23 x24, Keeps (U := UR sig nD τ) defs₀ 𝒱₀ (c : Thread nD τ) R (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 x19 x20 x21 x22 x23 x24) := by
  intro x0 x1 x2 x3 x4 x5 x6 x7 x8 x9 x10 x11 x12 x13 x14 x15 x16 x17 x18 x19 x20 x21 x22 x23 x24
  rw [k0_part42_eq_skeleton]
  delta k0_part42_skel
  exact .bind (part1 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _, _, _, _, _, _, _⟩ => .bind (part2 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _, _, _⟩ => .bind (part3 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _) fun ⟨_, _, _, _⟩ => .bind (part4 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _ _ _) fun ⟨_, _, _⟩ => .bind (part5 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _) fun _ => .bind (part6 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _) fun ⟨_, _⟩ => .bind (part7 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _, _, _⟩ => .bind (part8 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _, _, _⟩ => .bind (part9 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _) fun ⟨_, _, _, _, _, _⟩ => .bind (part10 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _, _, _⟩ => .bind (part11 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _) fun ⟨_, _, _⟩ => .bind (part12 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _, _, _⟩ => .bind (part13 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _, _, _⟩ => .bind (part14 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _, _, _, _⟩ => .bind (part15 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _, _, _, _⟩ => .bind (part16 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _⟩ => .bind (part17 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _⟩ => .bind (part18 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun _ => .bind (part19 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun _ => .bind (part20 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _⟩ => .bind (part21 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _⟩ => .bind (part22 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _, _, _, _, _⟩ => .bind (part23 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _⟩ => .bind (part24 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _, _, _⟩ => .bind (part25 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _ _ _) fun ⟨_, _, _⟩ => .bind (part26 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _ _) fun _ => .bind (part27 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _) fun ⟨_, _, _⟩ => .bind (part28 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _) fun ⟨_, _, _, _, _, _, _⟩ => .bind (part29 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _, _, _, _⟩ => .bind (part30 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _, _, _⟩ => .bind (part31 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _, _⟩ => .bind (part32 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _⟩ => .bind (part33 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _, _, _⟩ => .bind (part34 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _) fun ⟨_, _, _, _, _⟩ => .bind (part35 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _, _, _, _⟩ => .bind (part36 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _⟩ => .bind (part37 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _) fun ⟨_, _⟩ => .bind (part38 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _⟩ => .bind (part39 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _⟩ => .bind (part40 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun _ => .bind (part41 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _⟩ => .bind (.load h16) fun _ => .bind (.store h16) fun _ => .bind (.load h15) fun _ => .bind (.store h15) fun _ => .ret _

theorem trip1 : ∀ x0 x1 x2 x3 x4 x5 x6 x7 x8 x9 x10 x11 x12 x13 x14 x15 x16 x17 x18 x19 x20 x21 k acc, Keeps (U := UR sig nD τ) defs₀ 𝒱₀ (c : Thread nD τ) R (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 x19 x20 x21 k acc) := by
  intro x0 x1 x2 x3 x4 x5 x6 x7 x8 x9 x10 x11 x12 x13 x14 x15 x16 x17 x18 x19 x20 x21 k acc
  delta k0_t1_body
  exact .bind (part42 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _ _ _ _ _ _ _ _ _ _ _ _ _ _ _ _ _) fun ⟨_, _, _⟩ => .bind (.load h15) fun _ => .bind (.load h11) fun _ => .bind (.load h16) fun _ => .bind (.store h16) fun _ => .bind (.load h15) fun _ => .bind (.store h15) fun _ => .ret _

theorem part43 : ∀ x0 x1 x2 x3 x4, Keeps (U := UR sig nD τ) defs₀ 𝒱₀ (c : Thread nD τ) R (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part43_eq_skeleton]
  delta k0_part43_skel
  exact .bind (.load h3) fun _ => .bind (.load h18) fun _ => .bind (.load h16) fun _ => .bind (.load h16) fun _ => .bind (.load h18) fun _ => .bind (.store h18) fun _ => .bind (.load h18) fun _ => .bind (.load h16) fun _ => .bind (.load h16) fun _ => .ret _

theorem part44 : ∀ x0 x1 x2 x3 x4, Keeps (U := UR sig nD τ) defs₀ 𝒱₀ (c : Thread nD τ) R (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part44_eq_skeleton]
  delta k0_part44_skel
  exact .bind (.load h18) fun _ => .bind (.store h18) fun _ => .bind (.load h18) fun _ => .bind (.load h16) fun _ => .bind (.load h16) fun _ => .bind (.load h18) fun _ => .bind (.store h18) fun _ => .bind (.load h18) fun _ => .bind (.load h16) fun _ => .bind (.load h16) fun _ => .ret _

theorem part45 : ∀ x0 x1 x2 x3 x4 x5 x6 x7, Keeps (U := UR sig nD τ) defs₀ 𝒱₀ (c : Thread nD τ) R (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7) := by
  intro x0 x1 x2 x3 x4 x5 x6 x7
  rw [k0_part45_eq_skeleton]
  delta k0_part45_skel
  exact .bind (.load h18) fun _ => .bind (.store h18) fun _ => .bind (.load h19) fun _ => .bind (.load h16) fun _ => .bind (.load h16) fun _ => .bind (.load h19) fun _ => .bind (.store h19) fun _ => .bind (.load h20) fun _ => .bind (.load h17) fun _ => .bind (.load h17) fun _ => .ret _

theorem part46 : ∀ x0 x1 x2 x3 x4 x5 x6 x7 x8 x9 x10, Keeps (U := UR sig nD τ) defs₀ 𝒱₀ (c : Thread nD τ) R (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10) := by
  intro x0 x1 x2 x3 x4 x5 x6 x7 x8 x9 x10
  rw [k0_part46_eq_skeleton]
  delta k0_part46_skel
  exact .bind (.load h20) fun _ => .bind (.store h20) fun _ => .bind (.load h3) fun _ => .bind (.load h4) fun _ => .bind (.load h11) fun _ => .bind (.store h11) fun _ => .bind (.load h13) fun _ => .bind (.store h13) fun _ => .bind (.load h11) fun _ => .bind (.store h11) fun _ => .ret _

theorem part47 : ∀ x0 x1 x2 x3 x4 x5 x6 x7 x8, Keeps (U := UR sig nD τ) defs₀ 𝒱₀ (c : Thread nD τ) R (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8) := by
  intro x0 x1 x2 x3 x4 x5 x6 x7 x8
  rw [k0_part47_eq_skeleton]
  delta k0_part47_skel
  exact .bind (.load h13) fun _ => .bind (.store h13) fun _ => .bind (.load h11) fun _ => .bind (.store h11) fun _ => .bind (.load h13) fun _ => .bind (.store h13) fun _ => .bind (.load h11) fun _ => .bind (.store h11) fun _ => .bind (.load h13) fun _ => .bind (.store h13) fun _ => .bind (.load h11) fun _ => .bind (.store h11) fun _ => .bind (.load h13) fun _ => .bind (.store h13) fun _ => .ret _

theorem part48 : ∀ x0 x1 x2 x3 x4 x5 x6 x7 x8, Keeps (U := UR sig nD τ) defs₀ 𝒱₀ (c : Thread nD τ) R (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8) := by
  intro x0 x1 x2 x3 x4 x5 x6 x7 x8
  rw [k0_part48_eq_skeleton]
  delta k0_part48_skel
  exact .bind (.load h11) fun _ => .bind (.store h11) fun _ => .bind (.load h13) fun _ => .bind (.store h13) fun _ => .bind (.load h11) fun _ => .bind (.store h11) fun _ => .bind (.load h13) fun _ => .bind (.store h13) fun _ => .bind (.load h11) fun _ => .bind (.store h11) fun _ => .bind (.load h13) fun _ => .bind (.store h13) fun _ => .bind (.load h10) fun _ => .ret _

theorem part49 : ∀ x0 x1 x2, Keeps (U := UR sig nD τ) defs₀ 𝒱₀ (c : Thread nD τ) R (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part49_eq_skeleton]
  delta k0_part49_skel
  exact .bind (.load h10) fun _ => .bind (.load h10) fun _ => .ret _

theorem part50 : ∀ x0 x1 x2, Keeps (U := UR sig nD τ) defs₀ 𝒱₀ (c : Thread nD τ) R (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part50_eq_skeleton]
  delta k0_part50_skel
  exact .bind (.load h10) fun _ => .bind (.load h10) fun _ => .ret _

theorem part51 : ∀ x0, Keeps (U := UR sig nD τ) defs₀ 𝒱₀ (c : Thread nD τ) R (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0) := by
  intro x0
  rw [k0_part51_eq_skeleton]
  delta k0_part51_skel
  exact .bind (.load h10) fun _ => .bind (.load h10) fun _ => .bind (.load h10) fun _ => .ret _

theorem part52 : ∀ x0 x1 x2 x3 x4 x5, Keeps (U := UR sig nD τ) defs₀ 𝒱₀ (c : Thread nD τ) R (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part52_eq_skeleton]
  delta k0_part52_skel
  exact .bind (.load h14) fun _ => .bind (.load h6) fun _ => .bind (.load h10) fun _ => .bind (.load h12) fun _ => .bind (.load h17) fun _ => .bind (.store h17) fun _ => .ret _

theorem part53 : ∀ x0 x1 x2 x3, Keeps (U := UR sig nD τ) defs₀ 𝒱₀ (c : Thread nD τ) R (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3) := by
  intro x0 x1 x2 x3
  rw [k0_part53_eq_skeleton]
  delta k0_part53_skel
  exact .bind (.load h14) fun _ => .bind (.store h14) fun _ => .bind (.load h14) fun _ => .bind (.load h6) fun _ => .bind (.load h10) fun _ => .bind (.load h12) fun _ => .bind (.load h17) fun _ => .bind (.store h17) fun _ => .bind (.load h14) fun _ => .bind (.store h14) fun _ => .bind (.load h14) fun _ => .ret _

theorem part54 : ∀ x0 x1 x2 x3 x4, Keeps (U := UR sig nD τ) defs₀ 𝒱₀ (c : Thread nD τ) R (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part54_eq_skeleton]
  delta k0_part54_skel
  exact .bind (.load h6) fun _ => .bind (.load h10) fun _ => .bind (.load h12) fun _ => .bind (.load h17) fun _ => .bind (.store h17) fun _ => .bind (.load h14) fun _ => .bind (.store h14) fun _ => .bind (.load h14) fun _ => .bind (.load h6) fun _ => .ret _

theorem part55 : ∀ x0 x1 x2 x3 x4 x5 x6, Keeps (U := UR sig nD τ) defs₀ 𝒱₀ (c : Thread nD τ) R (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part55_eq_skeleton]
  delta k0_part55_skel
  exact .bind (.load h10) fun _ => .bind (.load h12) fun _ => .bind (.load h17) fun _ => .bind (.store h17) fun _ => .bind (.load h14) fun _ => .bind (.store h14) fun _ => .bind (.load h14) fun _ => .bind (.load h6) fun _ => .bind (.load h10) fun _ => .ret _

theorem part56 : ∀ x0 x1 x2 x3 x4 x5, Keeps (U := UR sig nD τ) defs₀ 𝒱₀ (c : Thread nD τ) R (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part56_eq_skeleton]
  delta k0_part56_skel
  exact .bind (.load h12) fun _ => .bind (.load h17) fun _ => .bind (.store h17) fun _ => .bind (.load h14) fun _ => .bind (.store h14) fun _ => .bind (.load h14) fun _ => .bind (.load h6) fun _ => .bind (.load h10) fun _ => .bind (.load h12) fun _ => .ret _

theorem part57 : ∀ x0 x1 x2 x3 x4 x5 x6, Keeps (U := UR sig nD τ) defs₀ 𝒱₀ (c : Thread nD τ) R (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part57_eq_skeleton]
  delta k0_part57_skel
  exact .bind (.load h17) fun _ => .bind (.store h17) fun _ => .bind (.load h14) fun _ => .bind (.store h14) fun _ => .bind (.load h14) fun _ => .bind (.load h6) fun _ => .bind (.load h10) fun _ => .bind (.load h12) fun _ => .bind (.load h17) fun _ => .ret _

theorem part58 : ∀ x0 x1 x2 x3 x4 x5, Keeps (U := UR sig nD τ) defs₀ 𝒱₀ (c : Thread nD τ) R (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part58_eq_skeleton]
  delta k0_part58_skel
  exact .bind (.store h17) fun _ => .bind (.load h14) fun _ => .bind (.store h14) fun _ => .bind (.load h14) fun _ => .bind (.load h6) fun _ => .bind (.load h10) fun _ => .bind (.load h12) fun _ => .bind (.load h17) fun _ => .bind (.store h17) fun _ => .bind (.load h14) fun _ => .ret _

theorem part59 : ∀ x0 x1 x2 x3 x4 x5 x6, Keeps (U := UR sig nD τ) defs₀ 𝒱₀ (c : Thread nD τ) R (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part59_eq_skeleton]
  delta k0_part59_skel
  exact .bind (.store h14) fun _ => .bind (.load h15) fun _ => .bind (.load h10) fun _ => .bind (.load h16) fun _ => .bind (.store h16) fun _ => .bind (.load h15) fun _ => .bind (.store h15) fun _ => .bind (.load h15) fun _ => .bind (.load h10) fun _ => .ret _

theorem part60 : ∀ x0 x1 x2 x3 x4 x5, Keeps (U := UR sig nD τ) defs₀ 𝒱₀ (c : Thread nD τ) R (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part60_eq_skeleton]
  delta k0_part60_skel
  exact .bind (.load h16) fun _ => .bind (.store h16) fun _ => .bind (.load h15) fun _ => .bind (.store h15) fun _ => .bind (.load h15) fun _ => .bind (.load h10) fun _ => .bind (.load h16) fun _ => .bind (.store h16) fun _ => .bind (.load h15) fun _ => .bind (.store h15) fun _ => .bind (.load h15) fun _ => .ret _

theorem part61 : ∀ x0 x1 x2 x3 x4 x5 x6, Keeps (U := UR sig nD τ) defs₀ 𝒱₀ (c : Thread nD τ) R (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part61_eq_skeleton]
  delta k0_part61_skel
  exact .bind (.load h10) fun _ => .bind (.load h16) fun _ => .bind (.store h16) fun _ => .bind (.load h15) fun _ => .bind (.store h15) fun _ => .bind (.load h15) fun _ => .bind (.load h10) fun _ => .bind (.load h16) fun _ => .bind (.store h16) fun _ => .ret _

theorem part62 : ∀ x0 x1 x2 x3 x4 x5 x6, Keeps (U := UR sig nD τ) defs₀ 𝒱₀ (c : Thread nD τ) R (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part62_eq_skeleton]
  delta k0_part62_skel
  exact .bind (.load h15) fun _ => .bind (.store h15) fun _ => .bind (.load h15) fun _ => .bind (.load h10) fun _ => .bind (.load h16) fun _ => .bind (.store h16) fun _ => .bind (.load h15) fun _ => .bind (.store h15) fun _ => .bind (.load h15) fun _ => .bind (.load h10) fun _ => .ret _

theorem part63 : ∀ x0 x1 x2 x3 x4 x5 x6, Keeps (U := UR sig nD τ) defs₀ 𝒱₀ (c : Thread nD τ) R (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part63_eq_skeleton]
  delta k0_part63_skel
  exact .bind (.load h16) fun _ => .bind (.store h16) fun _ => .bind (.load h15) fun _ => .bind (.store h15) fun _ => .bind (.load h15) fun _ => .bind (.load h10) fun _ => .bind (.load h16) fun _ => .bind (.store h16) fun _ => .bind (.load h15) fun _ => .bind (.store h15) fun _ => .ret _

theorem part64 : ∀ x0 x1 x2, Keeps (U := UR sig nD τ) defs₀ 𝒱₀ (c : Thread nD τ) R (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part64_eq_skeleton]
  delta k0_part64_skel
  exact .bind (.load h3) fun _ => .bind (.load h18) fun _ => .bind (.load h16) fun _ => .bind (.load h16) fun _ => .bind (.load h18) fun _ => .bind (.store h18) fun _ => .bind (.load h18) fun _ => .bind (.load h16) fun _ => .bind (.load h16) fun _ => .ret _

theorem part65 : ∀ x0 x1 x2 x3 x4 x5, Keeps (U := UR sig nD τ) defs₀ 𝒱₀ (c : Thread nD τ) R (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part65_eq_skeleton]
  delta k0_part65_skel
  exact .bind (.load h18) fun _ => .bind (.store h18) fun _ => .bind (.load h18) fun _ => .bind (.load h16) fun _ => .bind (.load h16) fun _ => .bind (.load h18) fun _ => .bind (.store h18) fun _ => .bind (.load h18) fun _ => .bind (.load h16) fun _ => .bind (.load h16) fun _ => .ret _

theorem part66 : ∀ x0 x1 x2 x3 x4 x5, Keeps (U := UR sig nD τ) defs₀ 𝒱₀ (c : Thread nD τ) R (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part66_eq_skeleton]
  delta k0_part66_skel
  exact .bind (.load h18) fun _ => .bind (.store h18) fun _ => .bind (.load h19) fun _ => .bind (.load h16) fun _ => .bind (.load h16) fun _ => .bind (.load h19) fun _ => .bind (.store h19) fun _ => .bind (.load h20) fun _ => .bind (.load h17) fun _ => .bind (.load h17) fun _ => .ret _

theorem part67 : ∀ x0 x1 x2 x3 x4 x5 x6 x7 x8 x9 x10, Keeps (U := UR sig nD τ) defs₀ 𝒱₀ (c : Thread nD τ) R (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10) := by
  intro x0 x1 x2 x3 x4 x5 x6 x7 x8 x9 x10
  rw [k0_part67_eq_skeleton]
  delta k0_part67_skel
  exact .bind (.load h20) fun _ => .bind (.store h20) fun _ => .bind (.load h3) fun _ => .bind (.load h4) fun _ => .bind (.load h10) fun _ => .bind (.store h10) fun _ => .bind (.load h12) fun _ => .bind (.store h12) fun _ => .bind (.load h10) fun _ => .bind (.store h10) fun _ => .bind (.load h12) fun _ => .ret _

theorem part68 : ∀ x0 x1 x2 x3 x4 x5 x6 x7 x8 x9, Keeps (U := UR sig nD τ) defs₀ 𝒱₀ (c : Thread nD τ) R (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9) := by
  intro x0 x1 x2 x3 x4 x5 x6 x7 x8 x9
  rw [k0_part68_eq_skeleton]
  delta k0_part68_skel
  exact .bind (.store h12) fun _ => .bind (.load h10) fun _ => .bind (.store h10) fun _ => .bind (.load h12) fun _ => .bind (.store h12) fun _ => .bind (.load h10) fun _ => .bind (.store h10) fun _ => .bind (.load h12) fun _ => .bind (.store h12) fun _ => .bind (.load h10) fun _ => .bind (.store h10) fun _ => .bind (.load h12) fun _ => .bind (.store h12) fun _ => .ret _

theorem part69 : ∀ x0 x1 x2 x3 x4 x5 x6 x7, Keeps (U := UR sig nD τ) defs₀ 𝒱₀ (c : Thread nD τ) R (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7) := by
  intro x0 x1 x2 x3 x4 x5 x6 x7
  rw [k0_part69_eq_skeleton]
  delta k0_part69_skel
  exact .bind (.load h10) fun _ => .bind (.store h10) fun _ => .bind (.load h12) fun _ => .bind (.store h12) fun _ => .bind (.load h10) fun _ => .bind (.store h10) fun _ => .bind (.load h12) fun _ => .bind (.store h12) fun _ => .bind (.load h10) fun _ => .bind (.store h10) fun _ => .bind (.load h12) fun _ => .bind (.store h12) fun _ => .bind (.load h11) fun _ => .ret _

theorem part70 : ∀ x0 x1 x2 x3, Keeps (U := UR sig nD τ) defs₀ 𝒱₀ (c : Thread nD τ) R (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3) := by
  intro x0 x1 x2 x3
  rw [k0_part70_eq_skeleton]
  delta k0_part70_skel
  exact .bind (.load h11) fun _ => .bind (.load h11) fun _ => .ret _

theorem part71 : ∀ x0 x1 x2, Keeps (U := UR sig nD τ) defs₀ 𝒱₀ (c : Thread nD τ) R (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part71_eq_skeleton]
  delta k0_part71_skel
  exact .bind (.load h11) fun _ => .bind (.load h11) fun _ => .bind (.load h11) fun _ => .ret _

theorem part72 : ∀ x0 x1 x2, Keeps (U := UR sig nD τ) defs₀ 𝒱₀ (c : Thread nD τ) R (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part72_eq_skeleton]
  delta k0_part72_skel
  exact .bind (.load h11) fun _ => .bind (.load h11) fun _ => .ret _

theorem part73 : ∀ x0 x1 x2 x3 x4 x5, Keeps (U := UR sig nD τ) defs₀ 𝒱₀ (c : Thread nD τ) R (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part73_eq_skeleton]
  delta k0_part73_skel
  exact .bind (.load h14) fun _ => .bind (.load h6) fun _ => .bind (.load h11) fun _ => .bind (.load h13) fun _ => .bind (.load h17) fun _ => .bind (.store h17) fun _ => .bind (.load h14) fun _ => .bind (.store h14) fun _ => .ret _

theorem part74 : ∀ x0 x1 x2, Keeps (U := UR sig nD τ) defs₀ 𝒱₀ (c : Thread nD τ) R (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part74_eq_skeleton]
  delta k0_part74_skel
  exact .bind (.load h14) fun _ => .bind (.load h6) fun _ => .bind (.load h11) fun _ => .bind (.load h13) fun _ => .bind (.load h17) fun _ => .bind (.store h17) fun _ => .bind (.load h14) fun _ => .bind (.store h14) fun _ => .bind (.load h14) fun _ => .bind (.load h6) fun _ => .ret _

theorem part75 : ∀ x0 x1 x2 x3 x4 x5, Keeps (U := UR sig nD τ) defs₀ 𝒱₀ (c : Thread nD τ) R (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part75_eq_skeleton]
  delta k0_part75_skel
  exact .bind (.load h11) fun _ => .bind (.load h13) fun _ => .bind (.load h17) fun _ => .bind (.store h17) fun _ => .bind (.load h14) fun _ => .bind (.store h14) fun _ => .bind (.load h14) fun _ => .bind (.load h6) fun _ => .bind (.load h11) fun _ => .ret _

theorem part76 : ∀ x0 x1 x2 x3 x4 x5 x6 x7, Keeps (U := UR sig nD τ) defs₀ 𝒱₀ (c : Thread nD τ) R (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7) := by
  intro x0 x1 x2 x3 x4 x5 x6 x7
  rw [k0_part76_eq_skeleton]
  delta k0_part76_skel
  exact .bind (.load h13) fun _ => .bind (.load h17) fun _ => .bind (.store h17) fun _ => .bind (.load h14) fun _ => .bind (.store h14) fun _ => .bind (.load h14) fun _ => .bind (.load h6) fun _ => .bind (.load h11) fun _ => .bind (.load h13) fun _ => .ret _

theorem part77 : ∀ x0 x1 x2 x3 x4 x5 x6, Keeps (U := UR sig nD τ) defs₀ 𝒱₀ (c : Thread nD τ) R (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part77_eq_skeleton]
  delta k0_part77_skel
  exact .bind (.load h17) fun _ => .bind (.store h17) fun _ => .bind (.load h14) fun _ => .bind (.store h14) fun _ => .bind (.load h14) fun _ => .bind (.load h6) fun _ => .bind (.load h11) fun _ => .bind (.load h13) fun _ => .ret _

theorem part78 : ∀ x0 x1 x2 x3 x4 x5, Keeps (U := UR sig nD τ) defs₀ 𝒱₀ (c : Thread nD τ) R (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part78_eq_skeleton]
  delta k0_part78_skel
  exact .bind (.load h17) fun _ => .bind (.store h17) fun _ => .bind (.load h14) fun _ => .bind (.store h14) fun _ => .bind (.load h14) fun _ => .bind (.load h6) fun _ => .bind (.load h11) fun _ => .bind (.load h13) fun _ => .bind (.load h17) fun _ => .bind (.store h17) fun _ => .ret _

theorem part79 : ∀ x0 x1 x2 x3, Keeps (U := UR sig nD τ) defs₀ 𝒱₀ (c : Thread nD τ) R (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3) := by
  intro x0 x1 x2 x3
  rw [k0_part79_eq_skeleton]
  delta k0_part79_skel
  exact .bind (.load h14) fun _ => .bind (.store h14) fun _ => .bind (.load h14) fun _ => .bind (.load h6) fun _ => .bind (.load h11) fun _ => .bind (.load h13) fun _ => .bind (.load h17) fun _ => .bind (.store h17) fun _ => .bind (.load h14) fun _ => .bind (.store h14) fun _ => .ret _

theorem part80 : ∀ x0 x1 x2 x3 x4 x5, Keeps (U := UR sig nD τ) defs₀ 𝒱₀ (c : Thread nD τ) R (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part80_eq_skeleton]
  delta k0_part80_skel
  exact .bind (.load h15) fun _ => .bind (.load h11) fun _ => .bind (.load h16) fun _ => .bind (.store h16) fun _ => .bind (.load h15) fun _ => .bind (.store h15) fun _ => .bind (.load h15) fun _ => .bind (.load h11) fun _ => .bind (.load h16) fun _ => .ret _

theorem part81 : ∀ x0 x1 x2 x3 x4 x5 x6, Keeps (U := UR sig nD τ) defs₀ 𝒱₀ (c : Thread nD τ) R (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part81_eq_skeleton]
  delta k0_part81_skel
  exact .bind (.store h16) fun _ => .bind (.load h15) fun _ => .bind (.store h15) fun _ => .bind (.load h15) fun _ => .bind (.load h11) fun _ => .bind (.load h16) fun _ => .bind (.store h16) fun _ => .bind (.load h15) fun _ => .bind (.store h15) fun _ => .bind (.load h15) fun _ => .bind (.load h11) fun _ => .ret _

theorem part82 : ∀ x0 x1 x2 x3 x4 x5 x6, Keeps (U := UR sig nD τ) defs₀ 𝒱₀ (c : Thread nD τ) R (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part82_eq_skeleton]
  delta k0_part82_skel
  exact .bind (.load h16) fun _ => .bind (.store h16) fun _ => .bind (.load h15) fun _ => .bind (.store h15) fun _ => .bind (.load h15) fun _ => .bind (.load h11) fun _ => .bind (.load h16) fun _ => .bind (.store h16) fun _ => .bind (.load h15) fun _ => .ret _

theorem part83 : ∀ x0 x1 x2 x3 x4 x5 x6, Keeps (U := UR sig nD τ) defs₀ 𝒱₀ (c : Thread nD τ) R (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part83_eq_skeleton]
  delta k0_part83_skel
  exact .bind (.store h15) fun _ => .bind (.load h15) fun _ => .bind (.load h11) fun _ => .bind (.load h16) fun _ => .bind (.store h16) fun _ => .bind (.load h15) fun _ => .bind (.store h15) fun _ => .bind (.load h15) fun _ => .bind (.load h11) fun _ => .ret _

set_option maxHeartbeats 2000000 in
theorem part84 : ∀ x0 x1 x2 x3 x4 x5 x6 x7 x8 x9 x10 x11 x12 x13 x14 x15 x16 x17 x18 x19 x20 x21 x22 x23 x24, Keeps (U := UR sig nD τ) defs₀ 𝒱₀ (c : Thread nD τ) R (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 x19 x20 x21 x22 x23 x24) := by
  intro x0 x1 x2 x3 x4 x5 x6 x7 x8 x9 x10 x11 x12 x13 x14 x15 x16 x17 x18 x19 x20 x21 x22 x23 x24
  rw [k0_part84_eq_skeleton]
  delta k0_part84_skel
  exact .bind (part43 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _, _, _, _, _, _, _⟩ => .bind (part44 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _, _, _⟩ => .bind (part45 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _) fun ⟨_, _, _, _⟩ => .bind (part46 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _ _ _) fun ⟨_, _, _⟩ => .bind (part47 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _) fun _ => .bind (part48 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _) fun ⟨_, _⟩ => .bind (part49 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _, _, _⟩ => .bind (part50 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _, _, _⟩ => .bind (part51 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _) fun ⟨_, _, _, _, _, _⟩ => .bind (part52 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _, _, _⟩ => .bind (part53 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _) fun ⟨_, _, _⟩ => .bind (part54 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _, _, _⟩ => .bind (part55 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _, _, _⟩ => .bind (part56 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _, _, _, _⟩ => .bind (part57 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _, _, _, _⟩ => .bind (part58 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _⟩ => .bind (part59 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _⟩ => .bind (part60 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun _ => .bind (part61 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun _ => .bind (part62 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _⟩ => .bind (part63 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _⟩ => .bind (part64 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _, _, _, _, _⟩ => .bind (part65 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _⟩ => .bind (part66 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _, _, _⟩ => .bind (part67 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _ _ _) fun ⟨_, _, _⟩ => .bind (part68 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _ _) fun _ => .bind (part69 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _) fun ⟨_, _, _⟩ => .bind (part70 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _) fun ⟨_, _, _, _, _, _, _⟩ => .bind (part71 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _, _, _, _⟩ => .bind (part72 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _, _, _⟩ => .bind (part73 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _, _⟩ => .bind (part74 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _⟩ => .bind (part75 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _, _, _⟩ => .bind (part76 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _) fun ⟨_, _, _, _, _⟩ => .bind (part77 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _, _, _, _⟩ => .bind (part78 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _⟩ => .bind (part79 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _) fun ⟨_, _⟩ => .bind (part80 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _⟩ => .bind (part81 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _⟩ => .bind (part82 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun _ => .bind (part83 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _⟩ => .bind (.load h16) fun _ => .bind (.store h16) fun _ => .bind (.load h15) fun _ => .bind (.store h15) fun _ => .ret _

theorem trip2 : ∀ x0 x1 x2 x3 x4 x5 x6 x7 x8 x9 x10 x11 x12 x13 x14 x15 x16 x17 x18 x19 x20 x21 x22 k acc, Keeps (U := UR sig nD τ) defs₀ 𝒱₀ (c : Thread nD τ) R (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 x19 x20 x21 x22 k acc) := by
  intro x0 x1 x2 x3 x4 x5 x6 x7 x8 x9 x10 x11 x12 x13 x14 x15 x16 x17 x18 x19 x20 x21 x22 k acc
  delta k0_t2_body
  exact .bind (part84 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _ _ _ _ _ _ _ _ _ _ _ _ _ _ _ _ _) fun ⟨_, _, _⟩ => .bind (.load h15) fun _ => .bind (.load h11) fun _ => .bind (.load h16) fun _ => .bind (.store h16) fun _ => .bind (.load h15) fun _ => .bind (.store h15) fun _ => .ret _

theorem part91 : ∀ x0 x1 x2 x3 x4 x5 x6 x7 x8 x9 x10 x11 x12 x13 x14 x15 x16 x17 x18 x19 x20 x21, Keeps (U := UR sig nD τ) defs₀ 𝒱₀ (c : Thread nD τ) R (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 x19 x20 x21) := by
  intro x0 x1 x2 x3 x4 x5 x6 x7 x8 x9 x10 x11 x12 x13 x14 x15 x16 x17 x18 x19 x20 x21
  rw [k0_part91_eq_skeleton]
  delta k0_part91_skel
  exact .bind (.for fun _ _ => trip1 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _ _ _ _ _ _ _ _ _ _ _ _ _ _ _ _) fun _ => .bind (.for fun _ _ => trip2 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _ _ _ _ _ _ _ _ _ _ _ _ _ _ _ _ _) fun _ => .bind (.load h3) fun _ => .bind (.load h18) fun _ => .bind (.load h16) fun _ => .bind (.load h16) fun _ => .bind (.load h18) fun _ => .bind (.store h18) fun _ => .bind (.load h18) fun _ => .ret _

theorem part92 : ∀ x0 x1, Keeps (U := UR sig nD τ) defs₀ 𝒱₀ (c : Thread nD τ) R (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1) := by
  intro x0 x1
  rw [k0_part92_eq_skeleton]
  delta k0_part92_skel
  exact .bind (.load h16) fun _ => .bind (.load h16) fun _ => .bind (.load h18) fun _ => .bind (.store h18) fun _ => .bind (.load h18) fun _ => .bind (.load h16) fun _ => .bind (.load h16) fun _ => .bind (.load h18) fun _ => .bind (.store h18) fun _ => .bind (.load h18) fun _ => .bind (.load h16) fun _ => .ret _

theorem part93 : ∀ x0 x1 x2 x3 x4, Keeps (U := UR sig nD τ) defs₀ 𝒱₀ (c : Thread nD τ) R (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part93_eq_skeleton]
  delta k0_part93_skel
  exact .bind (.load h16) fun _ => .bind (.load h18) fun _ => .bind (.store h18) fun _ => .bind (.load h19) fun _ => .bind (.load h16) fun _ => .bind (.load h16) fun _ => .bind (.load h19) fun _ => .bind (.store h19) fun _ => .bind (.load h20) fun _ => .ret _

theorem part94 : ∀ x0 x1 x2 x3 x4 x5 x6, Keeps (U := UR sig nD τ) defs₀ 𝒱₀ (c : Thread nD τ) R (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part94_eq_skeleton]
  delta k0_part94_skel
  exact .bind (.load h17) fun _ => .bind (.load h17) fun _ => .bind (.load h20) fun _ => .bind (.store h20) fun _ => .bind (.load h3) fun _ => .bind (.load h4) fun _ => .bind (.load h11) fun _ => .bind (.store h11) fun _ => .bind (.load h13) fun _ => .bind (.store h13) fun _ => .ret _

theorem part95 : ∀ x0 x1 x2 x3 x4 x5 x6 x7 x8, Keeps (U := UR sig nD τ) defs₀ 𝒱₀ (c : Thread nD τ) R (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8) := by
  intro x0 x1 x2 x3 x4 x5 x6 x7 x8
  rw [k0_part95_eq_skeleton]
  delta k0_part95_skel
  exact .bind (.load h11) fun _ => .bind (.store h11) fun _ => .bind (.load h13) fun _ => .bind (.store h13) fun _ => .bind (.load h11) fun _ => .bind (.store h11) fun _ => .bind (.load h13) fun _ => .bind (.store h13) fun _ => .bind (.load h11) fun _ => .bind (.store h11) fun _ => .bind (.load h13) fun _ => .bind (.store h13) fun _ => .bind (.load h11) fun _ => .bind (.store h11) fun _ => .ret _

theorem part96 : ∀ x0 x1 x2 x3 x4 x5 x6, Keeps (U := UR sig nD τ) defs₀ 𝒱₀ (c : Thread nD τ) R (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part96_eq_skeleton]
  delta k0_part96_skel
  exact .bind (.load h13) fun _ => .bind (.store h13) fun _ => .bind (.load h11) fun _ => .bind (.store h11) fun _ => .bind (.load h13) fun _ => .bind (.store h13) fun _ => .bind (.load h10) fun _ => .bind (.load h10) fun _ => .ret _

theorem part97 : ∀ x0 x1 x2, Keeps (U := UR sig nD τ) defs₀ 𝒱₀ (c : Thread nD τ) R (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part97_eq_skeleton]
  delta k0_part97_skel
  exact .bind (.load h10) fun _ => .bind (.load h10) fun _ => .ret _

theorem part98 : ∀ x0 x1 x2, Keeps (U := UR sig nD τ) defs₀ 𝒱₀ (c : Thread nD τ) R (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part98_eq_skeleton]
  delta k0_part98_skel
  exact .bind (.load h10) fun _ => .bind (.load h10) fun _ => .ret _

theorem part99 : ∀ x0 x1 x2, Keeps (U := UR sig nD τ) defs₀ 𝒱₀ (c : Thread nD τ) R (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part99_eq_skeleton]
  delta k0_part99_skel
  exact .bind (.load h10) fun _ => .bind (.load h10) fun _ => .bind (.load h14) fun _ => .ret _

theorem part100 : ∀ x0 x1 x2 x3 x4 x5, Keeps (U := UR sig nD τ) defs₀ 𝒱₀ (c : Thread nD τ) R (k0_part100 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part100_eq_skeleton]
  delta k0_part100_skel
  exact .bind (.load h6) fun _ => .bind (.load h10) fun _ => .bind (.load h12) fun _ => .bind (.load h17) fun _ => .bind (.store h17) fun _ => .bind (.load h14) fun _ => .bind (.store h14) fun _ => .bind (.load h14) fun _ => .bind (.load h6) fun _ => .ret _

theorem part101 : ∀ x0 x1 x2 x3 x4 x5 x6 x7, Keeps (U := UR sig nD τ) defs₀ 𝒱₀ (c : Thread nD τ) R (k0_part101 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7) := by
  intro x0 x1 x2 x3 x4 x5 x6 x7
  rw [k0_part101_eq_skeleton]
  delta k0_part101_skel
  exact .bind (.load h10) fun _ => .bind (.load h12) fun _ => .bind (.load h17) fun _ => .bind (.store h17) fun _ => .bind (.load h14) fun _ => .bind (.store h14) fun _ => .bind (.load h14) fun _ => .bind (.load h6) fun _ => .bind (.load h10) fun _ => .ret _

theorem part102 : ∀ x0 x1 x2 x3 x4 x5 x6, Keeps (U := UR sig nD τ) defs₀ 𝒱₀ (c : Thread nD τ) R (k0_part102 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part102_eq_skeleton]
  delta k0_part102_skel
  exact .bind (.load h12) fun _ => .bind (.load h17) fun _ => .bind (.store h17) fun _ => .bind (.load h14) fun _ => .bind (.store h14) fun _ => .bind (.load h14) fun _ => .bind (.load h6) fun _ => .bind (.load h10) fun _ => .bind (.load h12) fun _ => .ret _

theorem part103 : ∀ x0 x1 x2 x3 x4 x5 x6 x7, Keeps (U := UR sig nD τ) defs₀ 𝒱₀ (c : Thread nD τ) R (k0_part103 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7) := by
  intro x0 x1 x2 x3 x4 x5 x6 x7
  rw [k0_part103_eq_skeleton]
  delta k0_part103_skel
  exact .bind (.load h17) fun _ => .bind (.store h17) fun _ => .bind (.load h14) fun _ => .bind (.store h14) fun _ => .bind (.load h14) fun _ => .bind (.load h6) fun _ => .bind (.load h10) fun _ => .bind (.load h12) fun _ => .ret _

theorem part104 : ∀ x0 x1 x2 x3 x4 x5, Keeps (U := UR sig nD τ) defs₀ 𝒱₀ (c : Thread nD τ) R (k0_part104 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part104_eq_skeleton]
  delta k0_part104_skel
  exact .bind (.load h17) fun _ => .bind (.store h17) fun _ => .bind (.load h14) fun _ => .bind (.store h14) fun _ => .bind (.load h14) fun _ => .bind (.load h6) fun _ => .bind (.load h10) fun _ => .bind (.load h12) fun _ => .bind (.load h17) fun _ => .bind (.store h17) fun _ => .ret _

theorem part105 : ∀ x0 x1 x2 x3, Keeps (U := UR sig nD τ) defs₀ 𝒱₀ (c : Thread nD τ) R (k0_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3) := by
  intro x0 x1 x2 x3
  rw [k0_part105_eq_skeleton]
  delta k0_part105_skel
  exact .bind (.load h14) fun _ => .bind (.store h14) fun _ => .bind (.load h14) fun _ => .bind (.load h6) fun _ => .bind (.load h10) fun _ => .bind (.load h12) fun _ => .bind (.load h17) fun _ => .bind (.store h17) fun _ => .bind (.load h14) fun _ => .bind (.store h14) fun _ => .bind (.load h14) fun _ => .ret _

theorem part106 : ∀ x0 x1 x2 x3 x4, Keeps (U := UR sig nD τ) defs₀ 𝒱₀ (c : Thread nD τ) R (k0_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part106_eq_skeleton]
  delta k0_part106_skel
  exact .bind (.load h6) fun _ => .bind (.load h10) fun _ => .bind (.load h12) fun _ => .bind (.load h17) fun _ => .bind (.store h17) fun _ => .bind (.load h14) fun _ => .bind (.store h14) fun _ => .bind (.load h15) fun _ => .bind (.load h10) fun _ => .ret _

theorem part107 : ∀ x0 x1 x2 x3 x4 x5 x6 x7 x8, Keeps (U := UR sig nD τ) defs₀ 𝒱₀ (c : Thread nD τ) R (k0_part107 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8) := by
  intro x0 x1 x2 x3 x4 x5 x6 x7 x8
  rw [k0_part107_eq_skeleton]
  delta k0_part107_skel
  exact .bind (.load h16) fun _ => .bind (.store h16) fun _ => .bind (.load h15) fun _ => .bind (.store h15) fun _ => .bind (.load h15) fun _ => .bind (.load h10) fun _ => .bind (.load h16) fun _ => .bind (.store h16) fun _ => .ret _

theorem part108 : ∀ x0 x1 x2 x3 x4 x5 x6, Keeps (U := UR sig nD τ) defs₀ 𝒱₀ (c : Thread nD τ) R (k0_part108 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part108_eq_skeleton]
  delta k0_part108_skel
  exact .bind (.load h15) fun _ => .bind (.store h15) fun _ => .bind (.load h15) fun _ => .bind (.load h10) fun _ => .bind (.load h16) fun _ => .bind (.store h16) fun _ => .bind (.load h15) fun _ => .bind (.store h15) fun _ => .bind (.load h15) fun _ => .bind (.load h10) fun _ => .ret _

theorem part109 : ∀ x0 x1 x2 x3 x4 x5 x6, Keeps (U := UR sig nD τ) defs₀ 𝒱₀ (c : Thread nD τ) R (k0_part109 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part109_eq_skeleton]
  delta k0_part109_skel
  exact .bind (.load h16) fun _ => .bind (.store h16) fun _ => .bind (.load h15) fun _ => .bind (.store h15) fun _ => .bind (.load h15) fun _ => .bind (.load h10) fun _ => .bind (.load h16) fun _ => .bind (.store h16) fun _ => .bind (.load h15) fun _ => .bind (.store h15) fun _ => .ret _

theorem part110 : ∀ x0 x1 x2 x3 x4 x5, Keeps (U := UR sig nD τ) defs₀ 𝒱₀ (c : Thread nD τ) R (k0_part110 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part110_eq_skeleton]
  delta k0_part110_skel
  exact .bind (.load h15) fun _ => .bind (.load h10) fun _ => .bind (.load h16) fun _ => .bind (.store h16) fun _ => .bind (.load h15) fun _ => .bind (.store h15) fun _ => .bind (.load h15) fun _ => .bind (.load h10) fun _ => .bind (.load h16) fun _ => .ret _

theorem part111 : ∀ x0 x1 x2 x3 x4 x5 x6 x7, Keeps (U := UR sig nD τ) defs₀ 𝒱₀ (c : Thread nD τ) R (k0_part111 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7) := by
  intro x0 x1 x2 x3 x4 x5 x6 x7
  rw [k0_part111_eq_skeleton]
  delta k0_part111_skel
  exact .bind (.store h16) fun _ => .bind (.load h15) fun _ => .bind (.store h15) fun _ => .bind (.load h15) fun _ => .bind (.load h10) fun _ => .bind (.load h16) fun _ => .bind (.store h16) fun _ => .bind (.load h15) fun _ => .bind (.store h15) fun _ => .ret _

theorem part112 : Keeps (U := UR sig nD τ) defs₀ 𝒱₀ (c : Thread nD τ) R (k0_part112 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  rw [k0_part112_eq_skeleton]
  delta k0_part112_skel
  exact .bind (.load h3) fun _ => .bind (.load h18) fun _ => .bind (.load h16) fun _ => .bind (.load h16) fun _ => .bind (.load h18) fun _ => .bind (.store h18) fun _ => .bind (.load h18) fun _ => .bind (.load h16) fun _ => .bind (.load h16) fun _ => .bind (.load h18) fun _ => .bind (.store h18) fun _ => .ret _

theorem part113 : ∀ x0 x1, Keeps (U := UR sig nD τ) defs₀ 𝒱₀ (c : Thread nD τ) R (k0_part113 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1) := by
  intro x0 x1
  rw [k0_part113_eq_skeleton]
  delta k0_part113_skel
  exact .bind (.load h18) fun _ => .bind (.load h16) fun _ => .bind (.load h16) fun _ => .bind (.load h18) fun _ => .bind (.store h18) fun _ => .bind (.load h18) fun _ => .bind (.load h16) fun _ => .bind (.load h16) fun _ => .bind (.load h18) fun _ => .bind (.store h18) fun _ => .ret _

theorem part114 : ∀ x0 x1 x2 x3, Keeps (U := UR sig nD τ) defs₀ 𝒱₀ (c : Thread nD τ) R (k0_part114 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3) := by
  intro x0 x1 x2 x3
  rw [k0_part114_eq_skeleton]
  delta k0_part114_skel
  exact .bind (.load h19) fun _ => .bind (.load h16) fun _ => .bind (.load h16) fun _ => .bind (.load h19) fun _ => .bind (.store h19) fun _ => .bind (.load h20) fun _ => .bind (.load h17) fun _ => .bind (.load h17) fun _ => .bind (.load h20) fun _ => .ret _

theorem part115 : ∀ x0 x1 x2 x3 x4, Keeps (U := UR sig nD τ) defs₀ 𝒱₀ (c : Thread nD τ) R (k0_part115 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part115_eq_skeleton]
  delta k0_part115_skel
  exact .bind (.store h20) fun _ => .bind (.load h16) fun _ => .bind (.store h16) fun _ => .bind (.load h17) fun _ => .bind (.store h17) fun _ => .bind (.load h3) fun _ => .bind (.load h4) fun _ => .bind (.load h10) fun _ => .bind (.store h10) fun _ => .bind (.load h12) fun _ => .bind (.store h12) fun _ => .bind (.load h10) fun _ => .bind (.store h10) fun _ => .ret _

theorem part116 : ∀ x0 x1 x2 x3 x4 x5 x6, Keeps (U := UR sig nD τ) defs₀ 𝒱₀ (c : Thread nD τ) R (k0_part116 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part116_eq_skeleton]
  delta k0_part116_skel
  exact .bind (.load h12) fun _ => .bind (.store h12) fun _ => .bind (.load h10) fun _ => .bind (.store h10) fun _ => .bind (.load h12) fun _ => .bind (.store h12) fun _ => .bind (.load h10) fun _ => .bind (.store h10) fun _ => .bind (.load h12) fun _ => .bind (.store h12) fun _ => .bind (.load h11) fun _ => .ret _

theorem part117 : ∀ x0 x1 x2 x3 x4, Keeps (U := UR sig nD τ) defs₀ 𝒱₀ (c : Thread nD τ) R (k0_part117 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part117_eq_skeleton]
  delta k0_part117_skel
  exact .bind (.load h11) fun _ => .bind (.load h11) fun _ => .ret _

theorem part118 : ∀ x0 x1 x2, Keeps (U := UR sig nD τ) defs₀ 𝒱₀ (c : Thread nD τ) R (k0_part118 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part118_eq_skeleton]
  delta k0_part118_skel
  exact .bind (.load h11) fun _ => .bind (.load h11) fun _ => .bind (.load h11) fun _ => .ret _

theorem part119 : ∀ x0 x1 x2 x3 x4 x5, Keeps (U := UR sig nD τ) defs₀ 𝒱₀ (c : Thread nD τ) R (k0_part119 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part119_eq_skeleton]
  delta k0_part119_skel
  exact .bind (.load h14) fun _ => .bind (.load h6) fun _ => .bind (.load h11) fun _ => .bind (.load h13) fun _ => .ret _

theorem part120 : ∀ x0 x1 x2 x3 x4 x5 x6, Keeps (U := UR sig nD τ) defs₀ 𝒱₀ (c : Thread nD τ) R (k0_part120 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part120_eq_skeleton]
  delta k0_part120_skel
  exact .bind (.load h17) fun _ => .bind (.store h17) fun _ => .bind (.load h14) fun _ => .bind (.store h14) fun _ => .bind (.load h14) fun _ => .bind (.load h6) fun _ => .bind (.load h11) fun _ => .bind (.load h13) fun _ => .bind (.load h17) fun _ => .bind (.store h17) fun _ => .ret _

theorem part121 : ∀ x0 x1 x2 x3 x4, Keeps (U := UR sig nD τ) defs₀ 𝒱₀ (c : Thread nD τ) R (k0_part121 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part121_eq_skeleton]
  delta k0_part121_skel
  exact .bind (.load h14) fun _ => .bind (.store h14) fun _ => .bind (.load h14) fun _ => .bind (.load h6) fun _ => .bind (.load h11) fun _ => .bind (.load h13) fun _ => .bind (.load h17) fun _ => .bind (.store h17) fun _ => .bind (.load h14) fun _ => .bind (.store h14) fun _ => .ret _

theorem part122 : ∀ x0 x1 x2, Keeps (U := UR sig nD τ) defs₀ 𝒱₀ (c : Thread nD τ) R (k0_part122 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part122_eq_skeleton]
  delta k0_part122_skel
  exact .bind (.load h14) fun _ => .bind (.load h6) fun _ => .bind (.load h11) fun _ => .bind (.load h13) fun _ => .bind (.load h17) fun _ => .bind (.store h17) fun _ => .bind (.load h14) fun _ => .bind (.store h14) fun _ => .bind (.load h14) fun _ => .bind (.load h6) fun _ => .ret _

theorem part123 : ∀ x0 x1 x2 x3 x4 x5, Keeps (U := UR sig nD τ) defs₀ 𝒱₀ (c : Thread nD τ) R (k0_part123 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part123_eq_skeleton]
  delta k0_part123_skel
  exact .bind (.load h11) fun _ => .bind (.load h13) fun _ => .bind (.load h17) fun _ => .bind (.store h17) fun _ => .bind (.load h14) fun _ => .bind (.store h14) fun _ => .bind (.load h14) fun _ => .bind (.load h6) fun _ => .bind (.load h11) fun _ => .ret _

theorem part124 : ∀ x0 x1 x2 x3 x4 x5 x6 x7 x8 x9, Keeps (U := UR sig nD τ) defs₀ 𝒱₀ (c : Thread nD τ) R (k0_part124 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9) := by
  intro x0 x1 x2 x3 x4 x5 x6 x7 x8 x9
  rw [k0_part124_eq_skeleton]
  delta k0_part124_skel
  exact .bind (.load h13) fun _ => .bind (.load h17) fun _ => .bind (.store h17) fun _ => .bind (.load h14) fun _ => .bind (.store h14) fun _ => .bind (.load h15) fun _ => .bind (.load h11) fun _ => .ret _

theorem part125 : ∀ x0 x1 x2 x3 x4 x5 x6, Keeps (U := UR sig nD τ) defs₀ 𝒱₀ (c : Thread nD τ) R (k0_part125 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part125_eq_skeleton]
  delta k0_part125_skel
  exact .bind (.load h16) fun _ => .bind (.store h16) fun _ => .bind (.load h15) fun _ => .bind (.store h15) fun _ => .bind (.load h15) fun _ => .bind (.load h11) fun _ => .bind (.load h16) fun _ => .bind (.store h16) fun _ => .bind (.load h15) fun _ => .bind (.store h15) fun _ => .bind (.load h15) fun _ => .ret _

theorem part126 : ∀ x0 x1 x2 x3 x4 x5 x6, Keeps (U := UR sig nD τ) defs₀ 𝒱₀ (c : Thread nD τ) R (k0_part126 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part126_eq_skeleton]
  delta k0_part126_skel
  exact .bind (.load h11) fun _ => .bind (.load h16) fun _ => .bind (.store h16) fun _ => .bind (.load h15) fun _ => .bind (.store h15) fun _ => .bind (.load h15) fun _ => .bind (.load h11) fun _ => .bind (.load h16) fun _ => .bind (.store h16) fun _ => .ret _

theorem part127 : ∀ x0 x1 x2 x3 x4 x5 x6, Keeps (U := UR sig nD τ) defs₀ 𝒱₀ (c : Thread nD τ) R (k0_part127 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part127_eq_skeleton]
  delta k0_part127_skel
  exact .bind (.load h15) fun _ => .bind (.store h15) fun _ => .bind (.load h15) fun _ => .bind (.load h11) fun _ => .bind (.load h16) fun _ => .bind (.store h16) fun _ => .bind (.load h15) fun _ => .bind (.store h15) fun _ => .bind (.load h15) fun _ => .bind (.load h11) fun _ => .ret _

theorem part128 : ∀ x0 x1 x2 x3 x4, Keeps (U := UR sig nD τ) defs₀ 𝒱₀ (c : Thread nD τ) R (k0_part128 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part128_eq_skeleton]
  delta k0_part128_skel
  exact .bind (.load h16) fun _ => .bind (.store h16) fun _ => .bind (.load h15) fun _ => .bind (.store h15) fun _ => .bind (.load h3) fun _ => .bind (.load h18) fun _ => .bind (.load h16) fun _ => .bind (.load h16) fun _ => .bind (.load h18) fun _ => .ret _

theorem part129 : ∀ x0 x1, Keeps (U := UR sig nD τ) defs₀ 𝒱₀ (c : Thread nD τ) R (k0_part129 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1) := by
  intro x0 x1
  rw [k0_part129_eq_skeleton]
  delta k0_part129_skel
  exact .bind (.store h18) fun _ => .bind (.load h18) fun _ => .bind (.load h16) fun _ => .bind (.load h16) fun _ => .bind (.load h18) fun _ => .bind (.store h18) fun _ => .bind (.load h18) fun _ => .bind (.load h16) fun _ => .bind (.load h16) fun _ => .bind (.load h18) fun _ => .bind (.store h18) fun _ => .ret _

theorem part130 : ∀ x0 x1 x2, Keeps (U := UR sig nD τ) defs₀ 𝒱₀ (c : Thread nD τ) R (k0_part130 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2) := by
  intro x0 x1 x2
  rw [k0_part130_eq_skeleton]
  delta k0_part130_skel
  exact .bind (.load h19) fun _ => .bind (.load h16) fun _ => .bind (.load h16) fun _ => .bind (.load h19) fun _ => .bind (.store h19) fun _ => .bind (.load h20) fun _ => .bind (.load h17) fun _ => .bind (.load h17) fun _ => .ret _

theorem part131 : ∀ x0 x1 x2 x3 x4, Keeps (U := UR sig nD τ) defs₀ 𝒱₀ (c : Thread nD τ) R (k0_part131 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part131_eq_skeleton]
  delta k0_part131_skel
  exact .bind (.load h20) fun _ => .bind (.store h20) fun _ => .bind (.load h16) fun _ => .bind (.store h16) fun _ => .bind (.load h17) fun _ => .bind (.store h17) fun _ => .bind (.load h3) fun _ => .bind (.load h4) fun _ => .bind (.load h11) fun _ => .bind (.store h11) fun _ => .bind (.load h13) fun _ => .bind (.store h13) fun _ => .bind (.load h11) fun _ => .ret _

theorem part132 : ∀ x0 x1 x2 x3 x4 x5, Keeps (U := UR sig nD τ) defs₀ 𝒱₀ (c : Thread nD τ) R (k0_part132 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part132_eq_skeleton]
  delta k0_part132_skel
  exact .bind (.store h11) fun _ => .bind (.load h13) fun _ => .bind (.store h13) fun _ => .bind (.load h10) fun _ => .bind (.load h10) fun _ => .ret _

theorem part133 : ∀ x0 x1 x2 x3, Keeps (U := UR sig nD τ) defs₀ 𝒱₀ (c : Thread nD τ) R (k0_part133 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3) := by
  intro x0 x1 x2 x3
  rw [k0_part133_eq_skeleton]
  delta k0_part133_skel
  exact .bind (.load h10) fun _ => .bind (.load h10) fun _ => .ret _

theorem part134 : ∀ x0 x1 x2 x3, Keeps (U := UR sig nD τ) defs₀ 𝒱₀ (c : Thread nD τ) R (k0_part134 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3) := by
  intro x0 x1 x2 x3
  rw [k0_part134_eq_skeleton]
  delta k0_part134_skel
  exact .bind (.load h14) fun _ => .bind (.load h6) fun _ => .bind (.load h10) fun _ => .bind (.load h12) fun _ => .bind (.load h17) fun _ => .bind (.store h17) fun _ => .bind (.load h14) fun _ => .bind (.store h14) fun _ => .bind (.load h14) fun _ => .ret _

theorem part135 : ∀ x0 x1 x2 x3 x4 x5, Keeps (U := UR sig nD τ) defs₀ 𝒱₀ (c : Thread nD τ) R (k0_part135 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part135_eq_skeleton]
  delta k0_part135_skel
  exact .bind (.load h6) fun _ => .bind (.load h10) fun _ => .bind (.load h12) fun _ => .bind (.load h17) fun _ => .bind (.store h17) fun _ => .bind (.load h14) fun _ => .bind (.store h14) fun _ => .bind (.load h14) fun _ => .bind (.load h6) fun _ => .ret _

theorem part136 : ∀ x0 x1 x2 x3 x4 x5 x6, Keeps (U := UR sig nD τ) defs₀ 𝒱₀ (c : Thread nD τ) R (k0_part136 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part136_eq_skeleton]
  delta k0_part136_skel
  exact .bind (.load h10) fun _ => .bind (.load h12) fun _ => .bind (.load h17) fun _ => .bind (.store h17) fun _ => .bind (.load h14) fun _ => .bind (.store h14) fun _ => .bind (.load h14) fun _ => .bind (.load h6) fun _ => .bind (.load h10) fun _ => .ret _

theorem part137 : ∀ x0 x1 x2 x3 x4 x5 x6 x7, Keeps (U := UR sig nD τ) defs₀ 𝒱₀ (c : Thread nD τ) R (k0_part137 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7) := by
  intro x0 x1 x2 x3 x4 x5 x6 x7
  rw [k0_part137_eq_skeleton]
  delta k0_part137_skel
  exact .bind (.load h12) fun _ => .bind (.load h17) fun _ => .bind (.store h17) fun _ => .bind (.load h14) fun _ => .bind (.store h14) fun _ => .bind (.load h15) fun _ => .bind (.load h10) fun _ => .bind (.load h16) fun _ => .bind (.store h16) fun _ => .ret _

theorem part138 : ∀ x0 x1 x2 x3 x4 x5 x6, Keeps (U := UR sig nD τ) defs₀ 𝒱₀ (c : Thread nD τ) R (k0_part138 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part138_eq_skeleton]
  delta k0_part138_skel
  exact .bind (.load h15) fun _ => .bind (.store h15) fun _ => .bind (.load h15) fun _ => .bind (.load h10) fun _ => .bind (.load h16) fun _ => .bind (.store h16) fun _ => .bind (.load h15) fun _ => .bind (.store h15) fun _ => .bind (.load h15) fun _ => .bind (.load h10) fun _ => .ret _

theorem part139 : ∀ x0 x1 x2 x3 x4 x5 x6, Keeps (U := UR sig nD τ) defs₀ 𝒱₀ (c : Thread nD τ) R (k0_part139 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6) := by
  intro x0 x1 x2 x3 x4 x5 x6
  rw [k0_part139_eq_skeleton]
  delta k0_part139_skel
  exact .bind (.load h16) fun _ => .bind (.store h16) fun _ => .bind (.load h15) fun _ => .bind (.store h15) fun _ => .bind (.load h15) fun _ => .bind (.load h10) fun _ => .bind (.load h16) fun _ => .bind (.store h16) fun _ => .bind (.load h15) fun _ => .ret _

theorem part140 : ∀ x0 x1, Keeps (U := UR sig nD τ) defs₀ 𝒱₀ (c : Thread nD τ) R (k0_part140 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1) := by
  intro x0 x1
  rw [k0_part140_eq_skeleton]
  delta k0_part140_skel
  exact .bind (.store h15) fun _ => .bind (.load h3) fun _ => .bind (.load h18) fun _ => .bind (.load h16) fun _ => .bind (.load h16) fun _ => .bind (.load h18) fun _ => .bind (.store h18) fun _ => .bind (.load h18) fun _ => .bind (.load h16) fun _ => .bind (.load h16) fun _ => .ret _

theorem part141 : ∀ x0 x1 x2 x3 x4 x5, Keeps (U := UR sig nD τ) defs₀ 𝒱₀ (c : Thread nD τ) R (k0_part141 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5) := by
  intro x0 x1 x2 x3 x4 x5
  rw [k0_part141_eq_skeleton]
  delta k0_part141_skel
  exact .bind (.load h18) fun _ => .bind (.store h18) fun _ => .bind (.load h19) fun _ => .bind (.load h16) fun _ => .bind (.load h16) fun _ => .bind (.load h19) fun _ => .bind (.store h19) fun _ => .bind (.load h20) fun _ => .bind (.load h17) fun _ => .ret _

theorem part142 : ∀ x0 x1 x2 x3 x4, Keeps (U := UR sig nD τ) defs₀ 𝒱₀ (c : Thread nD τ) R (k0_part142 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part142_eq_skeleton]
  delta k0_part142_skel
  exact .bind (.load h17) fun _ => .bind (.load h20) fun _ => .bind (.store h20) fun _ => .bind (.load h16) fun _ => .bind (.store h16) fun _ => .bind (.load h17) fun _ => .bind (.store h17) fun _ => .bind (.load h11) fun _ => .ret _

theorem part143 : ∀ x0 x1 x2 x3, Keeps (U := UR sig nD τ) defs₀ 𝒱₀ (c : Thread nD τ) R (k0_part143 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3) := by
  intro x0 x1 x2 x3
  rw [k0_part143_eq_skeleton]
  delta k0_part143_skel
  exact .bind (.load h11) fun _ => .bind (.load h14) fun _ => .bind (.load h6) fun _ => .bind (.load h11) fun _ => .bind (.load h13) fun _ => .ret _

theorem part144 : ∀ x0 x1 x2 x3 x4 x5 x6 x7, Keeps (U := UR sig nD τ) defs₀ 𝒱₀ (c : Thread nD τ) R (k0_part144 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7) := by
  intro x0 x1 x2 x3 x4 x5 x6 x7
  rw [k0_part144_eq_skeleton]
  delta k0_part144_skel
  exact .bind (.load h17) fun _ => .bind (.store h17) fun _ => .bind (.load h14) fun _ => .bind (.store h14) fun _ => .bind (.load h14) fun _ => .bind (.load h6) fun _ => .bind (.load h11) fun _ => .bind (.load h13) fun _ => .ret _

set_option maxHeartbeats 2000000 in
theorem part148 : Keeps (U := UR sig nD τ) defs₀ 𝒱₀ (c : Thread nD τ) R (k0_part148 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  rw [k0_part148_eq_skeleton]
  delta k0_part148_skel
  exact .bind (part85 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20) fun ⟨_, _, _, _, _, _, _, _, _, _, _, _⟩ => .bind (part86 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _) fun ⟨_, _, _, _, _, _, _, _, _, _, _, _, _, _⟩ => .bind (part87 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _) fun ⟨_, _, _, _, _⟩ => .bind (part88 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _) fun ⟨_, _⟩ => .bind (part89 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _) fun _ => .bind (part90 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun _ => .bind (part91 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _ _ _ _ _ _ _ _ _ _ _ _ _ _) fun ⟨_, _, _, _⟩ => .bind (part92 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _) fun ⟨_, _⟩ => .bind (part93 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _⟩ => .bind (part94 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _, _⟩ => .bind (part95 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _) fun _ => .bind (part96 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _, _⟩ => .bind (part97 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _, _, _⟩ => .bind (part98 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _, _, _, _⟩ => .bind (part99 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _, _, _⟩ => .bind (part100 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _, _⟩ => .bind (part101 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _) fun ⟨_, _, _, _, _⟩ => .bind (part102 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _, _, _, _, _⟩ => .bind (part103 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _) fun ⟨_, _, _, _, _⟩ => .bind (part104 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _⟩ => .bind (part105 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _) fun ⟨_, _, _⟩ => .bind (part106 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _, _, _, _⟩ => .bind (part107 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _) fun _ => .bind (part108 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _⟩ => .bind (part109 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun _ => .bind (part110 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _⟩ => .bind (part111 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _) fun ⟨_, _⟩ => .bind (part112 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20) fun _ => .bind (part113 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _) fun _ => .bind (part114 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _) fun _ => .bind (part115 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _⟩ => .bind (part116 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _, _⟩ => .bind (part117 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _, _, _, _, _⟩ => .bind (part118 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _, _, _⟩ => .bind (part119 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _, _, _, _⟩ => .bind (part120 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _, _⟩ => .bind (part121 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _⟩ => .bind (part122 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun ⟨_, _, _, _⟩ => .bind (part123 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _, _, _⟩ => .bind (part124 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _ _) fun ⟨_, _, _, _⟩ => .bind (part125 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun _ => .bind (part126 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun _ => .bind (part127 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _⟩ => .bind (part128 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _, _, _⟩ => .bind (part129 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _) fun _ => .bind (part130 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _) fun _ => .bind (part131 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _, _⟩ => .bind (part132 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _, _⟩ => .bind (part133 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _) fun ⟨_, _, _, _, _⟩ => .bind (part134 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _) fun ⟨_, _, _⟩ => .bind (part135 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _, _⟩ => .bind (part136 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _, _, _⟩ => .bind (part137 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _) fun ⟨_, _, _, _⟩ => .bind (part138 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun ⟨_, _⟩ => .bind (part139 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _) fun _ => .bind (part140 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _) fun ⟨_, _, _, _⟩ => .bind (part141 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _) fun ⟨_, _, _⟩ => .bind (part142 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _⟩ => .bind (part143 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _) fun ⟨_, _, _, _, _, _⟩ => .bind (part144 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _) fun ⟨_, _, _, _, _, _⟩ => .ret _

theorem part145 : ∀ x0 x1 x2 x3 x4 x5 x6 x7 x8 x9, Keeps (U := UR sig nD τ) defs₀ 𝒱₀ (c : Thread nD τ) R (k0_part145 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9) := by
  intro x0 x1 x2 x3 x4 x5 x6 x7 x8 x9
  rw [k0_part145_eq_skeleton]
  delta k0_part145_skel
  exact .bind (.load h17) fun _ => .bind (.store h17) fun _ => .bind (.load h14) fun _ => .bind (.store h14) fun _ => .bind (.load h15) fun _ => .bind (.load h11) fun _ => .bind (.load h16) fun _ => .bind (.store h16) fun _ => .bind (.load h15) fun _ => .bind (.store h15) fun _ => .ret _

theorem part146 : ∀ x0 x1 x2 x3 x4, Keeps (U := UR sig nD τ) defs₀ 𝒱₀ (c : Thread nD τ) R (k0_part146 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part146_eq_skeleton]
  delta k0_part146_skel
  exact .bind (.load h15) fun _ => .bind (.load h11) fun _ => .bind (.load h16) fun _ => .bind (.store h16) fun _ => .bind (.load h15) fun _ => .bind (.store h15) fun _ => .bind (.load h3) fun _ => .bind (.load h18) fun _ => .bind (.load h16) fun _ => .ret _

theorem part147 : ∀ x0 x1 x2 x3 x4, Keeps (U := UR sig nD τ) defs₀ 𝒱₀ (c : Thread nD τ) R (k0_part147 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4) := by
  intro x0 x1 x2 x3 x4
  rw [k0_part147_eq_skeleton]
  delta k0_part147_skel
  exact .bind (.load h16) fun _ => .bind (.load h18) fun _ => .bind (.store h18) fun _ => .bind (.load h19) fun _ => .bind (.load h16) fun _ => .bind (.load h16) fun _ => .bind (.load h19) fun _ => .bind (.store h19) fun _ => .bind (.load h20) fun _ => .bind (.load h17) fun _ => .ret _

set_option maxHeartbeats 2000000 in
theorem body : Keeps (U := UR sig nD τ) defs₀ 𝒱₀ (c : Thread nD τ) R (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  rw [cc0_attn_bwd_eq_skeleton]
  delta cc0_attn_bwd_skel
  exact .bind (part148 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20) fun ⟨_, _, _, _, _, _, _, _, _, _, _, _, _, _, _, _⟩ => .bind (part145 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _ _ _ _ _ _) fun _ => .bind (part146 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _, _, _⟩ => .bind (part147 c i harg2 harg3 harg4 harg5 harg6 harg7 harg8 harg9 harg10 harg11 harg12 harg13 harg14 harg15 harg16 harg17 harg18 harg19 harg20 h2 h3 h4 h5 h6 h7 h8 h9 h10 h11 h12 h13 h14 h15 h16 h17 h18 h19 h20 _ _ _ _ _) fun ⟨_, _, _⟩ => .bind (.load h17) fun _ => .bind (.load h20) fun _ => .bind (.store h20) fun _ => .bind (.load h18) fun _ => .bind (.load h7) fun _ => .bind (.store h7) fun _ => .dite (fun _ => .bind (.load h19) fun _ => .bind (.load h8) fun _ => .bind (.store h8) fun _ => .bind (.load h20) fun _ => .bind (.load h9) fun _ => .bind (.store h9) fun _ => .ret _) (fun _ => .ret _)

end Cert.AttnBwdIdeal.Safe

end
-- ==== Proof.AttnIdealFrame.lean ====
module

public import proofs.«01_k».proof.Proof.AttnIdealParts

/-! The idealized attention gradient runs to its end from any memory, with its arguments unchanged and every counter at zero: at each
grid point the body holds its staging and scratch buffers at contents that are not named. -/

@[expose] public section

set_option maxRecDepth 65536

noncomputable section

namespace Cert.AttnBwdIdeal.Safe

open Cert.AttnBwdIdeal Cert.AttnBwdIdeal.Gen Cert.Havoc
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the region finds them; nothing is said of what the body leaves in a buffer. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The body's buffers at point `t`, each at some contents, next to what the body does not touch. -/
def held (c : Dev nD) (t : Fin cfg0.N) (P : sProp 𝕄) : sProp 𝕄 :=
  iprop(anyOf (U := UR sig nD τ) (c : Thread nD τ) (win0_0.stage (cfg0.slots t 0)) ∗ anyOf (U := UR sig nD τ) (c : Thread nD τ) (win0_1.stage (cfg0.slots t 1)) ∗ anyOf (U := UR sig nD τ) (c : Thread nD τ) (win0_2.stage (cfg0.slots t 2)) ∗ anyOf (U := UR sig nD τ) (c : Thread nD τ) (win0_3.stage (cfg0.slots t 3)) ∗ anyOf (U := UR sig nD τ) (c : Thread nD τ) (win0_4.stage (cfg0.slots t 4)) ∗ anyOf (U := UR sig nD τ) (c : Thread nD τ) (win0_5.stage (cfg0.slots t 5)) ∗ anyOf (U := UR sig nD τ) (c : Thread nD τ) (win0_6.stage (cfg0.slots t 6)) ∗ anyOf (U := UR sig nD τ) (c : Thread nD τ) (win0_7.stage (cfg0.slots t 7)) ∗ anyOf (U := UR sig nD τ) (c : Thread nD τ) (Memref.whole cc0_scratch0) ∗ anyOf (U := UR sig nD τ) (c : Thread nD τ) (Memref.whole cc0_scratch1) ∗ anyOf (U := UR sig nD τ) (c : Thread nD τ) (Memref.whole cc0_scratch2) ∗ anyOf (U := UR sig nD τ) (c : Thread nD τ) (Memref.whole cc0_scratch3) ∗ anyOf (U := UR sig nD τ) (c : Thread nD τ) (Memref.whole cc0_scratch4) ∗ anyOf (U := UR sig nD τ) (c : Thread nD τ) (Memref.whole cc0_scratch5) ∗ anyOf (U := UR sig nD τ) (c : Thread nD τ) (Memref.whole cc0_scratch6) ∗ anyOf (U := UR sig nD τ) (c : Thread nD τ) (Memref.whole cc0_scratch7) ∗ anyOf (U := UR sig nD τ) (c : Thread nD τ) (Memref.whole cc0_scratch8) ∗ anyOf (U := UR sig nD τ) (c : Thread nD τ) (Memref.whole cc0_scratch9) ∗ anyOf (U := UR sig nD τ) (c : Thread nD τ) (Memref.whole cc0_scratch10) ∗ P)

/-- The body at point `t`, from its buffers to its buffers. -/
theorem body_held (c : Dev nD) (t : Fin cfg0.N) (P : sProp 𝕄) :
    Keeps (U := UR sig nD τ) defs₀ Variants.none (c : Thread nD τ) (held c t P) (bodyAt0 (F := F) t) :=
  body c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)
    .left
    (.right .left)
    (.right (.right .left))
    (.right (.right (.right .left)))
    (.right (.right (.right (.right .left))))
    (.right (.right (.right (.right (.right .left)))))
    (.right (.right (.right (.right (.right (.right .left))))))
    (.right (.right (.right (.right (.right (.right (.right .left)))))))
    (.right (.right (.right (.right (.right (.right (.right (.right .left))))))))
    (.right (.right (.right (.right (.right (.right (.right (.right (.right .left)))))))))
    (.right (.right (.right (.right (.right (.right (.right (.right (.right (.right .left))))))))))
    (.right (.right (.right (.right (.right (.right (.right (.right (.right (.right (.right .left)))))))))))
    (.right (.right (.right (.right (.right (.right (.right (.right (.right (.right (.right (.right .left))))))))))))
    (.right (.right (.right (.right (.right (.right (.right (.right (.right (.right (.right (.right (.right .left)))))))))))))
    (.right (.right (.right (.right (.right (.right (.right (.right (.right (.right (.right (.right (.right (.right .left))))))))))))))
    (.right (.right (.right (.right (.right (.right (.right (.right (.right (.right (.right (.right (.right (.right (.right .left)))))))))))))))
    (.right (.right (.right (.right (.right (.right (.right (.right (.right (.right (.right (.right (.right (.right (.right (.right .left))))))))))))))))
    (.right (.right (.right (.right (.right (.right (.right (.right (.right (.right (.right (.right (.right (.right (.right (.right (.right .left)))))))))))))))))
    (.right (.right (.right (.right (.right (.right (.right (.right (.right (.right (.right (.right (.right (.right (.right (.right (.right (.right .left))))))))))))))))))

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- What the body does not touch: the generator register, and what the core owes. -/
def spare (c : Dev nD) (t : Fin cfg0.N) : sProp 𝕄 := iprop((∃ r, prngReg c r) ∗ (rdat m c).owesAt () t.castSucc)

theorem body_obligation (c : Dev nD) : (rdat m c).BodyObligation (defs₀ (F := F)) Variants.none () Set.univ := fun t Y _ => by
  rw [bigSep_W0, bigSep_W0, defs₀_row]
  refine Hoare.conseq frame (wpE defs₀ Variants.none (c : Thread nD τ) none) Set.univ (P' := held c t (spare m c t))
    (Q' := fun _ => held c t (spare m c t)) ?_ (fun _ => ?_) (body_held c t _)
  · rw [show (rdat m c).Φ t.castSucc = Pipeline.ΦA spec0 c from rfl]
    unfold held spare Pipeline.ΦA
    rw [scopedRest0_eq]
    iintro ⟨⟨⟨S0, S1, S2, S3, S4, S5, S6, S7, S8, S9, S10⟩, Hg⟩, HO, H0, H1, H2, H3, H4, H5, H6, H7⟩
    isplitl [H0]; · iapply (Has.of_owns (U := UR sig nD τ) (c : Thread nD τ) (win0_0.stage (cfg0.slots t 0))); iexact H0
    isplitl [H1]; · iapply (Has.of_owns (U := UR sig nD τ) (c : Thread nD τ) (win0_1.stage (cfg0.slots t 1))); iexact H1
    isplitl [H2]; · iapply (Has.of_owns (U := UR sig nD τ) (c : Thread nD τ) (win0_2.stage (cfg0.slots t 2))); iexact H2
    isplitl [H3]; · iapply (Has.of_owns (U := UR sig nD τ) (c : Thread nD τ) (win0_3.stage (cfg0.slots t 3))); iexact H3
    isplitl [H4]; · iapply (Has.of_owns (U := UR sig nD τ) (c : Thread nD τ) (win0_4.stage (cfg0.slots t 4))); iexact H4
    isplitl [H5]; · iapply (Has.of_owns (U := UR sig nD τ) (c : Thread nD τ) (win0_5.stage (cfg0.slots t 5))); iexact H5
    isplitl [H6]; · iapply (Has.of_owns (U := UR sig nD τ) (c : Thread nD τ) (win0_6.stage (cfg0.slots t 6))); iexact H6
    isplitl [H7]; · iapply (Has.of_owns (U := UR sig nD τ) (c : Thread nD τ) (win0_7.stage (cfg0.slots t 7))); iexact H7
    isplitl [S0]; · iapply (Has.of_whole (U := UR sig nD τ) (c : Thread nD τ) cc0_scratch0); iexact S0
    isplitl [S1]; · iapply (Has.of_whole (U := UR sig nD τ) (c : Thread nD τ) cc0_scratch1); iexact S1
    isplitl [S2]; · iapply (Has.of_whole (U := UR sig nD τ) (c : Thread nD τ) cc0_scratch2); iexact S2
    isplitl [S3]; · iapply (Has.of_whole (U := UR sig nD τ) (c : Thread nD τ) cc0_scratch3); iexact S3
    isplitl [S4]; · iapply (Has.of_whole (U := UR sig nD τ) (c : Thread nD τ) cc0_scratch4); iexact S4
    isplitl [S5]; · iapply (Has.of_whole (U := UR sig nD τ) (c : Thread nD τ) cc0_scratch5); iexact S5
    isplitl [S6]; · iapply (Has.of_whole (U := UR sig nD τ) (c : Thread nD τ) cc0_scratch6); iexact S6
    isplitl [S7]; · iapply (Has.of_whole (U := UR sig nD τ) (c : Thread nD τ) cc0_scratch7); iexact S7
    isplitl [S8]; · iapply (Has.of_whole (U := UR sig nD τ) (c : Thread nD τ) cc0_scratch8); iexact S8
    isplitl [S9]; · iapply (Has.of_whole (U := UR sig nD τ) (c : Thread nD τ) cc0_scratch9); iexact S9
    isplitl [S10]; · iapply (Has.of_whole (U := UR sig nD τ) (c : Thread nD τ) cc0_scratch10); iexact S10
    isplitl [Hg]; · iexact Hg
    iexact HO
  · rw [show (rdat m c).Φ t.succ = Pipeline.ΦA spec0 c from rfl, show (rdat m c).owesAt () t.succ = (rdat m c).owesAt () t.castSucc from rfl]
    unfold held spare Pipeline.ΦA
    rw [scopedRest0_eq]
    iintro ⟨H0, H1, H2, H3, H4, H5, H6, H7, S0, S1, S2, S3, S4, S5, S6, S7, S8, S9, S10, Hg, HO⟩
    isplitl [S0 S1 S2 S3 S4 S5 S6 S7 S8 S9 S10 Hg]
    · isplitl [S0 S1 S2 S3 S4 S5 S6 S7 S8 S9 S10]
      · isplitl [S0]; · iapply (Has.to_whole (U := UR sig nD τ) (c : Thread nD τ) cc0_scratch0); iexact S0
        isplitl [S1]; · iapply (Has.to_whole (U := UR sig nD τ) (c : Thread nD τ) cc0_scratch1); iexact S1
        isplitl [S2]; · iapply (Has.to_whole (U := UR sig nD τ) (c : Thread nD τ) cc0_scratch2); iexact S2
        isplitl [S3]; · iapply (Has.to_whole (U := UR sig nD τ) (c : Thread nD τ) cc0_scratch3); iexact S3
        isplitl [S4]; · iapply (Has.to_whole (U := UR sig nD τ) (c : Thread nD τ) cc0_scratch4); iexact S4
        isplitl [S5]; · iapply (Has.to_whole (U := UR sig nD τ) (c : Thread nD τ) cc0_scratch5); iexact S5
        isplitl [S6]; · iapply (Has.to_whole (U := UR sig nD τ) (c : Thread nD τ) cc0_scratch6); iexact S6
        isplitl [S7]; · iapply (Has.to_whole (U := UR sig nD τ) (c : Thread nD τ) cc0_scratch7); iexact S7
        isplitl [S8]; · iapply (Has.to_whole (U := UR sig nD τ) (c : Thread nD τ) cc0_scratch8); iexact S8
        isplitl [S9]; · iapply (Has.to_whole (U := UR sig nD τ) (c : Thread nD τ) cc0_scratch9); iexact S9
        iapply (Has.to_whole (U := UR sig nD τ) (c : Thread nD τ) cc0_scratch10); iexact S10
      iexact Hg
    isplitl [HO]; · iexact HO
    isplitl [H0]; · iapply (Has.to_owns (U := UR sig nD τ) (c : Thread nD τ) (win0_0.stage (cfg0.slots t 0))); iexact H0
    isplitl [H1]; · iapply (Has.to_owns (U := UR sig nD τ) (c : Thread nD τ) (win0_1.stage (cfg0.slots t 1))); iexact H1
    isplitl [H2]; · iapply (Has.to_owns (U := UR sig nD τ) (c : Thread nD τ) (win0_2.stage (cfg0.slots t 2))); iexact H2
    isplitl [H3]; · iapply (Has.to_owns (U := UR sig nD τ) (c : Thread nD τ) (win0_3.stage (cfg0.slots t 3))); iexact H3
    isplitl [H4]; · iapply (Has.to_owns (U := UR sig nD τ) (c : Thread nD τ) (win0_4.stage (cfg0.slots t 4))); iexact H4
    isplitl [H5]; · iapply (Has.to_owns (U := UR sig nD τ) (c : Thread nD τ) (win0_5.stage (cfg0.slots t 5))); iexact H5
    isplitl [H6]; · iapply (Has.to_owns (U := UR sig nD τ) (c : Thread nD τ) (win0_6.stage (cfg0.slots t 6))); iexact H6
    iapply (Has.to_owns (U := UR sig nD τ) (c : Thread nD τ) (win0_7.stage (cfg0.slots t 7))); iexact H7

set_option backward.isDefEq.respectTransparency.types false in
/-- From any memory with zero counters the program runs to its end; its arguments are unchanged and the counters zero again. -/
theorem run_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.RDat.θ_run_frame_track_shared cfgs (0 : Fin 1) launch₀0 defs₀ Variants.none (rdat m) m ρ main
    (hbody := body_obligation m) (hq := fun _ _ _ => rfl) (howed := fun _ _ => rfl) (V := V m) (hmain := hmain m Variants.none)
    (hA := fun _ _ => rfl) (hin := fun _ => .rfl) (hout := fun _ => .rfl) (Q' := _)
    (hQ' := fun r h => ⟨fun c => ⟨(h.1.arr_in c 2 rfl).trans (V_main_arg0 m c), (h.1.arr_in c 3 rfl).trans (V_main_arg1 m c),
      (h.1.arr_in c 4 rfl).trans (V_main_arg2 m c)⟩, h.2⟩)

end Cert.AttnBwdIdeal.Safe

end
-- ==== Proof.DownDgradValue.lean ====
module

public import proofs.«01_k».proof.Proof.Gen.DownDgradIdeal.Frame
public import proofs.«01_k».proof.Proof.Gen.DownDgradIdeal.Value
public import proofs.«01_k».proof.Proof.Gen.DownDgradRefIdeal.Run
public import proofs.«01_k».proof.Proof.Gen.DownDgradRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownDgradIdeal.GradValue

open Cert.DownDgradIdeal Cert.DownDgradIdeal.Gen
open Cert.DownDgradRefIdeal.Read

variable (m : (ℓ : Loc nD τ sig) → Buf (Elt Ideal) ℓ)

/-- The rectified input as the host hands it to the products. -/
theorem relus (c : Dev nD) : V m c main_v1 = val_main_v0 (F := Ideal) (m ((c : Thread nD τ).loc main_arg0)) := by
  simp only [V, hostOps0, hostOps0_1, List.flatten_cons, List.flatten_nil, List.append_nil, List.cons_append, List.nil_append]
  after_results_simp <;> rfl

/-- The reference's choice by the sign of the input is already in the factor of the rectified input, zero where the
    input is not positive. -/
theorem gate_at (x0 : FVec Ideal S2048x4096 .f32) (x1 : FVec Ideal S4096x1024 .f32) (x2 : FVec Ideal S2048x1024 .f32)
    (i : S2048x4096.Idx) :
    val_main_v12 (F := Ideal) x0 x1 x2 i
      = val_main_v8 (F := Ideal) x1 x2 i * (Ideal.ofBits .f32 0x40000000#32 * val_main_v0 (F := Ideal) x0 i) := by
  pointwise [val_main_v0, val_main_call0_v0, val_main_call0_cst, val_main_v1, val_main_cst, val_main_v2, val_main_v5,
    val_main_cst_1, val_main_v6, val_main_v9, val_main_v10, val_main_cst_2, val_main_v11, val_main_v12]
  by_cases h : (0 : EReal) < x0 i
  · rw [if_pos h]
  · rw [if_neg h, max_eq_right (not_lt.mp h), mul_zero, mul_zero]

theorem idx : ∀ t : Fin cfg0.N, win0_0.index t = ![0, 0] ∧ win0_1.index t = ![t.val, 0] ∧ win0_2.index t = ![0, t.val] ∧ win0_3.index t = ![0, t.val] :=
  (by decide +kernel : ∀ t : Fin grid0.N, _)

theorem point (c : Dev nD) (t : Fin cfg0.N) (y : S2048x1024.Idx) :
    k0_pay1 (F := Ideal) (iblk m c 0 t) (iblk m c 1 t) (iblk m c 2 t) y = val_main_v12 (F := Ideal) (m ((c : Thread nD τ).loc main_arg0)) (m ((c : Thread nD τ).loc main_arg1)) (m ((c : Thread nD τ).loc main_arg2))
      (((cfg0.win 3).blk t).view.emb y) := by
  refine Eq.trans ?_ (gate_at _ _ _ _).symm
  pointwise [k0_pay1, val_main_v8]
  blk_point [iblk, relus m c, V, idx t]

theorem final (c : Dev nD) : (dats m 0 c).arrAt 3 (cfgs 0).N
    = val_main_v12 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  frame_out
  exact point m c t y

/-- The kernel's products with the transposed weights, times twice the rectified input, are the reference's gradient of the hidden units. -/
theorem algebraic : Cert.algebraic_DownDgradIdeal_DownDgradRefIdeal (hDownDgradIdeal := Cert.DownDgradIdeal.Gen.facts)
    (hDownDgradRefIdeal := Cert.DownDgradRefIdeal.Gen.facts) := by
  pair_intro
  · run_from Cert.DownDgradIdeal.Gen.run_main m g
    · exact V_main_arg0 m _
    · exact V_main_arg1 m _
    · exact V_main_arg2 m _
  · run_from Cert.DownDgradRefIdeal.Value.run m' g'
    exact (final m _).symm

end Cert.DownDgradIdeal.GradValue
-- ==== Proof.DownWgradValue.lean ====
module

public import proofs.«01_k».proof.Proof.Gen.DownWgradIdeal.Frame
public import proofs.«01_k».proof.Proof.Gen.DownWgradIdeal.Value
public import proofs.«01_k».proof.Proof.Gen.DownWgradRefIdeal.Run
public import proofs.«01_k».proof.Proof.Gen.DownWgradRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownWgradIdeal.GradValue

open Cert.DownWgradIdeal Cert.DownWgradIdeal.Gen
open Cert.DownWgradRefIdeal.Read

variable (m : (ℓ : Loc nD τ sig) → Buf (Elt Ideal) ℓ)

/-- The squares of the rectified input as the host hands them to the products. -/
theorem squares (c : Dev nD) : V m c main_v2 = val_main_v2 (F := Ideal) (m ((c : Thread nD τ).loc main_arg0)) := by
  simp only [V, hostOps0, hostOps0_1, List.flatten_cons, List.flatten_nil, List.append_nil, List.cons_append, List.nil_append]
  after_results_simp <;> rfl

theorem idx : ∀ t : Fin cfg0.N, win0_0.index t = ![0, t.val] ∧ win0_1.index t = ![0, 0] ∧ win0_2.index t = ![t.val, 0] :=
  (by decide +kernel : ∀ t : Fin grid0.N, _)

theorem point (c : Dev nD) (t : Fin cfg0.N) (y : S1024x1024.Idx) :
    k0_pay1 (F := Ideal) (iblk m c 0 t) (iblk m c 1 t) y = val_main_v6 (F := Ideal) (m ((c : Thread nD τ).loc main_arg0)) (m ((c : Thread nD τ).loc main_arg1))
      (((cfg0.win 2).blk t).view.emb y) := by
  pointwise [k0_pay1, val_main_v4, val_main_v5, val_main_v6]
  refine (Finset.sum_congr rfl fun k _ => mul_comm _ _).trans ?_
  blk_point [iblk, squares m c, V, idx t]

theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  exact point m c t y

/-- The kernel's products with the transposed squares are the reference's gradient of the second weights. -/
theorem algebraic : Cert.algebraic_DownWgradIdeal_DownWgradRefIdeal (hDownWgradIdeal := Cert.DownWgradIdeal.Gen.facts)
    (hDownWgradRefIdeal := Cert.DownWgradRefIdeal.Gen.facts) := by
  pair_intro
  · run_from Cert.DownWgradIdeal.Gen.run_main m g
    · exact V_main_arg0 m _
    · exact V_main_arg1 m _
  · run_from Cert.DownWgradRefIdeal.Value.run m' g'
    exact (final m _).symm

end Cert.DownWgradIdeal.GradValue
-- ==== Proof.UpWgradValue.lean ====
module

public import proofs.«01_k».proof.Proof.Gen.UpWgradIdeal.Frame
public import proofs.«01_k».proof.Proof.Gen.UpWgradIdeal.Value
public import proofs.«01_k».proof.Proof.Gen.UpWgradRefIdeal.Run
public import proofs.«01_k».proof.Proof.Gen.UpWgradRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpWgradIdeal.GradValue

open Cert.UpWgradIdeal Cert.UpWgradIdeal.Gen
open Cert.UpWgradRefIdeal.Read

variable (m : (ℓ : Loc nD τ sig) → Buf (Elt Ideal) ℓ)

theorem idx : ∀ t : Fin cfg0.N, win0_0.index t = ![0, 0] ∧ win0_1.index t = ![0, t.val] ∧ win0_2.index t = ![t.val, 0, 0] :=
  (by decide +kernel : ∀ t : Fin grid0.N, _)

theorem point (c : Dev nD) (t : Fin cfg0.N) (y : S1x1024x512.Idx) :
    k0_pay1 (F := Ideal) (iblk m c 0 t) (iblk m c 1 t) y = val_main_v6 (F := Ideal) (m ((c : Thread nD τ).loc main_arg0)) (m ((c : Thread nD τ).loc main_arg1))
      (((cfg0.win 2).blk t).view.emb y) := by
  pointwise [k0_pay1, val_main_v2, val_main_v3, val_main_v4, val_main_v5, val_main_v6]
  refine (Finset.sum_congr rfl fun k _ => mul_comm _ _).trans ?_
  blk_point [iblk, V, idx t]

theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  exact point m c t y

/-- The kernel's products with the transposed input are the reference's gradient of the first weights, a block of columns each. -/
theorem algebraic : Cert.algebraic_UpWgradIdeal_UpWgradRefIdeal (hUpWgradIdeal := Cert.UpWgradIdeal.Gen.facts)
    (hUpWgradRefIdeal := Cert.UpWgradRefIdeal.Gen.facts) := by
  pair_intro
  · run_from Cert.UpWgradIdeal.Gen.run_main m g
  · run_from Cert.UpWgradRefIdeal.Value.run m' g'
    exact (final m _).symm

end Cert.UpWgradIdeal.GradValue
-- ==== Proof.UpDgradValue.lean ====
module

public import proofs.«01_k».proof.Proof.Gen.UpDgradIdeal.Frame
public import proofs.«01_k».proof.Proof.Gen.UpDgradIdeal.Value
public import proofs.«01_k».proof.Proof.Gen.UpDgradRefIdeal.Run
public import proofs.«01_k».proof.Proof.Gen.UpDgradRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpDgradIdeal.GradValue

open Cert.UpDgradIdeal Cert.UpDgradIdeal.Gen
open Cert.UpDgradRefIdeal.Read

variable (m : (ℓ : Loc nD τ sig) → Buf (Elt Ideal) ℓ)

theorem idx : ∀ t : Fin cfg0.N, win0_0.index t = ![t.val / 2, 0] ∧ win0_1.index t = ![0, t.val % 2, 0] ∧ win0_2.index t = ![t.val / 2, t.val % 2] :=
  (by decide +kernel : ∀ t : Fin grid0.N, _)

theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  pointwise [k0_pay1, k0_pay2, k0_pay3, val_main_v2]
  rw [show (∑ k : Fin 4096, _ : EReal) = _ from Fin.sum_univ_tiles 8 512 rfl _, Fin.sum_univ_eight]
  blk_point [iblk, V, idx t]

/-- The kernel's eight products, one per block of weights, add up to the reference's gradient of the input. -/
theorem algebraic : Cert.algebraic_UpDgradIdeal_UpDgradRefIdeal (hUpDgradIdeal := Cert.UpDgradIdeal.Gen.facts)
    (hUpDgradRefIdeal := Cert.UpDgradRefIdeal.Gen.facts) := by
  pair_intro
  · run_from Cert.UpDgradIdeal.Gen.run_main m g
  · run_from Cert.UpDgradRefIdeal.Value.run m' g'
    exact (final m _).symm

end Cert.UpDgradIdeal.GradValue
-- ==== Proof.MixDgradValue.lean ====
module

public import proofs.«01_k».proof.Proof.Gen.MixDgradIdeal.Frame
public import proofs.«01_k».proof.Proof.Gen.MixDgradIdeal.Value
public import proofs.«01_k».proof.Proof.Gen.MixDgradRefIdeal.Run
public import proofs.«01_k».proof.Proof.Gen.MixDgradRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixDgradIdeal.GradValue

open Cert.MixDgradIdeal Cert.MixDgradIdeal.Gen
open Cert.MixDgradRefIdeal.Read

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem point (c : Dev nD) (t : Fin cfg0.N) (y : S1024x512.Idx) :
    k0_pay1 (F := Ideal) (iblk m c 0 t) (iblk m c 1 t) y = val_main_v2 (F := Ideal) (m ((c : Thread nD τ).loc main_arg0)) (m ((c : Thread nD τ).loc main_arg1))
      (((cfg0.win 2).blk t).view.emb y) := by
  pointwise [k0_pay1, val_main_v2]
  blk_point [iblk, V, idx t]

theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  exact point m c t y

/-- The kernel's products with the transposed output weights are the reference's gradient of the mixed branches. -/
theorem algebraic : Cert.algebraic_MixDgradIdeal_MixDgradRefIdeal (hMixDgradIdeal := Cert.MixDgradIdeal.Gen.facts)
    (hMixDgradRefIdeal := Cert.MixDgradRefIdeal.Gen.facts) := by
  pair_intro
  · run_from Cert.MixDgradIdeal.Gen.run_main m g
  · run_from Cert.MixDgradRefIdeal.Value.run m' g'
    exact (final m _).symm

end Cert.MixDgradIdeal.GradValue
-- ==== Proof.MixWgradValue.lean ====
module

public import proofs.«01_k».proof.Proof.Gen.MixWgradIdeal.Frame
public import proofs.«01_k».proof.Proof.Gen.MixWgradIdeal.Value
public import proofs.«01_k».proof.Proof.Gen.MixWgradRefIdeal.Run
public import proofs.«01_k».proof.Proof.Gen.MixWgradRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixWgradIdeal.GradValue

open Cert.MixWgradIdeal Cert.MixWgradIdeal.Gen
open Cert.MixWgradRefIdeal.Read

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

theorem point (c : Dev nD) (t : Fin cfg0.N) (y : S512x1024.Idx) :
    k0_pay1 (F := Ideal) (iblk m c 0 t) (iblk m c 1 t) y = val_main_v4 (F := Ideal) (m ((c : Thread nD τ).loc main_arg0)) (m ((c : Thread nD τ).loc main_arg1))
      (((cfg0.win 2).blk t).view.emb y) := by
  pointwise [k0_pay1, val_main_v2, val_main_v3, val_main_v4]
  refine (Finset.sum_congr rfl fun k _ => mul_comm _ _).trans ?_
  blk_point [iblk, V, idx t]

theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  exact point m c t y

/-- The kernel's products with the transposed branches are the reference's gradient of the output weights. -/
theorem algebraic : Cert.algebraic_MixWgradIdeal_MixWgradRefIdeal (hMixWgradIdeal := Cert.MixWgradIdeal.Gen.facts)
    (hMixWgradRefIdeal := Cert.MixWgradRefIdeal.Gen.facts) := by
  pair_intro
  · run_from Cert.MixWgradIdeal.Gen.run_main m g
  · run_from Cert.MixWgradRefIdeal.Value.run m' g'
    exact (final m _).symm

end Cert.MixWgradIdeal.GradValue
-- ==== Proof.ProjDgradValue.lean ====
module

public import proofs.«01_k».proof.Proof.Gen.ProjDgradIdeal.Frame
public import proofs.«01_k».proof.Proof.Gen.ProjDgradIdeal.Value
public import proofs.«01_k».proof.Proof.Gen.ProjDgradRefIdeal.Run
public import proofs.«01_k».proof.Proof.Gen.ProjDgradRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjDgradIdeal.GradValue

open Cert.ProjDgradIdeal Cert.ProjDgradIdeal.Gen
open Cert.ProjDgradRefIdeal.Read

variable (m : (ℓ : Loc nD τ sig) → Buf (Elt Ideal) ℓ)

theorem idx : ∀ t : Fin cfg0.N, win0_0.index t = ![t.val / 2, 0] ∧ win0_1.index t = ![t.val % 2, 0] ∧ win0_3.index t = ![t.val / 2, t.val % 2] :=
  (by decide +kernel : ∀ t : Fin grid0.N, _)

theorem point (c : Dev nD) (t : Fin cfg0.N) (y : S1024x512.Idx) :
    k0_pay1 (F := Ideal) (iblk m c 0 t) (iblk m c 1 t) y = val_main_v2 (F := Ideal) (m ((c : Thread nD τ).loc main_arg0)) (m ((c : Thread nD τ).loc main_arg1))
      (((cfg0.win 3).blk t).view.emb y) := by
  pointwise [k0_pay1, val_main_v2]
  blk_point [iblk, V, idx t]

theorem final (c : Dev nD) : (dats m 0 c).arrAt 3 (cfgs 0).N
    = val_main_v2 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  unfold out0_3
  frame_out
  exact point m c t y

/-- The kernel's products with the transposed input weights are the reference's gradient of the normed input. -/
theorem algebraic : Cert.algebraic_ProjDgradIdeal_ProjDgradRefIdeal (hProjDgradIdeal := Cert.ProjDgradIdeal.Gen.facts)
    (hProjDgradRefIdeal := Cert.ProjDgradRefIdeal.Gen.facts) := by
  pair_intro
  · run_from Cert.ProjDgradIdeal.Gen.run_main m g
  · run_from Cert.ProjDgradRefIdeal.Value.run m' g'
    exact (final m _).symm

end Cert.ProjDgradIdeal.GradValue
-- ==== Proof.ProjWgradValue.lean ====
module

public import proofs.«01_k».proof.Proof.Gen.ProjWgradIdeal.Frame
public import proofs.«01_k».proof.Proof.Gen.ProjWgradIdeal.Value
public import proofs.«01_k».proof.Proof.Gen.ProjWgradRefIdeal.Run
public import proofs.«01_k».proof.Proof.Gen.ProjWgradRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjWgradIdeal.GradValue

open Cert.ProjWgradIdeal Cert.ProjWgradIdeal.Gen
open Cert.ProjWgradRefIdeal.Read

variable (m : (ℓ : Loc nD τ sig) → Buf (Elt Ideal) ℓ)

theorem idx : ∀ t : Fin cfg0.N, win0_0.index t = ![0, 0] ∧ win0_1.index t = ![0, t.val] ∧ win0_2.index t = ![0, t.val] :=
  (by decide +kernel : ∀ t : Fin grid0.N, _)

theorem point (c : Dev nD) (t : Fin cfg0.N) (y : S1024x1408.Idx) :
    k0_pay1 (F := Ideal) (iblk m c 0 t) (iblk m c 1 t) y = val_main_v4 (F := Ideal) (m ((c : Thread nD τ).loc main_arg0)) (m ((c : Thread nD τ).loc main_arg1))
      (((cfg0.win 2).blk t).view.emb y) := by
  pointwise [k0_pay1, val_main_v2, val_main_v3, val_main_v4]
  refine (Finset.sum_congr rfl fun k _ => mul_comm _ _).trans ?_
  blk_point [iblk, V, idx t]

theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  exact point m c t y

/-- The kernel's products with the transposed input are the reference's gradient of the input weights. -/
theorem algebraic : Cert.algebraic_ProjWgradIdeal_ProjWgradRefIdeal (hProjWgradIdeal := Cert.ProjWgradIdeal.Gen.facts)
    (hProjWgradRefIdeal := Cert.ProjWgradRefIdeal.Gen.facts) := by
  pair_intro
  · run_from Cert.ProjWgradIdeal.Gen.run_main m g
  · run_from Cert.ProjWgradRefIdeal.Value.run m' g'
    exact (final m _).symm

end Cert.ProjWgradIdeal.GradValue
-- ==== Proof.MlpUpValue.lean ====
module

public import proofs.«01_k».proof.Proof.Gen.MlpUpIdeal.Frame
public import proofs.«01_k».proof.Proof.Gen.MlpUpIdeal.Value
public import proofs.«01_k».proof.Proof.Gen.MlpUpRefIdeal.Run
public import proofs.«01_k».proof.Proof.Gen.MlpUpRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpUpIdeal.GradValue

open Cert.MlpUpIdeal Cert.MlpUpIdeal.Gen
open Cert.MlpUpRefIdeal.Read

variable (m : (ℓ : Loc nD τ sig) → Buf (Elt Ideal) ℓ)

theorem idx : ∀ t : Fin cfg0.N, win0_0.index t = ![0, 0] ∧ win0_1.index t = ![t.val, 0, 0] ∧ win0_2.index t = ![0, t.val] ∧ win0_3.index t = ![0, t.val] :=
  (by decide +kernel : ∀ t : Fin grid0.N, _)

theorem point2 (c : Dev nD) (t : Fin cfg0.N) (y : S2048x512.Idx) :
    k0_pay2 (F := Ideal) (iblk m c 0 t) (iblk m c 1 t) y = val_main_v2 (F := Ideal) (m ((c : Thread nD τ).loc main_arg0)) (m ((c : Thread nD τ).loc main_arg1))
      (((cfg0.win 2).blk t).view.emb y) := by
  pointwise [k0_pay1, k0_pay2, val_main_v0, val_main_call0_cst, val_main_call0_v0, val_main_v1, val_main_v2]
  blk_point [iblk, V, idx t]

theorem final2 (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  exact point2 m c t y

theorem point3 (c : Dev nD) (t : Fin cfg0.N) (y : S2048x512.Idx) :
    k0_pay3 (F := Ideal) (iblk m c 0 t) (iblk m c 1 t) y = val_main_v4 (F := Ideal) (m ((c : Thread nD τ).loc main_arg0)) (m ((c : Thread nD τ).loc main_arg1))
      (((cfg0.win 3).blk t).view.emb y) := by
  pointwise [k0_pay1, k0_pay3, val_main_v0, val_main_call0_cst, val_main_call0_v0, val_main_v1, val_main_v3, val_main_v4]
  blk_point [iblk, V, idx t]

theorem final3 (c : Dev nD) : (dats m 0 c).arrAt 3 (cfgs 0).N
    = val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  unfold out0_3
  frame_out
  exact point3 m c t y

/-- The kernel's products are the reference's hidden layer, rectified and squared. -/
theorem algebraic : Cert.algebraic_MlpUpIdeal_MlpUpRefIdeal (hMlpUpIdeal := Cert.MlpUpIdeal.Gen.facts)
    (hMlpUpRefIdeal := Cert.MlpUpRefIdeal.Gen.facts) := by
  pair_intro
  · run_from Cert.MlpUpIdeal.Gen.run_main m g
  · run_from Cert.MlpUpRefIdeal.Value.run m' g'
    · exact (final2 m _).symm
    · exact (final3 m _).symm

end Cert.MlpUpIdeal.GradValue
-- ==== Proof.MlpDownValue.lean ====
module

public import proofs.«01_k».proof.Proof.Gen.MlpDownIdeal.Frame
public import proofs.«01_k».proof.Proof.Gen.MlpDownIdeal.Value
public import proofs.«01_k».proof.Proof.Gen.MlpDownRefIdeal.Run
public import proofs.«01_k».proof.Proof.Gen.MlpDownRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpDownIdeal.GradValue

open Cert.MlpDownIdeal Cert.MlpDownIdeal.Gen
open Cert.MlpDownRefIdeal.Read

variable (m : (ℓ : Loc nD τ sig) → Buf (Elt Ideal) ℓ)

theorem idx : ∀ t : Fin cfg0.N, win0_0.index t = ![t.val / 4, 0] ∧ win0_1.index t = ![0, t.val % 4] ∧ win0_2.index t = ![t.val / 4, t.val % 4] ∧ win0_3.index t = ![0, t.val % 4] ∧ win0_4.index t = ![t.val / 4, t.val % 4] ∧ win0_5.index t = ![t.val / 4, t.val % 4] :=
  (by decide +kernel : ∀ t : Fin grid0.N, _)

theorem point4 (c : Dev nD) (t : Fin cfg0.N) (y : S1024x256.Idx) :
    k0_pay1 (F := Ideal) (iblk m c 0 t) (iblk m c 1 t) y = val_main_v0 (F := Ideal) (m ((c : Thread nD τ).loc main_arg0)) (m ((c : Thread nD τ).loc main_arg1))
      (((cfg0.win 4).blk t).view.emb y) := by
  pointwise [k0_pay1, val_main_v0]
  blk_point [iblk, V, idx t]

theorem final4 (c : Dev nD) : (dats m 0 c).arrAt 4 (cfgs 0).N
    = val_main_v0 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  unfold out0_4
  frame_out
  exact point4 m c t y

theorem point5 (c : Dev nD) (t : Fin cfg0.N) (y : S1024x256.Idx) :
    k0_pay2 (F := Ideal) (iblk m c 0 t) (iblk m c 1 t) (iblk m c 2 t) (iblk m c 3 t) y = val_main_v3 (F := Ideal) (m ((c : Thread nD τ).loc main_arg0)) (m ((c : Thread nD τ).loc main_arg1)) (m ((c : Thread nD τ).loc main_arg2)) (m ((c : Thread nD τ).loc main_arg3))
      (((cfg0.win 5).blk t).view.emb y) := by
  pointwise [k0_pay1, k0_pay2, val_main_v0, val_main_v1, val_main_v2, val_main_v3]
  blk_point [iblk, V, idx t]

theorem final5 (c : Dev nD) : (dats m 0 c).arrAt 5 (cfgs 0).N
    = val_main_v3 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  unfold out0_5
  frame_out
  exact point5 m c t y

/-- The kernel's products are the reference's second layer, alone and gated into the input. -/
theorem algebraic : Cert.algebraic_MlpDownIdeal_MlpDownRefIdeal (hMlpDownIdeal := Cert.MlpDownIdeal.Gen.facts)
    (hMlpDownRefIdeal := Cert.MlpDownRefIdeal.Gen.facts) := by
  pair_intro
  · run_from Cert.MlpDownIdeal.Gen.run_main m g
  · run_from Cert.MlpDownRefIdeal.Value.run m' g'
    · exact (final4 m _).symm
    · exact (final5 m _).symm

end Cert.MlpDownIdeal.GradValue
-- ==== Proof.ProjQkvValue.lean ====
module

public import proofs.«01_k».proof.Proof.Gen.ProjQkvIdeal.Frame
public import proofs.«01_k».proof.Proof.Gen.ProjQkvIdeal.Value
public import proofs.«01_k».proof.Proof.Gen.ProjQkvRefIdeal.Run
public import proofs.«01_k».proof.Proof.Gen.ProjQkvRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjQkvIdeal.GradValue

open Cert.ProjQkvIdeal Cert.ProjQkvIdeal.Gen
open Cert.ProjQkvRefIdeal.Read

variable (m : (ℓ : Loc nD τ sig) → Buf (Elt Ideal) ℓ)

theorem idx : ∀ t : Fin cfg0.N, win0_0.index t = ![0, 0] ∧ win0_1.index t = ![0, t.val] ∧ win0_2.index t = ![0, t.val] :=
  (by decide +kernel : ∀ t : Fin grid0.N, _)

/-- The second operand's buffer holds a block of columns of the weights: no block the grid reaches is cut. -/
theorem cols (c : Dev nD) (t : Fin cfg0.N) (k : Fin 1024) (l : Fin 512) : X0_1 m c t (ix2 k l)
    = m ((c : Thread nD τ).loc main_arg1) (ix2 k (⟨t.val * 512 + l.val, by have := t.isLt; have : cfg0.N = 3 := rfl; omega⟩ : Fin 2816)) := by
  unfold X0_1 Pipeline.Window.fill
  rw [dif_pos (moved0_1 t _)]
  blk_point [iblk, V, idx t]

theorem point2 (c : Dev nD) (t : Fin cfg0.N) (y : S2048x512.Idx) :
    k0_pay1 (F := Ideal) (iblk m c 0 t) (X0_1 m c t) y = val_main_v2 (F := Ideal) (m ((c : Thread nD τ).loc main_arg0)) (m ((c : Thread nD τ).loc main_arg1))
      (((cfg0.win 2).blk t).view.emb y) := by
  pointwise [k0_pay1, val_main_v0, val_main_v1, val_main_v2]
  refine Finset.sum_congr rfl fun k _ => congrArg₂ (· * ·) ?_ ((cols m c t k (y 1)).trans ?_) <;>
    blk_point [iblk, V, idx t]

theorem final2 (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point2 m c t y

/-- The kernel's products are the first columns of the reference's projection. -/
theorem algebraic : Cert.algebraic_ProjQkvIdeal_ProjQkvRefIdeal (hProjQkvIdeal := Cert.ProjQkvIdeal.Gen.facts)
    (hProjQkvRefIdeal := Cert.ProjQkvRefIdeal.Gen.facts) := by
  pair_intro
  · run_from Cert.ProjQkvIdeal.Gen.run_main m g
  · run_from Cert.ProjQkvRefIdeal.Value.run m' g'
    exact (final2 m _).symm

end Cert.ProjQkvIdeal.GradValue
-- ==== Proof.ProjRestValue.lean ====
module

public import proofs.«01_k».proof.Proof.Gen.ProjRestIdeal.Frame
public import proofs.«01_k».proof.Proof.Gen.ProjRestIdeal.Value
public import proofs.«01_k».proof.Proof.Gen.ProjRestRefIdeal.Run
public import proofs.«01_k».proof.Proof.Gen.ProjRestRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjRestIdeal.GradValue

open Cert.ProjRestIdeal Cert.ProjRestIdeal.Gen
open Cert.ProjRestRefIdeal.Read

variable (m : (ℓ : Loc nD τ sig) → Buf (Elt Ideal) ℓ)

theorem idx : ∀ t : Fin cfg0.N, win0_0.index t = ![0, 0] ∧ win0_1.index t = ![0, t.val + 6] ∧ win0_2.index t = ![0, t.val] :=
  (by decide +kernel : ∀ t : Fin grid0.N, _)

theorem point2 (c : Dev nD) (t : Fin cfg0.N) (y : S2048x256.Idx) :
    k0_pay1 (F := Ideal) (iblk m c 0 t) (iblk m c 1 t) y = val_main_v1 (F := Ideal) (m ((c : Thread nD τ).loc main_arg0)) (m ((c : Thread nD τ).loc main_arg1))
      (((cfg0.win 2).blk t).view.emb y) := by
  pointwise [k0_pay1, val_main_v0, val_main_v1]
  blk_point [iblk, V, idx t]

theorem final2 (c : Dev nD) : (dats m 0 c).arrAt 2 (cfgs 0).N
    = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  exact point2 m c t y

/-- The kernel's products are the last columns of the reference's projection. -/
theorem algebraic : Cert.algebraic_ProjRestIdeal_ProjRestRefIdeal (hProjRestIdeal := Cert.ProjRestIdeal.Gen.facts)
    (hProjRestRefIdeal := Cert.ProjRestRefIdeal.Gen.facts) := by
  pair_intro
  · run_from Cert.ProjRestIdeal.Gen.run_main m g
  · run_from Cert.ProjRestRefIdeal.Value.run m' g'
    exact (final2 m _).symm

end Cert.ProjRestIdeal.GradValue
-- ==== Proof.MixFwdValue.lean ====
module

public import proofs.«01_k».proof.Proof.Gen.MixFwdIdeal.Frame
public import proofs.«01_k».proof.Proof.Gen.MixFwdIdeal.Value
public import proofs.«01_k».proof.Proof.Gen.MixFwdRefIdeal.Run
public import proofs.«01_k».proof.Proof.Gen.MixFwdRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixFwdIdeal.GradValue

open Cert.MixFwdIdeal Cert.MixFwdIdeal.Gen
open Cert.MixFwdRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] :=
  (by decide +kernel : ∀ t : Fin grid0.N, _)

theorem point7 (c : Dev nD) (t : Fin cfg0.N) (y : S512x1024.Idx) :
    k0_pay2 (F := Ideal) (iblk m c 0 t) (iblk m c 1 t) y = val_main_v0 (F := Ideal) (m ((c : Thread nD τ).loc main_arg0)) (m ((c : Thread nD τ).loc main_arg1))
      (((cfg0.win 7).blk t).view.emb y) := by
  pointwise [k0_pay2, val_main_v0]
  blk_point [iblk, V, idx t]

theorem final7 (c : Dev nD) : (dats m 0 c).arrAt 7 (cfgs 0).N
    = val_main_v0 (F := Ideal) (m ((c : Thread nD τ).loc main_arg0)) (m ((c : Thread nD τ).loc main_arg1)) := by
  refine (dats m 0 c).arrAt_eq_of_covers 7 _ (by decide +kernel) fun t _ y => ?_
  blk_simp
  rw [after0_7]
  unfold out0_7
  frame_out
  exact point7 m c t y

theorem point8 (c : Dev nD) (t : Fin cfg0.N) (y : S512x1024.Idx) :
    k0_pay3 (F := Ideal) (iblk m c 0 t) (iblk m c 1 t) (iblk m c 2 t) (iblk m c 3 t) y = val_main_v3 (F := Ideal) (m ((c : Thread nD τ).loc main_arg0)) (m ((c : Thread nD τ).loc main_arg1)) (m ((c : Thread nD τ).loc main_arg2)) (m ((c : Thread nD τ).loc main_arg3))
      (((cfg0.win 8).blk t).view.emb y) := by
  pointwise [k0_pay2, k0_pay3, val_main_v0, val_main_v1, val_main_v2, val_main_v3]
  blk_point [iblk, V, idx t]

theorem final8 (c : Dev nD) : (dats m 0 c).arrAt 8 (cfgs 0).N
    = val_main_v3 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  unfold out0_8
  frame_out
  exact point8 m c t y

theorem point9 (c : Dev nD) (t : Fin cfg0.N) (y : S512x1024.Idx) :
    k0_pay1 (k0_pay4 (F := Ideal) (iblk m c 0 t) (iblk m c 1 t) (iblk m c 2 t) (iblk m c 3 t) (iblk m c 4 t) (iblk m c 5 t) (iblk m c 6 t)) y = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (((cfg0.win 9).blk t).view.emb y) := by
  pointwise [k0_pay1, k0_pay2, k0_pay3, k0_pay4, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0, val_main_cst_1, val_main_cst_2]
  blk_point [iblk, V, idx t]

theorem final9 (c : Dev nD) : (dats m 0 c).arrAt 9 (cfgs 0).N
    = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  unfold out0_9
  frame_out
  exact point9 m c t y

/-- The kernel's products are the reference's mixed branches, gated into the input and normalised. -/
theorem algebraic : Cert.algebraic_MixFwdIdeal_MixFwdRefIdeal (hMixFwdIdeal := Cert.MixFwdIdeal.Gen.facts)
    (hMixFwdRefIdeal := Cert.MixFwdRefIdeal.Gen.facts) := by
  pair_intro
  · run_from Cert.MixFwdIdeal.Gen.run_main m g
  · run_from Cert.MixFwdRefIdeal.Value.run m' g'
    · exact (final7 m _).symm
    · exact (final8 m _).symm
    · exact (final9 m _).symm

end Cert.MixFwdIdeal.GradValue
-- ==== Proof.NormFwdValue.lean ====
module

public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormFwdIdeal.GradValue

open Cert.NormFwdIdeal Cert.NormFwdIdeal.Gen
open Cert.NormFwdRefIdeal.Read

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

theorem point4 (c : Dev nD) (t : Fin cfg0.N) (y : S512x1024.Idx) :
    k0_pay1 (F := Ideal) (iblk m c 0 t) (iblk m c 1 t) (iblk m c 2 t) (iblk m c 3 t) y = val_main_v18 (F := Ideal) (m ((c : Thread nD τ).loc main_arg0)) (m ((c : Thread nD τ).loc main_arg1)) (m ((c : Thread nD τ).loc main_arg2)) (m ((c : Thread nD τ).loc main_arg3))
      (((cfg0.win 4).blk t).view.emb y) := by
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_cst, val_main_cst_0, val_main_cst_1, val_main_cst_2]
  blk_point [iblk, V, idx t]

theorem final4 (c : Dev nD) : (dats m 0 c).arrAt 4 (cfgs 0).N
    = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold out0_4
  frame_out
  exact point4 m c t y

/-- The kernel's normalised rows are the reference's. -/
theorem algebraic : Cert.algebraic_NormFwdIdeal_NormFwdRefIdeal (hNormFwdIdeal := Cert.NormFwdIdeal.Gen.facts)
    (hNormFwdRefIdeal := Cert.NormFwdRefIdeal.Gen.facts) := by
  pair_intro
  · run_from Cert.NormFwdIdeal.Gen.run_main m g
  · run_from Cert.NormFwdRefIdeal.Value.run m' g'
    exact (final4 m _).symm

end Cert.NormFwdIdeal.GradValue
-- ==== Proof.ConvFwdValue.lean ====
module

public import proofs.«01_k».proof.Proof.Gen.ConvFwdIdeal.Frame
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvFwdIdeal.GradValue

open Cert.ConvFwdIdeal Cert.ConvFwdIdeal.Gen
open Cert.ConvFwdRefIdeal.Read

variable (m : (ℓ : Loc nD τ sig) → Buf (Elt Ideal) ℓ)

theorem idx : ∀ t : Fin cfg0.N, win0_0.index t = ![0, t.val] ∧ win0_1.index t = ![0, 2 + t.val] ∧ win0_2.index t = ![0, 4 + t.val] ∧ win0_3.index t = ![0, t.val] ∧ win0_4.index t = ![0, t.val] ∧ win0_5.index t = ![0, t.val] :=
  (by decide +kernel : ∀ t : Fin grid0.N, _)

variable {x0 : FVec Ideal S2048x1280 .f32} {x1 : FVec Ideal S3x256 .f32} {x2 : FVec Ideal S1x256 .f32}
variable {g u h : FVec Ideal S2048x128 .f32} {w : FVec Ideal S8x128 .f32} {b : FVec Ideal S1x128 .f32}

variable (x0 x1 x2 g u h w b) in
/-- One channel of the blocks a grid point loads is channel `k` of the arrays: the gate in columns 0 to 255 of the
    projection, the two factors of the convolved product in columns 256 to 767. -/
structure Channel (l : Fin 128) (k : Fin 256) : Prop where
  gate : ∀ r : Fin 2048, g (ix2 r l) = x0 (ix2 r ⟨k.val, by omega⟩)
  left : ∀ r : Fin 2048, u (ix2 r l) = x0 (ix2 r ⟨256 + k.val, by omega⟩)
  right : ∀ r : Fin 2048, h (ix2 r l) = x0 (ix2 r ⟨512 + k.val, by omega⟩)
  tap0 : w (ix2 0 l) = x1 (ix2 0 k)
  tap1 : w (ix2 1 l) = x1 (ix2 1 k)
  tap2 : w (ix2 2 l) = x1 (ix2 2 k)
  bias : b (ix2 0 l) = x2 (ix2 0 k)

theorem sel_ge1 (r : Fin 2048) (a : EReal) :
    Scalar.select (IntOp.cmpi .sge (BitVec.ofNat 32 r.val) 1#32) a 0 = if 1 ≤ r.val then a else 0 := by
  word_cmp

theorem sel_ge2 (r : Fin 2048) (a : EReal) :
    Scalar.select (IntOp.cmpi .sge (BitVec.ofNat 32 r.val) 2#32) a 0 = if 2 ≤ r.val then a else 0 := by
  word_cmp

theorem product_at {l : Fin 128} {k : Fin 256} (H : Channel x0 x1 x2 g u h w b l k) (r : Fin 2048) :
    k0_pay1 (F := Ideal) u h w b g (ix2 r l) = val_main_v30 (F := Ideal) x0 x1 x2 (ix2 r k) := by
  pointwise [k0_pay1, H.gate, H.left, H.right, H.tap0, H.tap1, H.tap2, H.bias, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0]
  rw [sel_ge1, sel_ge2]
  by_cases h2 : 2 ≤ r.val
  · rw [if_pos h2, if_pos (by omega), dif_neg (by omega), dif_neg (by omega)]
    rw [show (⟨(r.val + 2048 - 2) % 2048, by omega⟩ : Fin 2048) = ⟨r.val - 2, by omega⟩ from Fin.ext (by simp only []; omega)]
    rw [show (⟨(r.val + 2048 - 1) % 2048, by omega⟩ : Fin 2048) = ⟨1 + r.val - 2, by omega⟩ from Fin.ext (by simp only []; omega)]
    ac_rfl
  · by_cases h1 : 1 ≤ r.val
    · rw [if_neg h2, if_pos h1, dif_pos (by omega), dif_neg (by omega), zero_mul]
      rw [show (⟨(r.val + 2048 - 1) % 2048, by omega⟩ : Fin 2048) = ⟨1 + r.val - 2, by omega⟩ from Fin.ext (by simp only []; omega)]
      ac_rfl
    · rw [if_neg h2, if_neg h1, dif_pos (by omega), dif_pos (by omega), zero_mul, zero_mul]
      ac_rfl

theorem pad8_at (x : FVec Ideal S3x256 .f32) (v : FVec Ideal S_ .f32) (j : Fin 3) (k : Fin 256) :
    pad S8x256 ![0, 0] ![5, 0] ![0, 0] x v pads_S3x256_S8x256_050_000 h_S_ (ix2 (⟨j.val, by omega⟩ : Fin 8) k) = x (ix2 j k) := by
  pointwise

/-- The taps a window reads are the taps, padded to eight rows by the host. -/
theorem taps8 (c : Dev nD) (j : Fin 3) (k : Fin 256) :
    V m c main_v0 (ix2 (⟨j.val, by omega⟩ : Fin 8) k) = m ((c : Thread nD τ).loc main_arg1) (ix2 j k) := by
  have e : V m c main_v0 = pad S8x256 ![0, 0] ![5, 0] ![0, 0] (m ((c : Thread nD τ).loc main_arg1)) (sitofp (F := Ideal) .f32 (constantI S_ 32 0#32) : FVec Ideal S_ .f32) pads_S3x256_S8x256_050_000 h_S_ := by
    simp only [V, hostOps0, hostOps0_1, List.flatten_cons, List.flatten_nil, List.append_nil, List.cons_append, List.nil_append]
    after_results_simp <;> rfl
  rw [e]
  exact pad8_at _ _ j k

/-- A channel of the blocks at a grid point is that channel of the arrays. -/
theorem channel (c : Dev nD) (t : Fin cfg0.N) (l : Fin 128) (hl : t.val * 128 + l.val < 256) :
    Channel (m ((c : Thread nD τ).loc main_arg0)) (m ((c : Thread nD τ).loc main_arg1)) (m ((c : Thread nD τ).loc main_arg2))
      (iblk m c 0 t) (iblk m c 1 t) (iblk m c 2 t) (iblk m c 3 t) (iblk m c 4 t) l ⟨t.val * 128 + l.val, hl⟩ where
  gate r := by blk_ext [iblk, V, idx t]
  left r := by blk_ext [iblk, V, idx t]
  right r := by blk_ext [iblk, V, idx t]
  tap0 := (by blk_ext [iblk, idx t] : iblk m c 3 t (ix2 0 l) = V m c main_v0 (ix2 ⟨(0 : Fin 3).val, by omega⟩ _)).trans (taps8 m c 0 _)
  tap1 := (by blk_ext [iblk, idx t] : iblk m c 3 t (ix2 1 l) = V m c main_v0 (ix2 ⟨(1 : Fin 3).val, by omega⟩ _)).trans (taps8 m c 1 _)
  tap2 := (by blk_ext [iblk, idx t] : iblk m c 3 t (ix2 2 l) = V m c main_v0 (ix2 ⟨(2 : Fin 3).val, by omega⟩ _)).trans (taps8 m c 2 _)
  bias := by blk_ext [iblk, V, idx t]

theorem point5 (c : Dev nD) (t : Fin cfg0.N) (y : S2048x128.Idx) :
    k0_pay1 (F := Ideal) (iblk m c 1 t) (iblk m c 2 t) (iblk m c 3 t) (iblk m c 4 t) (iblk m c 0 t) y = val_main_v30 (F := Ideal) (m ((c : Thread nD τ).loc main_arg0)) (m ((c : Thread nD τ).loc main_arg1)) (m ((c : Thread nD τ).loc main_arg2))
      (((cfg0.win 5).blk t).view.emb y) := by
  obtain ⟨r, l, rfl⟩ : ∃ (r : Fin 2048) (l : Fin 128), y = ix2 r l := ⟨y 0, y 1, by blk_ext⟩
  have hl : t.val * 128 + l.val < 256 := by have := t.isLt; have : cfg0.N = 2 := rfl; omega
  have e : (((cfg0.win 5).blk t).view.emb (ix2 r l)) = ix2 r ⟨t.val * 128 + l.val, hl⟩ := by blk_ext [idx t]
  exact (product_at (channel m c t l hl) r).trans (congrArg _ e.symm)

theorem final5 (c : Dev nD) : (dats m 0 c).arrAt 5 (cfgs 0).N
    = val_main_v30 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  frame_out
  exact point5 m c t y

/-- The kernel's gated short convolution is the reference's. -/
theorem algebraic : Cert.algebraic_ConvFwdIdeal_ConvFwdRefIdeal (hConvFwdIdeal := Cert.ConvFwdIdeal.Gen.facts)
    (hConvFwdRefIdeal := Cert.ConvFwdRefIdeal.Gen.facts) := by
  pair_intro
  · run_from Cert.ConvFwdIdeal.Gen.run_main m g
    exact V_main_arg1 m _
  · run_from Cert.ConvFwdRefIdeal.Value.run m' g'
    exact (final5 m _).symm

end Cert.ConvFwdIdeal.GradValue
-- ==== Proof.RowNorm.lean ====
module

public import Idealize.ShloMosaic.Lib.Pipeline.ValueKit
public import Idealize.ShloMosaic.Lib.IdealHost

@[expose] public section

noncomputable section

open Idealize.ShloMosaic

/-! Arithmetic on extended reals behind the gradient of a row normalised by the root of its mean square. -/

namespace Cert.RowNorm

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_eps_pos : 0 < Ideal.ofBits .f32 0x358637BD#32 := by
  simp [Ideal.ofBits, Ideal.ieee, -EReal.coe_mul]

theorem mul_self_nonneg (x : EReal) : 0 ≤ x * x := by
  induction x with
  | bot => simp
  | top => simp
  | coe r => rw [← EReal.coe_mul]; exact EReal.coe_nonneg.mpr (_root_.mul_self_nonneg r)

/-- The mean of squares plus the offset is positive. -/
theorem mean_pos {n : ℕ} (x : Fin n → EReal) :
    0 < Ideal.div (∑ k, x k * x k) (Ideal.ofBits .f32 0x44800000#32) + Ideal.ofBits .f32 0x358637BD#32 := by
  have h : 0 ≤ ∑ k, x k * x k := Finset.sum_nonneg fun k _ => mul_self_nonneg _
  rw [ofBits_1024, Ideal.div_coe (by norm_num : (1024 : ℝ) ≠ 0)]
  exact lt_of_lt_of_le ofBits_eps_pos (le_add_of_nonneg_left (mul_nonneg h (EReal.coe_nonneg.mpr (by norm_num))))

/-- The inverse root of a positive number is a real number `r` at least zero, and its quotient by that number is `r * r * r`. -/
theorem rsqrt_real {v : EReal} (hv : 0 < v) : ∃ r : ℝ, 0 ≤ r ∧ Ideal.rsqrt v = (r : EReal)
    ∧ Ideal.div (Ideal.rsqrt v) v = ((r * r * r : ℝ) : EReal) := by
  induction v with
  | bot => simp at hv
  | top => exact ⟨0, le_refl _, by simp, by simp [Ideal.div]⟩
  | coe w =>
    have hw : 0 < w := EReal.coe_pos.mp hv
    refine ⟨(Real.sqrt w)⁻¹, inv_nonneg.mpr (Real.sqrt_nonneg _), ?_, ?_⟩
    · rw [Ideal.rsqrt_coe, if_neg (not_lt.mpr hw.le), if_neg hw.ne']
    · rw [Ideal.rsqrt_coe, if_neg (not_lt.mpr hw.le), if_neg hw.ne', Ideal.div_coe hw.ne', ← EReal.coe_mul]
      congr 1
      have hs : Real.sqrt w * Real.sqrt w = w := Real.mul_self_sqrt hw.le
      have h : w⁻¹ = (Real.sqrt w)⁻¹ * (Real.sqrt w)⁻¹ := by rw [← mul_inv, hs]
      rw [one_div, h]
      exact (mul_assoc _ _ _).symm

/-- A real factor at least zero passes through a sum. -/
theorem sum_mul_real {n : ℕ} (f : Fin n → EReal) {r : ℝ} (hr : 0 ≤ r) : (∑ k, f k * (r : EReal)) = (∑ k, f k) * (r : EReal) := by
  have h : ∀ s : Finset (Fin n), (∑ k ∈ s, f k * (r : EReal)) = (∑ k ∈ s, f k) * (r : EReal) := fun s => by
    induction s using Finset.induction_on with
    | empty => simp
    | insert a s ha ih =>
      rw [Finset.sum_insert ha, Finset.sum_insert ha, ih,
        EReal.right_distrib_of_nonneg_of_ne_top (EReal.coe_nonneg.mpr hr) (EReal.coe_ne_top r)]
  exact h _

theorem twice (T : EReal) (c : ℝ) : T * (c : EReal) + T * (c : EReal) = T * ((2 * c : ℝ) : EReal) := by
  induction T with
  | coe t => rw [← EReal.coe_mul, ← EReal.coe_add, ← EReal.coe_mul]; congr 1; ring
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The gradient of a normalised row in one element: the kernel's form, in the normalised element, is the reference's,
    the three terms of the product and the two of the square. -/
theorem row_grad (d a x S : EReal) {v : EReal} (hv : 0 < v) :
    d + Ideal.rsqrt v * (a - x * Ideal.rsqrt v * Ideal.div (S * Ideal.rsqrt v) (Ideal.ofBits .f32 0x44800000#32))
      = d + (a * Ideal.rsqrt v
          + x * Ideal.div (S * (Ideal.ofBits .f32 0xBF000000#32 * Ideal.div (Ideal.rsqrt v) v)) (Ideal.ofBits .f32 0x44800000#32)
          + Ideal.div (S * (Ideal.ofBits .f32 0xBF000000#32 * Ideal.div (Ideal.rsqrt v) v)) (Ideal.ofBits .f32 0x44800000#32) * x) := by
  obtain ⟨r, hr, e1, e2⟩ := rsqrt_real hv
  rw [e2, e1, ofBits_1024, ofBits_neg_half, Ideal.div_coe (by norm_num : (1024 : ℝ) ≠ 0), Ideal.div_coe (by norm_num : (1024 : ℝ) ≠ 0)]
  congr 1
  rw [sub_eq_add_neg, EReal.left_distrib_of_nonneg_of_ne_top (EReal.coe_nonneg.mpr hr) (EReal.coe_ne_top r), add_assoc,
    mul_comm (r : EReal) a]
  congr 1
  rw [mul_comm (S * _ * _) x, ← EReal.coe_mul]
  have h1 : x * (S * ((-(1 / 2) * (r * r * r) : ℝ) : EReal) * ((1 / 1024 : ℝ) : EReal))
      = x * S * ((-(1 / 2) * (r * r * r) * (1 / 1024) : ℝ) : EReal) := by
    rw [mul_assoc S, ← EReal.coe_mul, mul_assoc x]
  have h2 : (r : EReal) * -(x * (r : EReal) * (S * (r : EReal) * ((1 / 1024 : ℝ) : EReal)))
      = x * S * ((-(r * r * r * (1 / 1024)) : ℝ) : EReal) := by
    rw [EReal.coe_neg, mul_neg, mul_neg]
    congr 1
    rw [EReal.coe_mul, EReal.coe_mul, EReal.coe_mul]
    ac_rfl
  rw [h1, h2, twice]
  congr 2
  ring

end Cert.RowNorm
-- ==== Proof.NormBwdPoint.lean ====
module

public import proofs.«01_k».proof.Proof.Gen.NormBwdIdeal.Frame
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.RowNorm
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormBwdIdeal.GradValue

open Cert.NormBwdIdeal Cert.NormBwdIdeal.Gen
open Cert.NormBwdRefIdeal.Read

/-- One row of the blocks a grid point loads is row `R` of the arrays. -/
structure Row (xb dhb drb brb : FVec Ideal S512x1024 .f32) (gb sb gab : FVec Ideal S1x1024 .f32)
    (x dh dr br : FVec Ideal S2048x1024 .f32) (g s ga : FVec Ideal S1x1024 .f32) (r : Fin 512) (R : Fin 2048) : Prop where
  x : ∀ l : Fin 1024, xb (ix2 r l) = x (ix2 R l)
  dh : ∀ l : Fin 1024, dhb (ix2 r l) = dh (ix2 R l)
  dr : ∀ l : Fin 1024, drb (ix2 r l) = dr (ix2 R l)
  br : ∀ l : Fin 1024, brb (ix2 r l) = br (ix2 R l)
  g : ∀ l : Fin 1024, gb (ix2 0 l) = g (ix2 0 l)
  s : ∀ l : Fin 1024, sb (ix2 0 l) = s (ix2 0 l)
  ga : ∀ l : Fin 1024, gab (ix2 0 l) = ga (ix2 0 l)

variable {xb dhb drb brb : FVec Ideal S512x1024 .f32} {gb sb gab : FVec Ideal S1x1024 .f32}
  {x dh dr br : FVec Ideal S2048x1024 .f32} {g s ga : FVec Ideal S1x1024 .f32} {r : Fin 512} {R : Fin 2048}
  {rows : Fin 512 → Fin 2048}

/-- The gradient of the input in one element. -/
theorem input_at (H : Row xb dhb drb brb gb sb gab x dh dr br g s ga r R) (l : Fin 1024) :
    k0_pay8 (F := Ideal) xb dhb gb sb drb (ix2 r l) = val_main_v49 (F := Ideal) x dh dr g s (ix2 R l) := by
  pointwise [k0_pay8, k0_pay7, k0_pay6, k0_pay5, H.x, H.dh, H.dr, H.g, H.s, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_cst, val_main_cst_0, val_main_cst_1, val_main_cst_2, val_main_cst_3, val_main_cst_4, val_main_cst_5, val_main_cst_6, val_main_cst_7, val_main_cst_8, val_main_cst_9, val_main_cst_10, val_main_cst_11]
  obtain ⟨q, hq, e, -⟩ := RowNorm.rsqrt_real (RowNorm.mean_pos fun k : Fin 1024 => x (ix2 R k))
  have hs : (∑ k : Fin 1024, dh (ix2 R k) * (1 + s (ix2 0 k)) * g (ix2 0 k) * (x (ix2 R k) * (q : EReal)))
      = (∑ k : Fin 1024, x (ix2 R k) * (dh (ix2 R k) * (1 + s (ix2 0 k)) * g (ix2 0 k))) * (q : EReal) := by
    rw [← RowNorm.sum_mul_real _ hq]
    exact Finset.sum_congr rfl fun k _ => by rw [← mul_assoc, mul_comm (x (ix2 R k))]
  simp only [Fin.sum_univ_one]
  refine Eq.trans ?_ (RowNorm.row_grad _ _ _ _ (RowNorm.mean_pos fun k : Fin 1024 => x (ix2 R k)))
  simp only [e, hs]

/-- The gradient of the branch in one element. -/
theorem branch_at (H : Row xb dhb drb brb gb sb gab x dh dr br g s ga r R) (l : Fin 1024) :
    k0_pay13 (F := Ideal) (k0_pay8 xb dhb gb sb drb) gab (ix2 r l)
      = val_main_v57 (F := Ideal) x dh dr g s ga (ix2 R l) := by
  pointwise [k0_pay13, input_at H, H.ga, val_main_v50, val_main_v51, val_main_v52, val_main_v53, val_main_v57]
  try exact mul_comm _ _

/-- What a block of rows adds to the gradient of the scale. -/
theorem scale_at (H : ∀ k, Row xb dhb drb brb gb sb gab x dh dr br g s ga k (rows k)) (acc : FVec Ideal S1x1024 .f32) (l : Fin 1024) :
    k0_pay9 (F := Ideal) dhb gb (k0_pay6 xb) acc (ix2 0 l)
      = acc (ix2 0 l) + ∑ k : Fin 512, val_main_v25 (F := Ideal) x dh g (ix2 (rows k) l) := by
  pointwise [k0_pay9, k0_pay6, k0_pay5, (H _).x, (H _).dh, (H 0).g, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_cst, val_main_cst_0, val_main_cst_1, val_main_cst_2, val_main_cst_3, val_main_cst_4, val_main_cst_5, val_main_cst_6, val_main_cst_7, val_main_cst_8, val_main_cst_9, val_main_cst_10, val_main_cst_11]
  try exact congrArg (_ + ·) (Finset.sum_congr rfl fun k _ => mul_comm _ _)

/-- What a block of rows adds to the gradient of the shift. -/
theorem shift_at (H : ∀ k, Row xb dhb drb brb gb sb gab x dh dr br g s ga k (rows k)) (acc : FVec Ideal S1x1024 .f32) (l : Fin 1024) :
    k0_pay10 (F := Ideal) dhb acc (ix2 0 l)
      = acc (ix2 0 l) + ∑ k : Fin 512, dh (ix2 (rows k) l) := by
  pointwise [k0_pay10, (H _).dh]

/-- What a block of rows adds to the gradient of the gain. -/
theorem gain_at (H : ∀ k, Row xb dhb drb brb gb sb gab x dh dr br g s ga k (rows k)) (acc : FVec Ideal S1x1024 .f32) (l : Fin 1024) :
    k0_pay11 (F := Ideal) (k0_pay6 xb) (k0_pay7 dhb sb) acc (ix2 0 l)
      = acc (ix2 0 l) + ∑ k : Fin 512, val_main_v30 (F := Ideal) x dh s (ix2 (rows k) l) := by
  pointwise [k0_pay11, k0_pay7, k0_pay6, k0_pay5, (H _).x, (H _).dh, (H 0).s, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_cst, val_main_cst_0, val_main_cst_1, val_main_cst_2, val_main_cst_3, val_main_cst_4, val_main_cst_5, val_main_cst_6, val_main_cst_7, val_main_cst_8, val_main_cst_9, val_main_cst_10, val_main_cst_11]
  try exact congrArg (_ + ·) (Finset.sum_congr rfl fun k _ => mul_comm _ _)

/-- What a block of rows adds to the gradient of the gate. -/
theorem gate_at (H : ∀ k, Row xb dhb drb brb gb sb gab x dh dr br g s ga k (rows k)) (acc : FVec Ideal S1x1024 .f32) (l : Fin 1024) :
    k0_pay1 (F := Ideal) (k0_pay8 xb dhb gb sb drb) (k0_pay14 acc) brb (ix2 0 l)
      = acc (ix2 0 l) + ∑ k : Fin 512, val_main_v54 (F := Ideal) x dh dr g s br (ix2 (rows k) l) := by
  pointwise [k0_pay1, k0_pay14, input_at (H _), (H _).br, val_main_v54]

theorem sums (l : Fin 1024) :
    val_main_v27 (F := Ideal) x dh g (ix2 0 l) = ∑ R : Fin 2048, val_main_v25 (F := Ideal) x dh g (ix2 R l)
    ∧ val_main_v24 (F := Ideal) dh (ix2 0 l) = ∑ R : Fin 2048, dh (ix2 R l)
    ∧ val_main_v32 (F := Ideal) x dh s (ix2 0 l) = ∑ R : Fin 2048, val_main_v30 (F := Ideal) x dh s (ix2 R l)
    ∧ val_main_v56 (F := Ideal) x dh dr g s br (ix2 0 l)
      = ∑ R : Fin 2048, val_main_v54 (F := Ideal) x dh dr g s br (ix2 R l) := by
  refine ⟨?_, ?_, ?_, ?_⟩
  · pointwise [val_main_v27, val_main_v26, val_main_cst_6]
  · pointwise [val_main_v24, val_main_v23, val_main_cst_5]
  · pointwise [val_main_v32, val_main_v31, val_main_cst_7]
  · pointwise [val_main_v56, val_main_v55, val_main_cst_11]

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0] ∧ win0_6.index t = ![0, 0] ∧ win0_7.index t = ![t.val, 0] ∧ win0_8.index t = ![0, 0] ∧ win0_9.index t = ![0, 0] ∧ win0_10.index t = ![0, 0] ∧ win0_11.index t = ![t.val, 0] ∧ win0_12.index t = ![0, 0] :=
  (by decide +kernel : ∀ t : Fin grid0.N, _)

theorem vec_idx (j : S1x1024.Idx) : ∃ l : Fin 1024, j = ix2 0 l :=
  ⟨j 1, (eq_ix2 j).trans (congrArg (ix2 · (j 1)) (Subsingleton.elim (α := Fin 1) (j 0) 0))⟩

/-- Row `k` of the block of grid point `t`. -/
def rowOf (t : Fin cfg0.N) (k : Fin 512) : Fin 2048 :=
  ⟨t.val * 512 + k.val, by have := lt_of_lt_of_eq t.isLt N_0; have := k.isLt; omega⟩

theorem row (c : Dev nD) (t : Fin cfg0.N) (k : Fin 512) :
    Row (iblk m c 0 t) (iblk m c 1 t) (iblk m c 2 t) (iblk m c 5 t) (iblk m c 3 t) (iblk m c 4 t) (iblk m c 6 t)
      (m ((c : Thread nD τ).loc main_arg0)) (m ((c : Thread nD τ).loc main_arg1)) (m ((c : Thread nD τ).loc main_arg2))
      (m ((c : Thread nD τ).loc main_arg5)) (m ((c : Thread nD τ).loc main_arg3)) (m ((c : Thread nD τ).loc main_arg4))
      (m ((c : Thread nD τ).loc main_arg6)) k (rowOf t k) where
  x l := by blk_point [iblk, V, idx t, rowOf]
  dh l := by blk_point [iblk, V, idx t, rowOf]
  dr l := by blk_point [iblk, V, idx t, rowOf]
  br l := by blk_point [iblk, V, idx t, rowOf]
  g l := by blk_point [iblk, V, idx t, rowOf]
  s l := by blk_point [iblk, V, idx t, rowOf]
  ga l := by blk_point [iblk, V, idx t, rowOf]

theorem final7 (c : Dev nD) : (dats m 0 c).arrAt 7 (cfgs 0).N
    = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  obtain ⟨a, l, rfl⟩ : ∃ (a : Fin 512) (l : Fin 1024), y = ix2 a l := ⟨y 0, y 1, eq_ix2 y⟩
  have e : ((cfg0.win 7).blk t).view.emb (ix2 a l) = ix2 (rowOf t a) l := by
    blk_point [idx t, rowOf]
  rw [e]
  blk_simp
  rw [after0_7]
  by_cases h : t.val % 4 = 0
  · rw [outsAt0_A m c t h h]; frame_out
    exact input_at (row m c t a) l
  · rw [outsAt0_B m c t h h]; frame_out
    exact input_at (row m c t a) l

theorem final11 (c : Dev nD) : (dats m 0 c).arrAt 11 (cfgs 0).N
    = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 11 _ (by decide +kernel) fun t _ y => ?_
  obtain ⟨a, l, rfl⟩ : ∃ (a : Fin 512) (l : Fin 1024), y = ix2 a l := ⟨y 0, y 1, eq_ix2 y⟩
  have e : ((cfg0.win 11).blk t).view.emb (ix2 a l) = ix2 (rowOf t a) l := by
    blk_point [idx t, rowOf]
  rw [e]
  blk_simp
  rw [after0_11]
  by_cases h : t.val % 4 = 0
  · rw [outsAt0_A m c t h h]; frame_out
    exact branch_at (row m c t a) l
  · rw [outsAt0_B m c t h h]; frame_out
    exact branch_at (row m c t a) l

theorem zero8 (j : S1x1024.Idx) : k0_pay2 (F := Ideal) j = 0 := by pointwise [k0_pay2]

theorem final8 (c : Dev nD) : (dats m 0 c).arrAt 8 (cfgs 0).N
    = val_main_v27 (F := Ideal) (m ((c : Thread nD τ).loc main_arg0)) (m ((c : Thread nD τ).loc main_arg1)) (m ((c : Thread nD τ).loc main_arg3)) := by
  refine (dats m 0 c).arrAt_eq_of_after_last 8 t0_3 (by decide +kernel) _ fun j => ?_
  obtain ⟨l, rfl⟩ : ∃ l : Fin 1024, j = ix2 0 l := vec_idx j
  blk_simp
  have run := Pipeline.eq_sum_fin_of_reset_step_apply_last (N := cfg0.N)
    (fun n h (l : Fin 1024) => ((outsAt0 m c n h).2.1 (ix2 0 l) : EReal)) 4 (fun _ => 0)
    (fun t l => ∑ k : Fin 512, (val_main_v25 (F := Ideal) (m ((c : Thread nD τ).loc main_arg0)) (m ((c : Thread nD τ).loc main_arg1)) (m ((c : Thread nD τ).loc main_arg3)) (ix2 (rowOf t k) l) : EReal))
    (fun t h l => by
      rw [outsAt0_A m c t h h]; frame_out
      exact (scale_at (row m c t) _ l).trans (congrArg (· + _) (zero8 _)))
    (fun t h l => by
      rw [outsAt0_B m c t h h]; frame_out
      exact scale_at (row m c t) _ l)
    (le_of_eq N_0) t0_3 rfl l
  rw [after0_8]
  refine run.trans ?_
  rw [zero_add, (sums (x := m ((c : Thread nD τ).loc main_arg0)) (dh := m ((c : Thread nD τ).loc main_arg1)) (dr := m ((c : Thread nD τ).loc main_arg2)) (br := m ((c : Thread nD τ).loc main_arg5)) (g := m ((c : Thread nD τ).loc main_arg3)) (s := m ((c : Thread nD τ).loc main_arg4)) l).1]
  exact Fin.sum_mul_add_congr (fun t k hl => rfl)

theorem zero9 (j : S1x1024.Idx) : k0_pay3 (F := Ideal) j = 0 := by pointwise [k0_pay3]

theorem final9 (c : Dev nD) : (dats m 0 c).arrAt 9 (cfgs 0).N
    = val_main_v24 (F := Ideal) (m ((c : Thread nD τ).loc main_arg1)) := by
  refine (dats m 0 c).arrAt_eq_of_after_last 9 t0_3 (by decide +kernel) _ fun j => ?_
  obtain ⟨l, rfl⟩ : ∃ l : Fin 1024, j = ix2 0 l := vec_idx j
  blk_simp
  have run := Pipeline.eq_sum_fin_of_reset_step_apply_last (N := cfg0.N)
    (fun n h (l : Fin 1024) => ((outsAt0 m c n h).2.2.1 (ix2 0 l) : EReal)) 4 (fun _ => 0)
    (fun t l => ∑ k : Fin 512, ((m ((c : Thread nD τ).loc main_arg1)) (ix2 (rowOf t k) l) : EReal))
    (fun t h l => by
      rw [outsAt0_A m c t h h]; frame_out
      exact (shift_at (row m c t) _ l).trans (congrArg (· + _) (zero9 _)))
    (fun t h l => by
      rw [outsAt0_B m c t h h]; frame_out
      exact shift_at (row m c t) _ l)
    (le_of_eq N_0) t0_3 rfl l
  rw [after0_9]
  refine run.trans ?_
  rw [zero_add, (sums (x := m ((c : Thread nD τ).loc main_arg0)) (dh := m ((c : Thread nD τ).loc main_arg1)) (dr := m ((c : Thread nD τ).loc main_arg2)) (br := m ((c : Thread nD τ).loc main_arg5)) (g := m ((c : Thread nD τ).loc main_arg3)) (s := m ((c : Thread nD τ).loc main_arg4)) l).2.1]
  exact Fin.sum_mul_add_congr (fun t k hl => rfl)

theorem zero10 (j : S1x1024.Idx) : k0_pay4 (F := Ideal) j = 0 := by pointwise [k0_pay4]

theorem final10 (c : Dev nD) : (dats m 0 c).arrAt 10 (cfgs 0).N
    = val_main_v32 (F := Ideal) (m ((c : Thread nD τ).loc main_arg0)) (m ((c : Thread nD τ).loc main_arg1)) (m ((c : Thread nD τ).loc main_arg4)) := by
  refine (dats m 0 c).arrAt_eq_of_after_last 10 t0_3 (by decide +kernel) _ fun j => ?_
  obtain ⟨l, rfl⟩ : ∃ l : Fin 1024, j = ix2 0 l := vec_idx j
  blk_simp
  have run := Pipeline.eq_sum_fin_of_reset_step_apply_last (N := cfg0.N)
    (fun n h (l : Fin 1024) => ((outsAt0 m c n h).2.2.2.1 (ix2 0 l) : EReal)) 4 (fun _ => 0)
    (fun t l => ∑ k : Fin 512, (val_main_v30 (F := Ideal) (m ((c : Thread nD τ).loc main_arg0)) (m ((c : Thread nD τ).loc main_arg1)) (m ((c : Thread nD τ).loc main_arg4)) (ix2 (rowOf t k) l) : EReal))
    (fun t h l => by
      rw [outsAt0_A m c t h h]; frame_out
      exact (gain_at (row m c t) _ l).trans (congrArg (· + _) (zero10 _)))
    (fun t h l => by
      rw [outsAt0_B m c t h h]; frame_out
      exact gain_at (row m c t) _ l)
    (le_of_eq N_0) t0_3 rfl l
  rw [after0_10]
  refine run.trans ?_
  rw [zero_add, (sums (x := m ((c : Thread nD τ).loc main_arg0)) (dh := m ((c : Thread nD τ).loc main_arg1)) (dr := m ((c : Thread nD τ).loc main_arg2)) (br := m ((c : Thread nD τ).loc main_arg5)) (g := m ((c : Thread nD τ).loc main_arg3)) (s := m ((c : Thread nD τ).loc main_arg4)) l).2.2.1]
  exact Fin.sum_mul_add_congr (fun t k hl => rfl)

theorem zero12 (j : S1x1024.Idx) : k0_pay12 (F := Ideal) j = 0 := by pointwise [k0_pay12]

theorem final12 (c : Dev nD) : (dats m 0 c).arrAt 12 (cfgs 0).N
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 12 t0_3 (by decide +kernel) _ fun j => ?_
  obtain ⟨l, rfl⟩ : ∃ l : Fin 1024, j = ix2 0 l := vec_idx j
  blk_simp
  have run := Pipeline.eq_sum_fin_of_reset_step_apply_last (N := cfg0.N)
    (fun n h (l : Fin 1024) => ((outsAt0 m c n h).2.2.2.2.2 (ix2 0 l) : EReal)) 4 (fun _ => 0)
    (fun t l => ∑ k : Fin 512, (val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (rowOf t k) l) : EReal))
    (fun t h l => by
      rw [outsAt0_A m c t h h]; frame_out
      exact (gate_at (row m c t) _ l).trans (congrArg (· + _) (zero12 _)))
    (fun t h l => by
      rw [outsAt0_B m c t h h]; frame_out
      exact gate_at (row m c t) _ l)
    (le_of_eq N_0) t0_3 rfl l
  rw [after0_12]
  refine run.trans ?_
  rw [zero_add, (sums (x := m ((c : Thread nD τ).loc main_arg0)) (dh := m ((c : Thread nD τ).loc main_arg1)) (dr := m ((c : Thread nD τ).loc main_arg2)) (br := m ((c : Thread nD τ).loc main_arg5)) (g := m ((c : Thread nD τ).loc main_arg3)) (s := m ((c : Thread nD τ).loc main_arg4)) l).2.2.2]
  exact Fin.sum_mul_add_congr (fun t k hl => rfl)

end Cert.NormBwdIdeal.GradValue
-- ==== Proof.NormBwdValue.lean ====
module

public import proofs.«01_k».proof.Proof.Gen.NormBwdIdeal.Frame
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.NormBwdPoint
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormBwdIdeal.GradValue

open Cert.NormBwdIdeal Cert.NormBwdIdeal.Gen
open Cert.NormBwdRefIdeal.Read

/-- The kernel's six gradients are the reference's. -/
theorem algebraic : Cert.algebraic_NormBwdIdeal_NormBwdRefIdeal (hNormBwdIdeal := Cert.NormBwdIdeal.Gen.facts)
    (hNormBwdRefIdeal := Cert.NormBwdRefIdeal.Gen.facts) := by
  intro m g m' g' _ hagree
  refine ⟨fun c => val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => val_main_v27 (F := Ideal) (m ((c : Thread nD τ).loc main_arg0)) (m ((c : Thread nD τ).loc main_arg1)) (m ((c : Thread nD τ).loc main_arg3)),
    fun c => val_main_v24 (F := Ideal) (m ((c : Thread nD τ).loc main_arg1)),
    fun c => val_main_v32 (F := Ideal) (m ((c : Thread nD τ).loc main_arg0)) (m ((c : Thread nD τ).loc main_arg1)) (m ((c : Thread nD τ).loc main_arg4)),
    fun c => val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)),
    fun c => val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · refine Idealize.ShloMosaic.θ_run_mono (Idealize.ShloMosaic.θ_run_and (Cert.NormBwdIdeal.Gen.run_main m g)
      (Cert.NormBwdIdeal.Gen.unchanged m g)) fun r hr c => ?_
    exact ⟨((hr.1 c).1 7).trans (final7 m c), ((hr.1 c).1 8).trans (final8 m c), ((hr.1 c).1 9).trans (final9 m c), ((hr.1 c).1 10).trans (final10 m c), ((hr.1 c).1 11).trans (final11 m c), ((hr.1 c).1 12).trans (final12 m c), hr.2 c⟩
  · refine Idealize.ShloMosaic.θ_run_mono (Cert.NormBwdRefIdeal.Value.run m' g') fun r hr c => ?_
    obtain ⟨h0, h1, h2, h3, h4, h5, hr⟩ := hr c
    obtain ⟨e0, e1, e2, e3, e4, e5, e6⟩ := hagree c
    refine ⟨h0.trans ?_, h1.trans ?_, h2.trans ?_, h3.trans ?_, h4.trans ?_, h5.trans ?_, hr⟩
    · exact (by rw [e0, e1, e2, e3, e4] : val_main_v49 (F := Ideal) (m' ((c.tc : Thread Cert.NormBwdRefIdeal.nD Cert.NormBwdRefIdeal.τ).loc Cert.NormBwdRefIdeal.main_arg0)) (m' ((c.tc : Thread Cert.NormBwdRefIdeal.nD Cert.NormBwdRefIdeal.τ).loc Cert.NormBwdRefIdeal.main_arg1)) (m' ((c.tc : Thread Cert.NormBwdRefIdeal.nD Cert.NormBwdRefIdeal.τ).loc Cert.NormBwdRefIdeal.main_arg2)) (m' ((c.tc : Thread Cert.NormBwdRefIdeal.nD Cert.NormBwdRefIdeal.τ).loc Cert.NormBwdRefIdeal.main_arg3)) (m' ((c.tc : Thread Cert.NormBwdRefIdeal.nD Cert.NormBwdRefIdeal.τ).loc Cert.NormBwdRefIdeal.main_arg4))
        = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
    · exact (by rw [e0, e1, e3] : val_main_v27 (F := Ideal) (m' ((c.tc : Thread Cert.NormBwdRefIdeal.nD Cert.NormBwdRefIdeal.τ).loc Cert.NormBwdRefIdeal.main_arg0)) (m' ((c.tc : Thread Cert.NormBwdRefIdeal.nD Cert.NormBwdRefIdeal.τ).loc Cert.NormBwdRefIdeal.main_arg1)) (m' ((c.tc : Thread Cert.NormBwdRefIdeal.nD Cert.NormBwdRefIdeal.τ).loc Cert.NormBwdRefIdeal.main_arg3))
        = val_main_v27 (F := Ideal) (m ((c : Thread nD τ).loc main_arg0)) (m ((c : Thread nD τ).loc main_arg1)) (m ((c : Thread nD τ).loc main_arg3)))
    · exact (by rw [e1] : val_main_v24 (F := Ideal) (m' ((c.tc : Thread Cert.NormBwdRefIdeal.nD Cert.NormBwdRefIdeal.τ).loc Cert.NormBwdRefIdeal.main_arg1))
        = val_main_v24 (F := Ideal) (m ((c : Thread nD τ).loc main_arg1)))
    · exact (by rw [e0, e1, e4] : val_main_v32 (F := Ideal) (m' ((c.tc : Thread Cert.NormBwdRefIdeal.nD Cert.NormBwdRefIdeal.τ).loc Cert.NormBwdRefIdeal.main_arg0)) (m' ((c.tc : Thread Cert.NormBwdRefIdeal.nD Cert.NormBwdRefIdeal.τ).loc Cert.NormBwdRefIdeal.main_arg1)) (m' ((c.tc : Thread Cert.NormBwdRefIdeal.nD Cert.NormBwdRefIdeal.τ).loc Cert.NormBwdRefIdeal.main_arg4))
        = val_main_v32 (F := Ideal) (m ((c : Thread nD τ).loc main_arg0)) (m ((c : Thread nD τ).loc main_arg1)) (m ((c : Thread nD τ).loc main_arg4)))
    · exact (by rw [e0, e1, e2, e3, e4, e6] : val_main_v57 (F := Ideal) (m' ((c.tc : Thread Cert.NormBwdRefIdeal.nD Cert.NormBwdRefIdeal.τ).loc Cert.NormBwdRefIdeal.main_arg0)) (m' ((c.tc : Thread Cert.NormBwdRefIdeal.nD Cert.NormBwdRefIdeal.τ).loc Cert.NormBwdRefIdeal.main_arg1)) (m' ((c.tc : Thread Cert.NormBwdRefIdeal.nD Cert.NormBwdRefIdeal.τ).loc Cert.NormBwdRefIdeal.main_arg2)) (m' ((c.tc : Thread Cert.NormBwdRefIdeal.nD Cert.NormBwdRefIdeal.τ).loc Cert.NormBwdRefIdeal.main_arg3)) (m' ((c.tc : Thread Cert.NormBwdRefIdeal.nD Cert.NormBwdRefIdeal.τ).loc Cert.NormBwdRefIdeal.main_arg4)) (m' ((c.tc : Thread Cert.NormBwdRefIdeal.nD Cert.NormBwdRefIdeal.τ).loc Cert.NormBwdRefIdeal.main_arg6))
        = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)))
    · exact (by rw [e0, e1, e2, e3, e4, e5] : val_main_v56 (F := Ideal) (m' ((c.tc : Thread Cert.NormBwdRefIdeal.nD Cert.NormBwdRefIdeal.τ).loc Cert.NormBwdRefIdeal.main_arg0)) (m' ((c.tc : Thread Cert.NormBwdRefIdeal.nD Cert.NormBwdRefIdeal.τ).loc Cert.NormBwdRefIdeal.main_arg1)) (m' ((c.tc : Thread Cert.NormBwdRefIdeal.nD Cert.NormBwdRefIdeal.τ).loc Cert.NormBwdRefIdeal.main_arg2)) (m' ((c.tc : Thread Cert.NormBwdRefIdeal.nD Cert.NormBwdRefIdeal.τ).loc Cert.NormBwdRefIdeal.main_arg3)) (m' ((c.tc : Thread Cert.NormBwdRefIdeal.nD Cert.NormBwdRefIdeal.τ).loc Cert.NormBwdRefIdeal.main_arg4)) (m' ((c.tc : Thread Cert.NormBwdRefIdeal.nD Cert.NormBwdRefIdeal.τ).loc Cert.NormBwdRefIdeal.main_arg5))
        = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))

end Cert.NormBwdIdeal.GradValue
-- ==== Proof.LossHeadPoint.lean ====
module

public import proofs.«01_k».proof.Proof.Gen.LossHeadIdeal.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.RowNorm
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossHeadIdeal.GradValue

open Cert.LossHeadIdeal Cert.LossHeadIdeal.Gen
open Cert.LossHeadRefIdeal.Read

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_1_1024 : Ideal.ofBits .f32 0x3A800000#32 = ((1 / 1024 : ℝ) : EReal) := by
  simp [Ideal.ofBits, Ideal.ieee, -EReal.coe_mul]; norm_num

theorem ofBits_1_2048 : Ideal.ofBits .f32 0x3A000000#32 = ((1 / 2048 : ℝ) : EReal) := by
  simp [Ideal.ofBits, Ideal.ieee, -EReal.coe_mul]; norm_num

/-- The gradient of half the mean square is the difference over the number of its terms. -/
theorem half_mean (e : EReal) : Ideal.div (Ideal.ofBits .f32 0x3F000000#32) (Ideal.ofBits .f32 0x44800000#32)
    * (Ideal.ofBits .f32 0x40000000#32 * e) = e * Ideal.ofBits .f32 0x3A800000#32 := by
  rw [ofBits_half, ofBits_two, ofBits_1_1024, RowNorm.ofBits_1024, Ideal.div_coe (by norm_num : (1024 : ℝ) ≠ 0),
    ← mul_assoc, ← EReal.coe_mul, ← EReal.coe_mul, mul_comm e]
  norm_num

/-- One row of the blocks a grid point loads is row `R` of the arrays. -/
structure Row (xb tb brb : FVec Ideal S512x1024 .f32) (gb gab : FVec Ideal S1x1024 .f32)
    (x t br : FVec Ideal S2048x1024 .f32) (g ga : FVec Ideal S1x1024 .f32) (r : Fin 512) (R : Fin 2048) : Prop where
  x : ∀ l : Fin 1024, xb (ix2 r l) = x (ix2 R l)
  t : ∀ l : Fin 1024, tb (ix2 r l) = t (ix2 R l)
  br : ∀ l : Fin 1024, brb (ix2 r l) = br (ix2 R l)
  g : ∀ l : Fin 1024, gb (ix2 0 l) = g (ix2 0 l)
  ga : ∀ l : Fin 1024, gab (ix2 0 l) = ga (ix2 0 l)

variable {xb tb brb : FVec Ideal S512x1024 .f32} {gb gab : FVec Ideal S1x1024 .f32}
  {x t br : FVec Ideal S2048x1024 .f32} {g ga : FVec Ideal S1x1024 .f32} {r : Fin 512} {R : Fin 2048}
  {rows : Fin 512 → Fin 2048}

/-- The gradient of the loss in the normalised rows, one element. -/
theorem diff_at (H : Row xb tb brb gb gab x t br g ga r R) (l : Fin 1024) :
    k0_pay12 (F := Ideal) xb gb tb (ix2 r l) = val_main_v29 (F := Ideal) x t g (ix2 R l) := by
  pointwise [k0_pay12, k0_pay10, k0_pay9, k0_pay8, H.x, H.t, H.g, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  exact (half_mean _).symm

/-- The gradient of the input in one element. -/
theorem input_at (H : Row xb tb brb gb gab x t br g ga r R) (l : Fin 1024) :
    k0_pay2 (F := Ideal) gb (k0_pay8 xb) (k0_pay9 xb) (k0_pay12 xb gb tb) (ix2 r l)
      = val_main_v48 (F := Ideal) x t g (ix2 R l) := by
  pointwise [k0_pay2, k0_pay9, k0_pay8, diff_at H, H.x, H.g, val_main_v0, val_main_v1, val_main_v2, val_main_v3, val_main_v4, val_main_v5, val_main_v6, val_main_v7, val_main_v8, val_main_v9, val_main_v10, val_main_v11, val_main_v12, val_main_v33, val_main_v34, val_main_v35, val_main_v36, val_main_v37, val_main_v38, val_main_v39, val_main_v40, val_main_v41, val_main_v42, val_main_v43, val_main_v44, val_main_v45, val_main_v46, val_main_v47, val_main_v48, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  obtain ⟨q, hq, e, -⟩ := RowNorm.rsqrt_real (RowNorm.mean_pos fun k : Fin 1024 => x (ix2 R k))
  have hs : (∑ k : Fin 1024, val_main_v29 (F := Ideal) x t g (ix2 R k) * g (ix2 0 k) * (x (ix2 R k) * (q : EReal)))
      = (∑ k : Fin 1024, x (ix2 R k) * (val_main_v29 (F := Ideal) x t g (ix2 R k) * g (ix2 0 k))) * (q : EReal) := by
    rw [← RowNorm.sum_mul_real _ hq]
    exact Finset.sum_congr rfl fun k _ => by rw [← mul_assoc, mul_comm (x (ix2 R k))]
  simp only [Fin.sum_univ_one]
  refine Eq.trans ?_ ((RowNorm.row_grad 0 _ _ _ (RowNorm.mean_pos fun k : Fin 1024 => x (ix2 R k))).trans (zero_add _))
  simp only [e, hs, zero_add]

/-- The gradient of the branch in one element. -/
theorem branch_at (H : Row xb tb brb gb gab x t br g ga r R) (l : Fin 1024) :
    k0_pay4 (F := Ideal) gb (k0_pay8 xb) (k0_pay9 xb) (k0_pay12 xb gb tb) gab (ix2 r l)
      = val_main_v57 (F := Ideal) x t g ga (ix2 R l) := by
  pointwise [k0_pay4, input_at H, H.ga, val_main_v51, val_main_v52, val_main_v57]
  try exact mul_comm _ _

/-- What a block of rows adds to the loss. -/
theorem loss_at (H : ∀ k, Row xb tb brb gb gab x t br g ga k (rows k)) (acc : FVec Ideal S1x1024 .f32) (l : Fin 1024) :
    k0_pay11 (F := Ideal) xb gb tb acc (ix2 0 l)
      = acc (ix2 0 l) + ∑ k : Fin 512, (∑ n : Fin 1024, val_main_v16 (F := Ideal) x t g (ix2 (rows k) n)) * ((1 / 2048 : ℝ) : EReal) := by
  pointwise [k0_pay11, k0_pay10, k0_pay9, k0_pay8, (H _).x, (H _).t, (H 0).g, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  rw [ofBits_1_2048, RowNorm.sum_mul_real _ (by norm_num)]

/-- What a block of rows adds to the gradient of the gain. -/
theorem gain_at (H : ∀ k, Row xb tb brb gb gab x t br g ga k (rows k)) (acc : FVec Ideal S1x1024 .f32) (l : Fin 1024) :
    k0_pay1 (F := Ideal) (k0_pay13 acc) (k0_pay14 xb gb tb) (ix2 0 l)
      = acc (ix2 0 l) + ∑ k : Fin 512, val_main_v30 (F := Ideal) x t g (ix2 (rows k) l) := by
  pointwise [k0_pay1, k0_pay13, k0_pay14, k0_pay9, k0_pay8, diff_at (H _), (H _).x, val_main_v0, val_main_v1, val_main_v2, val_main_v3, val_main_v4, val_main_v5, val_main_v6, val_main_v7, val_main_v8, val_main_v9, val_main_v10, val_main_v11, val_main_v12, val_main_v30, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  try exact congrArg (_ + ·) (Finset.sum_congr rfl fun k _ => mul_comm _ _)

/-- What a block of rows adds to the gradient of the gate. -/
theorem gate_at (H : ∀ k, Row xb tb brb gb gab x t br g ga k (rows k)) (acc : FVec Ideal S1x1024 .f32) (l : Fin 1024) :
    k0_pay5 (F := Ideal) gb (k0_pay8 xb) (k0_pay9 xb) (k0_pay12 xb gb tb) acc brb (ix2 0 l)
      = acc (ix2 0 l) + ∑ k : Fin 512, val_main_v53 (F := Ideal) x t g br (ix2 (rows k) l) := by
  pointwise [k0_pay5, input_at (H _), (H _).br, val_main_v53]

theorem sums (l : Fin 1024) :
    val_main_v32 (F := Ideal) x t g (ix2 0 l) = ∑ R : Fin 2048, val_main_v30 (F := Ideal) x t g (ix2 R l)
    ∧ val_main_v55 (F := Ideal) x t g br (ix2 0 l) = ∑ R : Fin 2048, val_main_v53 (F := Ideal) x t g br (ix2 R l) := by
  refine ⟨?_, ?_⟩
  · pointwise [val_main_v32, val_main_v31, val_main_cst_11]
  · pointwise [val_main_v55, val_main_v54, val_main_cst_15]

theorem loss_sum (l : Fin 1024) :
    val_main_v56 (F := Ideal) x t g (ix2 0 l)
      = ∑ R : Fin 2048, (∑ n : Fin 1024, val_main_v16 (F := Ideal) x t g (ix2 R n)) * ((1 / 2048 : ℝ) : EReal) := by
  pointwise [val_main_v56, val_main_v23, val_main_v22, val_main_v21, val_main_v20, val_main_v19, val_main_cst_4, val_main_cst_5, val_main_cst_6, val_main_cst_7]
  simp only [ofBits_half, RowNorm.ofBits_1024, Ideal.div_coe (by norm_num : (1024 : ℝ) ≠ 0)]
  rw [mul_comm, ← RowNorm.sum_mul_real _ (by norm_num)]
  refine Finset.sum_congr rfl fun R _ => ?_
  rw [mul_assoc, ← EReal.coe_mul]
  norm_num

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![t.val, 0] ∧ win0_6.index t = ![0, 0] ∧ win0_7.index t = ![0, 0] ∧ win0_8.index t = ![t.val, 0] ∧ win0_9.index t = ![0, 0] :=
  (by decide +kernel : ∀ t : Fin grid0.N, _)

theorem vec_idx (j : S1x1024.Idx) : ∃ l : Fin 1024, j = ix2 0 l :=
  ⟨j 1, (eq_ix2 j).trans (congrArg (ix2 · (j 1)) (Subsingleton.elim (α := Fin 1) (j 0) 0))⟩

/-- Row `k` of the block of grid point `t`. -/
def rowOf (t : Fin cfg0.N) (k : Fin 512) : Fin 2048 :=
  ⟨t.val * 512 + k.val, by have := lt_of_lt_of_eq t.isLt N_0; have := k.isLt; omega⟩

theorem row (c : Dev nD) (t : Fin cfg0.N) (k : Fin 512) :
    Row (iblk m c 0 t) (iblk m c 1 t) (iblk m c 3 t) (iblk m c 2 t) (iblk m c 4 t)
      (m ((c : Thread nD τ).loc main_arg0)) (m ((c : Thread nD τ).loc main_arg1)) (m ((c : Thread nD τ).loc main_arg3))
      (m ((c : Thread nD τ).loc main_arg2)) (m ((c : Thread nD τ).loc main_arg4)) k (rowOf t k) where
  x l := by blk_point [iblk, V, idx t, rowOf]
  t l := by blk_point [iblk, V, idx t, rowOf]
  br l := by blk_point [iblk, V, idx t, rowOf]
  g l := by blk_point [iblk, V, idx t, rowOf]
  ga l := by blk_point [iblk, V, idx t, rowOf]

theorem final5 (c : Dev nD) : (dats m 0 c).arrAt 5 (cfgs 0).N
    = val_main_v48 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  obtain ⟨a, l, rfl⟩ : ∃ (a : Fin 512) (l : Fin 1024), y = ix2 a l := ⟨y 0, y 1, eq_ix2 y⟩
  have e : ((cfg0.win 5).blk t).view.emb (ix2 a l) = ix2 (rowOf t a) l := by
    blk_point [idx t, rowOf]
  rw [e]
  blk_simp
  rw [after0_5]
  by_cases h : t.val % 4 = 0
  · rw [outsAt0_A m c t h h]; frame_out
    exact input_at (row m c t a) l
  · rw [outsAt0_B m c t h h]; frame_out
    exact input_at (row m c t a) l

theorem final8 (c : Dev nD) : (dats m 0 c).arrAt 8 (cfgs 0).N
    = val_main_v57 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t _ y => ?_
  obtain ⟨a, l, rfl⟩ : ∃ (a : Fin 512) (l : Fin 1024), y = ix2 a l := ⟨y 0, y 1, eq_ix2 y⟩
  have e : ((cfg0.win 8).blk t).view.emb (ix2 a l) = ix2 (rowOf t a) l := by
    blk_point [idx t, rowOf]
  rw [e]
  blk_simp
  rw [after0_8]
  by_cases h : t.val % 4 = 0
  · rw [outsAt0_A m c t h h]; frame_out
    exact branch_at (row m c t a) l
  · rw [outsAt0_B m c t h h]; frame_out
    exact branch_at (row m c t a) l

theorem zero6 (j : S1x1024.Idx) : k0_pay6 (F := Ideal) j = 0 := by pointwise [k0_pay6]

theorem final6 (c : Dev nD) : (dats m 0 c).arrAt 6 (cfgs 0).N
    = val_main_v56 (F := Ideal) (m ((c : Thread nD τ).loc main_arg0)) (m ((c : Thread nD τ).loc main_arg1)) (m ((c : Thread nD τ).loc main_arg2)) := by
  refine (dats m 0 c).arrAt_eq_of_after_last 6 t0_3 (by decide +kernel) _ fun j => ?_
  obtain ⟨l, rfl⟩ : ∃ l : Fin 1024, j = ix2 0 l := vec_idx j
  blk_simp
  have run := Pipeline.eq_sum_fin_of_reset_step_apply_last (N := cfg0.N)
    (fun n h (l : Fin 1024) => ((outsAt0 m c n h).2.1 (ix2 0 l) : EReal)) 4 (fun _ => 0)
    (fun t l => ∑ k : Fin 512, ((∑ n : Fin 1024, (val_main_v16 (F := Ideal) (m ((c : Thread nD τ).loc main_arg0)) (m ((c : Thread nD τ).loc main_arg1)) (m ((c : Thread nD τ).loc main_arg2)) (ix2 (rowOf t k) n) : EReal)) * ((1 / 2048 : ℝ) : EReal)))
    (fun t h l => by
      rw [outsAt0_A m c t h h]; frame_out
      exact (loss_at (row m c t) _ l).trans (congrArg (· + _) (zero6 _)))
    (fun t h l => by
      rw [outsAt0_B m c t h h]; frame_out
      exact loss_at (row m c t) _ l)
    (le_of_eq N_0) t0_3 rfl l
  rw [after0_6]
  refine run.trans ?_
  rw [zero_add, loss_sum (x := m ((c : Thread nD τ).loc main_arg0)) (t := m ((c : Thread nD τ).loc main_arg1)) (g := m ((c : Thread nD τ).loc main_arg2)) l]
  exact Fin.sum_mul_add_congr (fun t k hl => rfl)

theorem zero7 (j : S1x1024.Idx) : k0_pay7 (F := Ideal) j = 0 := by pointwise [k0_pay7]

theorem final7 (c : Dev nD) : (dats m 0 c).arrAt 7 (cfgs 0).N
    = val_main_v32 (F := Ideal) (m ((c : Thread nD τ).loc main_arg0)) (m ((c : Thread nD τ).loc main_arg1)) (m ((c : Thread nD τ).loc main_arg2)) := by
  refine (dats m 0 c).arrAt_eq_of_after_last 7 t0_3 (by decide +kernel) _ fun j => ?_
  obtain ⟨l, rfl⟩ : ∃ l : Fin 1024, j = ix2 0 l := vec_idx j
  blk_simp
  have run := Pipeline.eq_sum_fin_of_reset_step_apply_last (N := cfg0.N)
    (fun n h (l : Fin 1024) => ((outsAt0 m c n h).2.2.1 (ix2 0 l) : EReal)) 4 (fun _ => 0)
    (fun t l => ∑ k : Fin 512, (val_main_v30 (F := Ideal) (m ((c : Thread nD τ).loc main_arg0)) (m ((c : Thread nD τ).loc main_arg1)) (m ((c : Thread nD τ).loc main_arg2)) (ix2 (rowOf t k) l) : EReal))
    (fun t h l => by
      rw [outsAt0_A m c t h h]; frame_out
      exact (gain_at (row m c t) _ l).trans (congrArg (· + _) (zero7 _)))
    (fun t h l => by
      rw [outsAt0_B m c t h h]; frame_out
      exact gain_at (row m c t) _ l)
    (le_of_eq N_0) t0_3 rfl l
  rw [after0_7]
  refine run.trans ?_
  rw [zero_add, (sums (x := m ((c : Thread nD τ).loc main_arg0)) (t := m ((c : Thread nD τ).loc main_arg1)) (g := m ((c : Thread nD τ).loc main_arg2)) (br := m ((c : Thread nD τ).loc main_arg3)) l).1]
  exact Fin.sum_mul_add_congr (fun t k hl => rfl)

theorem zero9 (j : S1x1024.Idx) : k0_pay3 (F := Ideal) j = 0 := by pointwise [k0_pay3]

theorem final9 (c : Dev nD) : (dats m 0 c).arrAt 9 (cfgs 0).N
    = val_main_v55 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_after_last 9 t0_3 (by decide +kernel) _ fun j => ?_
  obtain ⟨l, rfl⟩ : ∃ l : Fin 1024, j = ix2 0 l := vec_idx j
  blk_simp
  have run := Pipeline.eq_sum_fin_of_reset_step_apply_last (N := cfg0.N)
    (fun n h (l : Fin 1024) => ((outsAt0 m c n h).2.2.2.2 (ix2 0 l) : EReal)) 4 (fun _ => 0)
    (fun t l => ∑ k : Fin 512, (val_main_v53 (F := Ideal) (m ((c : Thread nD τ).loc main_arg0)) (m ((c : Thread nD τ).loc main_arg1)) (m ((c : Thread nD τ).loc main_arg2)) (m ((c : Thread nD τ).loc main_arg3)) (ix2 (rowOf t k) l) : EReal))
    (fun t h l => by
      rw [outsAt0_A m c t h h]; frame_out
      exact (gate_at (row m c t) _ l).trans (congrArg (· + _) (zero9 _)))
    (fun t h l => by
      rw [outsAt0_B m c t h h]; frame_out
      exact gate_at (row m c t) _ l)
    (le_of_eq N_0) t0_3 rfl l
  rw [after0_9]
  refine run.trans ?_
  rw [zero_add, (sums (x := m ((c : Thread nD τ).loc main_arg0)) (t := m ((c : Thread nD τ).loc main_arg1)) (g := m ((c : Thread nD τ).loc main_arg2)) (br := m ((c : Thread nD τ).loc main_arg3)) l).2]
  exact Fin.sum_mul_add_congr (fun t k hl => rfl)

end Cert.LossHeadIdeal.GradValue
-- ==== Proof.LossHeadValue.lean ====
module

public import proofs.«01_k».proof.Proof.Gen.LossHeadIdeal.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.LossHeadPoint
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossHeadIdeal.GradValue

open Cert.LossHeadIdeal Cert.LossHeadIdeal.Gen
open Cert.LossHeadRefIdeal.Read

/-- The kernel's loss and gradients are the reference's. -/
theorem algebraic : Cert.algebraic_LossHeadIdeal_LossHeadRefIdeal (hLossHeadIdeal := Cert.LossHeadIdeal.Gen.facts)
    (hLossHeadRefIdeal := Cert.LossHeadRefIdeal.Gen.facts) := by
  intro m g m' g' _ hagree
  refine ⟨fun c => val_main_v48 (F := Ideal) (m ((c : Thread nD τ).loc main_arg0)) (m ((c : Thread nD τ).loc main_arg1)) (m ((c : Thread nD τ).loc main_arg2)),
    fun c => val_main_v56 (F := Ideal) (m ((c : Thread nD τ).loc main_arg0)) (m ((c : Thread nD τ).loc main_arg1)) (m ((c : Thread nD τ).loc main_arg2)),
    fun c => val_main_v32 (F := Ideal) (m ((c : Thread nD τ).loc main_arg0)) (m ((c : Thread nD τ).loc main_arg1)) (m ((c : Thread nD τ).loc main_arg2)),
    fun c => val_main_v57 (F := Ideal) (m ((c : Thread nD τ).loc main_arg0)) (m ((c : Thread nD τ).loc main_arg1)) (m ((c : Thread nD τ).loc main_arg2)) (m ((c : Thread nD τ).loc main_arg4)),
    fun c => val_main_v55 (F := Ideal) (m ((c : Thread nD τ).loc main_arg0)) (m ((c : Thread nD τ).loc main_arg1)) (m ((c : Thread nD τ).loc main_arg2)) (m ((c : Thread nD τ).loc main_arg3)), ?_, ?_⟩
  · refine Idealize.ShloMosaic.θ_run_mono (Idealize.ShloMosaic.θ_run_and (Cert.LossHeadIdeal.Gen.run_main m g)
      (Cert.LossHeadIdeal.Gen.unchanged m g)) fun r hr c => ?_
    exact ⟨((hr.1 c).1 5).trans (final5 m c), ((hr.1 c).1 6).trans (final6 m c), ((hr.1 c).1 7).trans (final7 m c), ((hr.1 c).1 8).trans (final8 m c), ((hr.1 c).1 9).trans (final9 m c), hr.2 c⟩
  · refine Idealize.ShloMosaic.θ_run_mono (Cert.LossHeadRefIdeal.Value.run m' g') fun r hr c => ?_
    obtain ⟨h0, h1, h2, h3, h4, hr⟩ := hr c
    obtain ⟨e0, e1, e2, e3, e4⟩ := hagree c
    refine ⟨h0.trans ?_, h1.trans ?_, h2.trans ?_, h3.trans ?_, h4.trans ?_, hr⟩
    · exact (by rw [e0, e1, e2] : val_main_v48 (F := Ideal) (m' ((c.tc : Thread Cert.LossHeadRefIdeal.nD Cert.LossHeadRefIdeal.τ).loc Cert.LossHeadRefIdeal.main_arg0)) (m' ((c.tc : Thread Cert.LossHeadRefIdeal.nD Cert.LossHeadRefIdeal.τ).loc Cert.LossHeadRefIdeal.main_arg1)) (m' ((c.tc : Thread Cert.LossHeadRefIdeal.nD Cert.LossHeadRefIdeal.τ).loc Cert.LossHeadRefIdeal.main_arg2))
        = val_main_v48 (F := Ideal) (m ((c : Thread nD τ).loc main_arg0)) (m ((c : Thread nD τ).loc main_arg1)) (m ((c : Thread nD τ).loc main_arg2)))
    · exact (by rw [e0, e1, e2] : val_main_v56 (F := Ideal) (m' ((c.tc : Thread Cert.LossHeadRefIdeal.nD Cert.LossHeadRefIdeal.τ).loc Cert.LossHeadRefIdeal.main_arg0)) (m' ((c.tc : Thread Cert.LossHeadRefIdeal.nD Cert.LossHeadRefIdeal.τ).loc Cert.LossHeadRefIdeal.main_arg1)) (m' ((c.tc : Thread Cert.LossHeadRefIdeal.nD Cert.LossHeadRefIdeal.τ).loc Cert.LossHeadRefIdeal.main_arg2))
        = val_main_v56 (F := Ideal) (m ((c : Thread nD τ).loc main_arg0)) (m ((c : Thread nD τ).loc main_arg1)) (m ((c : Thread nD τ).loc main_arg2)))
    · exact (by rw [e0, e1, e2] : val_main_v32 (F := Ideal) (m' ((c.tc : Thread Cert.LossHeadRefIdeal.nD Cert.LossHeadRefIdeal.τ).loc Cert.LossHeadRefIdeal.main_arg0)) (m' ((c.tc : Thread Cert.LossHeadRefIdeal.nD Cert.LossHeadRefIdeal.τ).loc Cert.LossHeadRefIdeal.main_arg1)) (m' ((c.tc : Thread Cert.LossHeadRefIdeal.nD Cert.LossHeadRefIdeal.τ).loc Cert.LossHeadRefIdeal.main_arg2))
        = val_main_v32 (F := Ideal) (m ((c : Thread nD τ).loc main_arg0)) (m ((c : Thread nD τ).loc main_arg1)) (m ((c : Thread nD τ).loc main_arg2)))
    · exact (by rw [e0, e1, e2, e4] : val_main_v57 (F := Ideal) (m' ((c.tc : Thread Cert.LossHeadRefIdeal.nD Cert.LossHeadRefIdeal.τ).loc Cert.LossHeadRefIdeal.main_arg0)) (m' ((c.tc : Thread Cert.LossHeadRefIdeal.nD Cert.LossHeadRefIdeal.τ).loc Cert.LossHeadRefIdeal.main_arg1)) (m' ((c.tc : Thread Cert.LossHeadRefIdeal.nD Cert.LossHeadRefIdeal.τ).loc Cert.LossHeadRefIdeal.main_arg2)) (m' ((c.tc : Thread Cert.LossHeadRefIdeal.nD Cert.LossHeadRefIdeal.τ).loc Cert.LossHeadRefIdeal.main_arg4))
        = val_main_v57 (F := Ideal) (m ((c : Thread nD τ).loc main_arg0)) (m ((c : Thread nD τ).loc main_arg1)) (m ((c : Thread nD τ).loc main_arg2)) (m ((c : Thread nD τ).loc main_arg4)))
    · exact (by rw [e0, e1, e2, e3] : val_main_v55 (F := Ideal) (m' ((c.tc : Thread Cert.LossHeadRefIdeal.nD Cert.LossHeadRefIdeal.τ).loc Cert.LossHeadRefIdeal.main_arg0)) (m' ((c.tc : Thread Cert.LossHeadRefIdeal.nD Cert.LossHeadRefIdeal.τ).loc Cert.LossHeadRefIdeal.main_arg1)) (m' ((c.tc : Thread Cert.LossHeadRefIdeal.nD Cert.LossHeadRefIdeal.τ).loc Cert.LossHeadRefIdeal.main_arg2)) (m' ((c.tc : Thread Cert.LossHeadRefIdeal.nD Cert.LossHeadRefIdeal.τ).loc Cert.LossHeadRefIdeal.main_arg3))
        = val_main_v55 (F := Ideal) (m ((c : Thread nD τ).loc main_arg0)) (m ((c : Thread nD τ).loc main_arg1)) (m ((c : Thread nD τ).loc main_arg2)) (m ((c : Thread nD τ).loc main_arg3)))

end Cert.LossHeadIdeal.GradValue
-- ==== Proof.SgFwdPoint.lean ====
module

public import proofs.«01_k».proof.Proof.Gen.SgFwdIdeal.Frame
public import proofs.«01_k».proof.Proof.Gen.SgFwdIdeal.Value
public import proofs.«01_k».proof.Proof.Gen.SgFwdRefIdeal.Run
public import proofs.«01_k».proof.Proof.Gen.SgFwdRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SgFwdIdeal.GradValue

open Cert.SgFwdIdeal Cert.SgFwdIdeal.Gen
open Cert.SgFwdRefIdeal.Read

/-- The gate of one window of 128 rows, from its blocks. -/
def core (ub vb : Vec Ideal S128x256 .f32) (gb : Vec Ideal S1x256 .f32) (w0 w1 w2 w3 : Vec Ideal S1x128x128 .f32)
    (bb : Vec Ideal S128x256 .f32) : FVec Ideal S128x256 .f32 :=
  k0_pay13 k0_pay3 (k0_pay7 w3) (k0_pay11 vb (k0_pay8 vb) (k0_pay9 vb) k0_pay10 gb)
    (k0_pay12 k0_pay3 (k0_pay4 w0) (k0_pay5 w1) (k0_pay6 w2) vb (k0_pay8 vb) (k0_pay9 vb) k0_pay10 gb bb) ub

/-- The block of a grid point is its four windows, each the same function of its rows. -/
theorem out_eq (x0 x1 : Vec Ideal S512x256 .f32) (x2 : Vec Ideal S1x256 .f32) (x3 : Vec Ideal S4x128x128 .f32)
    (x4 : Vec Ideal S128x256 .f32) : out0_5 x0 x1 x2 x3 x4 = View.canon
      [⟨r0_9, core (View.ld x0 r0_9) (View.ld x1 r0_9) (View.ld x2 r0_5) (View.ld x3 r0_0) (View.ld x3 r0_1) (View.ld x3 r0_2) (View.ld x3 r0_3) (View.ld x4 r0_6)⟩,
       ⟨r0_8, core (View.ld x0 r0_8) (View.ld x1 r0_8) (View.ld x2 r0_5) (View.ld x3 r0_0) (View.ld x3 r0_1) (View.ld x3 r0_2) (View.ld x3 r0_3) (View.ld x4 r0_6)⟩,
       ⟨r0_7, core (View.ld x0 r0_7) (View.ld x1 r0_7) (View.ld x2 r0_5) (View.ld x3 r0_0) (View.ld x3 r0_1) (View.ld x3 r0_2) (View.ld x3 r0_3) (View.ld x4 r0_6)⟩,
       ⟨r0_4, core (View.ld x0 r0_4) (View.ld x1 r0_4) (View.ld x2 r0_5) (View.ld x3 r0_0) (View.ld x3 r0_1) (View.ld x3 r0_2) (View.ld x3 r0_3) (View.ld x4 r0_6)⟩] := rfl

theorem half_mul (x y : EReal) : Ideal.ofBits .f32 0x3F000000#32 * x * y = x * (Ideal.ofBits .f32 0x3F000000#32 * y) := by
  rw [mul_comm _ x, mul_assoc]

/-- One row of a window is row `R` of the array. -/
structure Row (ub vb : Vec Ideal S128x256 .f32) (gb : Vec Ideal S1x256 .f32)
    (proj : FVec Ideal S2048x1280 .f32) (gn : FVec Ideal S1x256 .f32) (r : Fin 128) (R : Fin 2048) : Prop where
  u : ∀ l : Fin 256, ub (ix2 r l) = proj (ix2 R ⟨768 + l.val, by have := l.isLt; omega⟩)
  v : ∀ l : Fin 256, vb (ix2 r l) = proj (ix2 R ⟨1024 + l.val, by have := l.isLt; omega⟩)
  g : ∀ l : Fin 256, gb (ix2 0 l) = gn (ix2 0 l)

variable {ub vb bb : Vec Ideal S128x256 .f32} {gb : Vec Ideal S1x256 .f32} {w0 w1 w2 w3 : Vec Ideal S1x128x128 .f32}
  {proj : FVec Ideal S2048x1280 .f32} {gn : FVec Ideal S1x256 .f32} {sw : FVec Ideal S4x128x128 .f32}
  {sb : FVec Ideal S4x128 .f32} {r : Fin 128} {R : Fin 2048}

/-- The normalised rows, one element. -/
theorem normed_at (H : Row ub vb gb proj gn r R) (l : Fin 256) :
    k0_pay11 (F := Ideal) vb (k0_pay8 vb) (k0_pay9 vb) k0_pay10 gb (ix2 r l) = val_main_v43 (F := Ideal) proj gn (ix2 R l) := by
  pointwise [k0_pay11, k0_pay8, k0_pay9, k0_pay10, H.v, H.g, val_main_v5, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_cst, val_main_cst_0, val_main_cst_1, val_main_cst_2, val_main_cst_3, val_main_cst_4, val_main_cst_5, val_main_cst_6, val_main_cst_7, val_main_cst_8, val_main_cst_9, val_main_cst_10]
  simp only [half_mul]

theorem chunk : ∀ k : Fin 128, (val_main_v46 (F := Ideal) (ix1 k) : BitVec 32) = IntOp.shrsi .vector (BitVec.ofNat 32 k.val) 6#32 := by
  decide +kernel

theorem mask_at (r k : Fin 128) : k0_pay2 (ix2 r k) = val_main_v51 (F := Ideal) (ix2 r k) := by
  pointwise [k0_pay2, val_main_v47, val_main_v48, val_main_v49, val_main_v50, val_main_v51]
  exact (congrArg₂ (IntOp.cmpi .sge) (chunk r) (chunk k)).symm

theorem weight_at {wb : Vec Ideal S1x128x128 .f32} (h : Fin 4) (hw : ∀ r k : Fin 128, wb (ix3 0 r k) = sw (ix3 h r k)) (r k : Fin 128) :
    k0_pay4 (F := Ideal) wb (ix2 r k) = val_main_v54 (F := Ideal) sw (ix3 h r k) := by
  pointwise [k0_pay4, mask_at, hw, val_main_v54, val_main_call1_v0, val_main_v53, val_main_v52, val_main_cst_10]

theorem ref_at (W : Fin 16) (r : Fin 128) (l : Fin 256) :
    val_main_v60 (F := Ideal) proj gn sw sb (ix2 ⟨W.val * 128 + r.val, by have := W.isLt; have := r.isLt; omega⟩ l)
      = (∑ k : Fin 128, val_main_v43 (F := Ideal) proj gn (ix2 ⟨W.val * 128 + k.val, by have := W.isLt; have := k.isLt; omega⟩ l)
          * val_main_v54 (F := Ideal) sw (ix3 ⟨l.val / 64, by have := l.isLt; omega⟩ r k))
        + sb (ix2 ⟨l.val / 64, by have := l.isLt; omega⟩ r) := by
  pointwise [val_main_v0, val_main_v1, val_main_v2, val_main_v3, val_main_v44, val_main_v55, val_main_v56, val_main_v57, val_main_v58, val_main_v59, val_main_v60]

theorem head : ∀ l : Fin 256, IntOp.shrsi .vector (BitVec.ofNat 32 l.val) 6#32
    = BitVec.ofNat 32 (⟨l.val / 64, by have := l.isLt; omega⟩ : Fin 4).val := by
  decide +kernel

theorem pick (h k : Fin 4) (S : EReal) :
    Scalar.select (IntOp.cmpi .eq (BitVec.ofNat 32 h.val) (BitVec.ofNat 32 k.val)) S 0 = if h = k then S else 0 := by
  have e : IntOp.cmpi .eq (BitVec.ofNat 32 h.val) (BitVec.ofNat 32 k.val) = if h = k then 1#1 else 0#1 := by
    revert h k; decide
  rw [e]; split <;> rfl

/-- The selections over the heads leave the sum of one head. -/
theorem picks (h : Fin 4) (S : Fin 4 → EReal) (b : EReal) :
    b + Scalar.select (IntOp.cmpi .eq (BitVec.ofNat 32 h.val) 0#32) (S 0) 0
      + Scalar.select (IntOp.cmpi .eq (BitVec.ofNat 32 h.val) 1#32) (S 1) 0
      + Scalar.select (IntOp.cmpi .eq (BitVec.ofNat 32 h.val) 2#32) (S 2) 0
      + Scalar.select (IntOp.cmpi .eq (BitVec.ofNat 32 h.val) 3#32) (S 3) 0 = S h + b := by
  rw [show (0#32) = BitVec.ofNat 32 (0 : Fin 4).val from rfl, show (1#32) = BitVec.ofNat 32 (1 : Fin 4).val from rfl,
    show (2#32) = BitVec.ofNat 32 (2 : Fin 4).val from rfl, show (3#32) = BitVec.ofNat 32 (3 : Fin 4).val from rfl]
  rw [pick, pick, pick, pick, add_comm (S h)]
  fin_cases h <;> simp

theorem core_at (W : Fin 16) (H : ∀ k : Fin 128, Row ub vb gb proj gn k ⟨W.val * 128 + k.val, by have := W.isLt; have := k.isLt; omega⟩)
    (h0 : ∀ r k : Fin 128, w0 (ix3 0 r k) = sw (ix3 0 r k)) (h1 : ∀ r k : Fin 128, w1 (ix3 0 r k) = sw (ix3 1 r k))
    (h2 : ∀ r k : Fin 128, w2 (ix3 0 r k) = sw (ix3 2 r k)) (h3 : ∀ r k : Fin 128, w3 (ix3 0 r k) = sw (ix3 3 r k))
    (hb : ∀ (r : Fin 128) (l : Fin 256), bb (ix2 r l) = sb (ix2 ⟨l.val / 64, by have := l.isLt; omega⟩ r)) (r : Fin 128) (l : Fin 256) :
    core ub vb gb w0 w1 w2 w3 bb (ix2 r l)
      = val_main_v61 (F := Ideal) proj gn sw sb (ix2 ⟨W.val * 128 + r.val, by have := W.isLt; have := r.isLt; omega⟩ l) := by
  have e1 (r k : Fin 128) : k0_pay5 (F := Ideal) w1 (ix2 r k) = _ := weight_at 1 h1 r k
  have e2 (r k : Fin 128) : k0_pay6 (F := Ideal) w2 (ix2 r k) = _ := weight_at 2 h2 r k
  have e3 (r k : Fin 128) : k0_pay7 (F := Ideal) w3 (ix2 r k) = _ := weight_at 3 h3 r k
  pointwise [core, k0_pay13, k0_pay12, k0_pay3, normed_at (H _), weight_at 0 h0, e1, e2, e3, (H _).u, hb, val_main_v61, ref_at, val_main_v4, val_main_v6, val_main_v7, val_main_v8, val_main_v9, val_main_v10, val_main_v11, val_main_v12, val_main_v13, val_main_v14, val_main_v15, val_main_v16, val_main_v17, val_main_v18, val_main_cst, val_main_cst_0, val_main_cst_1, val_main_cst_2, val_main_cst_3, val_main_cst_4, val_main_cst_5, val_main_cst_6, val_main_cst_7, val_main_cst_8, val_main_cst_9, val_main_cst_10]
  rw [half_mul, head l]
  refine congrArg (HMul.hMul (α := EReal) (β := EReal) _) ?_
  refine (picks ⟨l.val / 64, by have := l.isLt; omega⟩ (fun h => ∑ k : Fin 128, val_main_v54 (F := Ideal) sw (ix3 h r k)
    * val_main_v43 (F := Ideal) proj gn (ix2 ⟨W.val * 128 + k.val, by have := W.isLt; have := k.isLt; omega⟩ l))
    (sb (ix2 ⟨l.val / 64, by have := l.isLt; omega⟩ r))).trans ?_
  exact congrArg (· + _) (Finset.sum_congr rfl fun k _ => mul_comm _ _)

variable (m : (ℓ : Loc nD τ sig) → Buf (Elt Ideal) ℓ)

theorem idx : ∀ t : Fin cfg0.N, win0_0.index t = ![t.val, 3] ∧ win0_1.index t = ![t.val, 4] ∧ win0_2.index t = ![0, 0]
    ∧ win0_3.index t = ![0, 0, 0] ∧ win0_4.index t = ![0, 0] ∧ win0_5.index t = ![t.val, 0] :=
  (by decide +kernel : ∀ t : Fin grid0.N, _)

/-- Window `w` of the block of grid point `t`. -/
def win (t : Fin cfg0.N) (w : Fin 4) : Fin 16 :=
  ⟨t.val * 4 + w.val, by have := lt_of_lt_of_eq t.isLt N_0; have := w.isLt; omega⟩

theorem bias_at (c : Dev nD) (t : Fin cfg0.N) (r : Fin 128) (l : Fin 256) : View.ld (iblk m c 4 t) r0_6 (ix2 r l)
    = m ((c : Thread nD τ).loc main_arg3) (ix2 ⟨l.val / 64, by have := l.isLt; omega⟩ r) := by
  have e (X : S128x256.Idx → EReal) :
      View.ld (((cfg0.win 4).blk t).view.read (Elt Ideal) X) r0_6 (ix2 r l) = X (ix2 r l) := by
    have e0 : ((cfg0.win 4).blk t).view.emb (ix2 r l : S128x256.Idx) = ix2 r l := by blk_point [idx t]
    have e1 : r0_6.idx (ix2 r l) = ix2 r l := funext fun a => Fin.ext ((Rect.idx_unit_val _ _ _ _ a).trans (by
      match a with
      | ⟨0, _⟩ => exact Nat.zero_add _
      | ⟨1, _⟩ => exact Nat.zero_add _))
    show X (((cfg0.win 4).blk t).view.emb (r0_6.idx (ix2 r l))) = _
    rw [e1]
    exact congrArg X e0
  refine (e (V m c main_v2)).trans ?_
  entry_read
  pointwise
  try blk_ext

theorem head0 (c : Dev nD) (t : Fin cfg0.N) (r k : Fin 128) : View.ld (iblk m c 3 t) r0_0 (ix3 0 r k)
    = m ((c : Thread nD τ).loc main_arg2) (ix3 0 r k) := by
  blk_point [iblk, V, idx t]

theorem row0 (c : Dev nD) (t : Fin cfg0.N) (k : Fin 128) :
    Row (View.ld (iblk m c 0 t) r0_4) (View.ld (iblk m c 1 t) r0_4) (View.ld (iblk m c 2 t) r0_5)
      (m ((c : Thread nD τ).loc main_arg0)) (m ((c : Thread nD τ).loc main_arg1)) k
      ⟨(win t 0).val * 128 + k.val, by have := (win t 0).isLt; have := k.isLt; omega⟩ where
  u l := by blk_point [iblk, V, idx t, win]
  v l := by blk_point [iblk, V, idx t, win]
  g l := by blk_point [iblk, V, idx t]

theorem head1 (c : Dev nD) (t : Fin cfg0.N) (r k : Fin 128) : View.ld (iblk m c 3 t) r0_1 (ix3 0 r k)
    = m ((c : Thread nD τ).loc main_arg2) (ix3 1 r k) := by
  blk_point [iblk, V, idx t]

theorem row1 (c : Dev nD) (t : Fin cfg0.N) (k : Fin 128) :
    Row (View.ld (iblk m c 0 t) r0_7) (View.ld (iblk m c 1 t) r0_7) (View.ld (iblk m c 2 t) r0_5)
      (m ((c : Thread nD τ).loc main_arg0)) (m ((c : Thread nD τ).loc main_arg1)) k
      ⟨(win t 1).val * 128 + k.val, by have := (win t 1).isLt; have := k.isLt; omega⟩ where
  u l := by blk_point [iblk, V, idx t, win]
  v l := by blk_point [iblk, V, idx t, win]
  g l := by blk_point [iblk, V, idx t]

theorem head2 (c : Dev nD) (t : Fin cfg0.N) (r k : Fin 128) : View.ld (iblk m c 3 t) r0_2 (ix3 0 r k)
    = m ((c : Thread nD τ).loc main_arg2) (ix3 2 r k) := by
  blk_point [iblk, V, idx t]

theorem row2 (c : Dev nD) (t : Fin cfg0.N) (k : Fin 128) :
    Row (View.ld (iblk m c 0 t) r0_8) (View.ld (iblk m c 1 t) r0_8) (View.ld (iblk m c 2 t) r0_5)
      (m ((c : Thread nD τ).loc main_arg0)) (m ((c : Thread nD τ).loc main_arg1)) k
      ⟨(win t 2).val * 128 + k.val, by have := (win t 2).isLt; have := k.isLt; omega⟩ where
  u l := by blk_point [iblk, V, idx t, win]
  v l := by blk_point [iblk, V, idx t, win]
  g l := by blk_point [iblk, V, idx t]

theorem head3 (c : Dev nD) (t : Fin cfg0.N) (r k : Fin 128) : View.ld (iblk m c 3 t) r0_3 (ix3 0 r k)
    = m ((c : Thread nD τ).loc main_arg2) (ix3 3 r k) := by
  blk_point [iblk, V, idx t]

theorem row3 (c : Dev nD) (t : Fin cfg0.N) (k : Fin 128) :
    Row (View.ld (iblk m c 0 t) r0_9) (View.ld (iblk m c 1 t) r0_9) (View.ld (iblk m c 2 t) r0_5)
      (m ((c : Thread nD τ).loc main_arg0)) (m ((c : Thread nD τ).loc main_arg1)) k
      ⟨(win t 3).val * 128 + k.val, by have := (win t 3).isLt; have := k.isLt; omega⟩ where
  u l := by blk_point [iblk, V, idx t, win]
  v l := by blk_point [iblk, V, idx t, win]
  g l := by blk_point [iblk, V, idx t]

theorem point (c : Dev nD) (t : Fin cfg0.N) (y : S512x256.Idx) :
    out0_5 (iblk m c 0 t) (iblk m c 1 t) (iblk m c 2 t) (iblk m c 3 t) (iblk m c 4 t) y
      = val_main_v61 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  obtain ⟨a, l, rfl⟩ : ∃ (a : Fin 512) (l : Fin 256), y = ix2 a l := ⟨y 0, y 1, eq_ix2 y⟩
  have e : ((cfg0.win 5).blk t).view.emb (ix2 a l)
      = ix2 ⟨t.val * 512 + a.val, by have := lt_of_lt_of_eq t.isLt N_0; have := a.isLt; omega⟩ l := by
    blk_point [idx t]
  rw [e, out_eq]
  canon_tiles x h
  · obtain ⟨r, n, rfl⟩ : ∃ (r : Fin 128) (n : Fin 256), x = ix2 r n := ⟨x 0, x 1, eq_ix2 x⟩
    have ha : a.val = 384 + r.val := by simpa using h0
    have hl : l = n := Fin.ext (by simpa using h1)
    subst hl
    refine (core_at (win t 3) (row3 m c t) (head0 m c t) (head1 m c t) (head2 m c t) (head3 m c t) (bias_at m c t) r l).trans ?_
    exact congrArg (fun R => val_main_v61 (F := Ideal) (m ((c : Thread nD τ).loc main_arg0)) (m ((c : Thread nD τ).loc main_arg1)) (m ((c : Thread nD τ).loc main_arg2)) (m ((c : Thread nD τ).loc main_arg3)) (ix2 R l)) (Fin.ext (by show (t.val * 4 + 3) * 128 + r.val = t.val * 512 + a.val; omega))
  · obtain ⟨r, n, rfl⟩ : ∃ (r : Fin 128) (n : Fin 256), x = ix2 r n := ⟨x 0, x 1, eq_ix2 x⟩
    have ha : a.val = 256 + r.val := by simpa using h0
    have hl : l = n := Fin.ext (by simpa using h1)
    subst hl
    refine (core_at (win t 2) (row2 m c t) (head0 m c t) (head1 m c t) (head2 m c t) (head3 m c t) (bias_at m c t) r l).trans ?_
    exact congrArg (fun R => val_main_v61 (F := Ideal) (m ((c : Thread nD τ).loc main_arg0)) (m ((c : Thread nD τ).loc main_arg1)) (m ((c : Thread nD τ).loc main_arg2)) (m ((c : Thread nD τ).loc main_arg3)) (ix2 R l)) (Fin.ext (by show (t.val * 4 + 2) * 128 + r.val = t.val * 512 + a.val; omega))
  · obtain ⟨r, n, rfl⟩ : ∃ (r : Fin 128) (n : Fin 256), x = ix2 r n := ⟨x 0, x 1, eq_ix2 x⟩
    have ha : a.val = 128 + r.val := by simpa using h0
    have hl : l = n := Fin.ext (by simpa using h1)
    subst hl
    refine (core_at (win t 1) (row1 m c t) (head0 m c t) (head1 m c t) (head2 m c t) (head3 m c t) (bias_at m c t) r l).trans ?_
    exact congrArg (fun R => val_main_v61 (F := Ideal) (m ((c : Thread nD τ).loc main_arg0)) (m ((c : Thread nD τ).loc main_arg1)) (m ((c : Thread nD τ).loc main_arg2)) (m ((c : Thread nD τ).loc main_arg3)) (ix2 R l)) (Fin.ext (by show (t.val * 4 + 1) * 128 + r.val = t.val * 512 + a.val; omega))
  · obtain ⟨r, n, rfl⟩ : ∃ (r : Fin 128) (n : Fin 256), x = ix2 r n := ⟨x 0, x 1, eq_ix2 x⟩
    have ha : a.val = 0 + r.val := by simpa using h0
    have hl : l = n := Fin.ext (by simpa using h1)
    subst hl
    refine (core_at (win t 0) (row0 m c t) (head0 m c t) (head1 m c t) (head2 m c t) (head3 m c t) (bias_at m c t) r l).trans ?_
    exact congrArg (fun R => val_main_v61 (F := Ideal) (m ((c : Thread nD τ).loc main_arg0)) (m ((c : Thread nD τ).loc main_arg1)) (m ((c : Thread nD τ).loc main_arg2)) (m ((c : Thread nD τ).loc main_arg3)) (ix2 R l)) (Fin.ext (by show (t.val * 4 + 0) * 128 + r.val = t.val * 512 + a.val; omega))

theorem final5 (c : Dev nD) : (dats m 0 c).arrAt 5 (cfgs 0).N = val_main_v61 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact point m c t y

end Cert.SgFwdIdeal.GradValue
-- ==== Proof.SgFwdValue.lean ====
module

public import proofs.«01_k».proof.Proof.Gen.SgFwdIdeal.Frame
public import proofs.«01_k».proof.Proof.Gen.SgFwdIdeal.Value
public import proofs.«01_k».proof.Proof.Gen.SgFwdRefIdeal.Run
public import proofs.«01_k».proof.Proof.Gen.SgFwdRefIdeal.Read
public import proofs.«01_k».proof.Proof.SgFwdPoint
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SgFwdIdeal.GradValue

open Cert.SgFwdIdeal Cert.SgFwdIdeal.Gen
open Cert.SgFwdRefIdeal.Read

/-- The kernel's gated rows are the reference's. -/
theorem algebraic : Cert.algebraic_SgFwdIdeal_SgFwdRefIdeal (hSgFwdIdeal := Cert.SgFwdIdeal.Gen.facts)
    (hSgFwdRefIdeal := Cert.SgFwdRefIdeal.Gen.facts) := by
  pair_intro
  · run_from Cert.SgFwdIdeal.Gen.run_main m g
  · run_from Cert.SgFwdRefIdeal.Value.run m' g'
    obtain ⟨e0, e1, e2, e3⟩ := hagree c
    rw [val_main_v61_eq, e0, e1, e2, e3]
    exact (final5 m _).symm

end Cert.SgFwdIdeal.GradValue
-- ==== Proof.AdaBwdValue.lean ====
module

public import proofs.«01_k».proof.Proof.Gen.AdaBwdIdeal.Frame
public import proofs.«01_k».proof.Proof.Gen.AdaBwdIdeal.Value
public import proofs.«01_k».proof.Proof.Gen.AdaBwdRefIdeal.Run
public import proofs.«01_k».proof.Proof.Gen.AdaBwdRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaBwdIdeal.GradValue

open Cert.AdaBwdIdeal Cert.AdaBwdIdeal.Gen
open Cert.AdaBwdRefIdeal.Read

variable (m : (ℓ : Loc nD τ sig) → Buf (Elt Ideal) ℓ)

/-- One entry of the first layer's gradient. -/
theorem layer0 (c : Dev nD) (d : Fin 1024) (n : Fin 768) :
    k0_pay2 (F := Ideal) (m ((c : Thread nD τ).loc main_arg0)) (View.ld (m ((c : Thread nD τ).loc main_arg1)) r0_1) (ix3 0 d n) = val_main_v5 (F := Ideal) (m ((c : Thread nD τ).loc main_arg0)) (m ((c : Thread nD τ).loc main_arg1)) (ix3 0 d n) := by
  pointwise [k0_pay2, k0_pay1, val_main_v3, val_main_v4, val_main_v5]
  refine (Finset.sum_congr rfl fun k _ => mul_comm _ _).trans ?_
  blk_ext

/-- One entry of the second layer's gradient. -/
theorem layer1 (c : Dev nD) (d : Fin 1024) (n : Fin 768) :
    k0_pay3 (F := Ideal) (m ((c : Thread nD τ).loc main_arg0)) (View.ld (m ((c : Thread nD τ).loc main_arg1)) r0_3) (ix3 0 d n) = val_main_v5 (F := Ideal) (m ((c : Thread nD τ).loc main_arg0)) (m ((c : Thread nD τ).loc main_arg1)) (ix3 1 d n) := by
  pointwise [k0_pay3, k0_pay1, val_main_v3, val_main_v4, val_main_v5]
  refine (Finset.sum_congr rfl fun k _ => mul_comm _ _).trans ?_
  blk_ext

theorem layers (c : Dev nD) : Cert.AdaBwdIdeal.Value.G2 (F := Ideal) (m ((c : Thread nD τ).loc main_arg0)) (m ((c : Thread nD τ).loc main_arg1)) = val_main_v5 (F := Ideal) (m ((c : Thread nD τ).loc main_arg0)) (m ((c : Thread nD τ).loc main_arg1)) := by
  funext y
  obtain ⟨l, a, b, rfl⟩ : ∃ (l : Fin 2) (a : Fin 1024) (b : Fin 768), y = ix3 l a b := ⟨y 0, y 1, y 2, eq_ix3 y⟩
  unfold Cert.AdaBwdIdeal.Value.G2
  canon_tiles x h
  · obtain ⟨z, d, n, rfl⟩ : ∃ (z : Fin 1) (d : Fin 1024) (n : Fin 768), x = ix3 z d n := ⟨x 0, x 1, x 2, eq_ix3 x⟩
    have hz : z.val = 0 := by have := z.isLt; omega
    have hl : l = 1 := Fin.ext (by simpa [hz] using h0)
    have ha : a = d := Fin.ext (by simpa using h1)
    have hb : b = n := Fin.ext (by simpa using h2)
    obtain rfl : z = 0 := Fin.ext hz
    subst hl ha hb
    exact layer1 m c a b
  · obtain ⟨z, d, n, rfl⟩ : ∃ (z : Fin 1) (d : Fin 1024) (n : Fin 768), x = ix3 z d n := ⟨x 0, x 1, x 2, eq_ix3 x⟩
    have hz : z.val = 0 := by have := z.isLt; omega
    have hl : l = 0 := Fin.ext (by simpa [hz] using h0)
    have ha : a = d := Fin.ext (by simpa using h1)
    have hb : b = n := Fin.ext (by simpa using h2)
    obtain rfl : z = 0 := Fin.ext hz
    subst hl ha hb
    exact layer0 m c a b

/-- The kernel's product of each layer is the reference's gradient of that layer's modulation weights. -/
theorem algebraic : Cert.algebraic_AdaBwdIdeal_AdaBwdRefIdeal (hAdaBwdIdeal := Cert.AdaBwdIdeal.Gen.facts)
    (hAdaBwdRefIdeal := Cert.AdaBwdRefIdeal.Gen.facts) := by
  pair_intro
  · run_from Cert.AdaBwdIdeal.Gen.run_main m g
  · run_from Cert.AdaBwdRefIdeal.Value.run m' g'
    exact ((Cert.AdaBwdIdeal.Value.final2 m _).trans (layers m _)).symm

end Cert.AdaBwdIdeal.GradValue
-- ==== Proof.AdaFwdValue.lean ====
module

public import proofs.«01_k».proof.Proof.Gen.AdaFwdIdeal.Frame
public import proofs.«01_k».proof.Proof.Gen.AdaFwdIdeal.Value
public import proofs.«01_k».proof.Proof.Gen.AdaFwdRefIdeal.Run
public import proofs.«01_k».proof.Proof.Gen.AdaFwdRefIdeal.Read
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaFwdIdeal.GradValue

open Cert.AdaFwdIdeal Cert.AdaFwdIdeal.Gen
open Cert.AdaFwdRefIdeal.Read

variable (m : (ℓ : Loc nD τ sig) → Buf (Elt Ideal) ℓ)

theorem idx : ∀ t : Fin cfg0.N, win0_0.index t = ![0, 0] ∧ win0_1.index t = ![0, 0, 0] ∧ win0_2.index t = ![0, 0, 0] ∧ win0_3.index t = ![0, 0, 0] ∧ win0_4.index t = ![0, 0] :=
  (by decide +kernel : ∀ t : Fin grid0.N, _)

/-- One entry of the activated conditioning. -/
theorem act (x : Vec Ideal S8x1024 .f32) (i : S8x1024.Idx) :
    k0_pay2 (F := Ideal) x i = val_main_v0 (F := Ideal) x i := by
  pointwise [k0_pay2, val_main_v0, val_main_call0_v0, val_main_call0_v1, val_main_call0_v2, val_main_call0_v3, val_main_call0_v4, val_main_call0_v5, val_main_call0_cst, val_main_call0_cst_0]
  rw [zero_sub]

/-- The conditioning's block is the whole array. -/
theorem cond (c : Dev nD) (t : Fin cfg0.N) : View.ld (iblk m c 0 t) r0_0 = (m ((c : Thread nD τ).loc main_arg0)) := by
  funext j
  blk_point [iblk, V, idx t]

/-- The bias as the host hands it to the kernel: the same rows. -/
theorem bias (c : Dev nD) : V m c main_v0 = shapeCast S2x1x768 (m ((c : Thread nD τ).loc main_arg2)) shapeCasts_S2x768_S2x1x768 := by
  simp only [V, hostOps0, List.flatten_cons, List.flatten_nil, List.append_nil, List.cons_append, List.nil_append]
  after_results_simp <;> rfl

theorem bias0 (c : Dev nD) (t : Fin cfg0.N) (n : Fin 768) : View.ld (iblk m c 2 t) r0_2 (ix3 0 0 n) = (m ((c : Thread nD τ).loc main_arg2)) (ix2 0 n) := by
  have e : ∀ i, ((cfg0.win 2).blk t).view.read (Elt Ideal) (V m c main_v0) i = V m c main_v0 (((cfg0.win 2).blk t).view.emb i) := fun _ => rfl
  refine (e _).trans ?_
  rw [bias m c]
  pointwise
  blk_point [idx t]

theorem bias1 (c : Dev nD) (t : Fin cfg0.N) (n : Fin 768) : View.ld (iblk m c 2 t) r0_5 (ix3 0 0 n) = (m ((c : Thread nD τ).loc main_arg2)) (ix2 1 n) := by
  have e : ∀ i, ((cfg0.win 2).blk t).view.read (Elt Ideal) (V m c main_v0) i = V m c main_v0 (((cfg0.win 2).blk t).view.emb i) := fun _ => rfl
  refine (e _).trans ?_
  rw [bias m c]
  pointwise
  blk_point [idx t]

theorem weight0 (c : Dev nD) (t : Fin cfg0.N) (k : Fin 1024) (n : Fin 768) : View.ld (iblk m c 1 t) r0_1 (ix3 0 k n) = (m ((c : Thread nD τ).loc main_arg1)) (ix3 0 k n) := by
  blk_point [iblk, V, idx t]

theorem weight1 (c : Dev nD) (t : Fin cfg0.N) (k : Fin 1024) (n : Fin 768) : View.ld (iblk m c 1 t) r0_4 (ix3 0 k n) = (m ((c : Thread nD τ).loc main_arg1)) (ix3 1 k n) := by
  blk_point [iblk, V, idx t]

/-- An entry of a layer's modulation in the reference. -/
theorem ref_at (x : Vec Ideal S8x1024 .f32) (w : Vec Ideal S2x1024x768 .f32) (b : Vec Ideal S2x768 .f32) (l : Fin 2) (a : Fin 8) (n : Fin 768) :
    val_main_v5 (F := Ideal) x w b (ix3 l a n) = (∑ k : Fin 1024, val_main_v0 (F := Ideal) x (ix2 a k) * w (ix3 l k n)) + b (ix2 l n) := by
  pointwise [val_main_v5, val_main_v4, val_main_v3, val_main_v2, val_main_v1]
  refine congrArg₂ (· + ·) (Finset.sum_congr rfl fun k _ => (mul_comm _ _).trans ?_) ?_ <;> blk_ext

/-- An entry of a layer's modulation in the kernel. -/
theorem ker4_at (x : Vec Ideal S8x1024 .f32) (w : Vec Ideal S1x1024x768 .f32) (b : Vec Ideal S1x1x768 .f32) (a : Fin 8) (n : Fin 768) :
    k0_pay4 (F := Ideal) x w b (ix3 0 a n) = (∑ k : Fin 1024, k0_pay2 (F := Ideal) x (ix2 a k) * w (ix3 0 k n)) + b (ix3 0 0 n) := by
  pointwise [k0_pay4, k0_pay3]

theorem ker5_at (x : Vec Ideal S8x1024 .f32) (w : Vec Ideal S1x1024x768 .f32) (b : Vec Ideal S1x1x768 .f32) (a : Fin 8) (n : Fin 768) :
    k0_pay1 (F := Ideal) (k0_pay5 x w b) (ix3 0 a n) = (∑ k : Fin 1024, k0_pay2 (F := Ideal) x (ix2 a k) * w (ix3 0 k n)) + b (ix3 0 0 n) := by
  pointwise [k0_pay1, k0_pay5, k0_pay3]

theorem layer0 (c : Dev nD) (t : Fin cfg0.N) (a : Fin 8) (n : Fin 768) :
    k0_pay4 (F := Ideal) (View.ld (iblk m c 0 t) r0_0) (View.ld (iblk m c 1 t) r0_1) (View.ld (iblk m c 2 t) r0_2) (ix3 0 a n)
      = val_main_v5 (F := Ideal) (m ((c : Thread nD τ).loc main_arg0)) (m ((c : Thread nD τ).loc main_arg1)) (m ((c : Thread nD τ).loc main_arg2)) (ix3 0 a n) := by
  rw [ker4_at, ref_at, bias0, cond]
  refine congrArg (· + _) (Finset.sum_congr rfl fun k _ => ?_)
  rw [act, weight0]

theorem layer1 (c : Dev nD) (t : Fin cfg0.N) (a : Fin 8) (n : Fin 768) :
    k0_pay1 (F := Ideal) (k0_pay5 (View.ld (iblk m c 0 t) r0_0) (View.ld (iblk m c 1 t) r0_4) (View.ld (iblk m c 2 t) r0_5)) (ix3 0 a n)
      = val_main_v5 (F := Ideal) (m ((c : Thread nD τ).loc main_arg0)) (m ((c : Thread nD τ).loc main_arg1)) (m ((c : Thread nD τ).loc main_arg2)) (ix3 1 a n) := by
  rw [ker5_at, ref_at, bias1, cond]
  refine congrArg (· + _) (Finset.sum_congr rfl fun k _ => ?_)
  rw [act, weight1]

theorem layers (c : Dev nD) (t : Fin cfg0.N) (y : S2x8x768.Idx) : out0_3 (F := Ideal) (iblk m c 0 t) (iblk m c 1 t) (iblk m c 2 t) y
    = val_main_v5 (F := Ideal) (m ((c : Thread nD τ).loc main_arg0)) (m ((c : Thread nD τ).loc main_arg1)) (m ((c : Thread nD τ).loc main_arg2)) (((cfg0.win 3).blk t).view.emb y) := by
  obtain ⟨l, a, b, rfl⟩ : ∃ (l : Fin 2) (a : Fin 8) (b : Fin 768), y = ix3 l a b := ⟨y 0, y 1, y 2, eq_ix3 y⟩
  have e : ((cfg0.win 3).blk t).view.emb (ix3 l a b) = ix3 l a b := by blk_point [idx t]
  rw [e]
  unfold out0_3
  canon_tiles x h
  · obtain ⟨z, d, n, rfl⟩ : ∃ (z : Fin 1) (d : Fin 8) (n : Fin 768), x = ix3 z d n := ⟨x 0, x 1, x 2, eq_ix3 x⟩
    have hz : z.val = 0 := by have := z.isLt; omega
    have hl : l = 1 := Fin.ext (by simpa [hz] using h0)
    have ha : a = d := Fin.ext (by simpa using h1)
    have hb : b = n := Fin.ext (by simpa using h2)
    obtain rfl : z = 0 := Fin.ext hz
    subst hl ha hb
    exact layer1 m c t a b
  · obtain ⟨z, d, n, rfl⟩ : ∃ (z : Fin 1) (d : Fin 8) (n : Fin 768), x = ix3 z d n := ⟨x 0, x 1, x 2, eq_ix3 x⟩
    have hz : z.val = 0 := by have := z.isLt; omega
    have hl : l = 0 := Fin.ext (by simpa [hz] using h0)
    have ha : a = d := Fin.ext (by simpa using h1)
    have hb : b = n := Fin.ext (by simpa using h2)
    obtain rfl : z = 0 := Fin.ext hz
    subst hl ha hb
    exact layer0 m c t a b

theorem final3 (c : Dev nD) : (dats m 0 c).arrAt 3 (cfgs 0).N = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact layers m c t y

theorem final4 (c : Dev nD) : (dats m 0 c).arrAt 4 (cfgs 0).N = val_main_v0 (F := Ideal) (m ((c : Thread nD τ).loc main_arg0)) := by
  refine (dats m 0 c).arrAt_eq_of_covers 4 _ (by decide +kernel) fun t _ y => ?_
  blk_simp
  rw [after0_4]
  unfold out0_4
  have e : ((cfg0.win 4).blk t).view.emb y = y := by blk_point [idx t]
  rw [cond]
  frame_out
  exact (act _ y).trans (congrArg _ e.symm)

/-- The kernel's modulation and its activated conditioning are the reference's. -/
theorem algebraic : Cert.algebraic_AdaFwdIdeal_AdaFwdRefIdeal (hAdaFwdIdeal := Cert.AdaFwdIdeal.Gen.facts)
    (hAdaFwdRefIdeal := Cert.AdaFwdRefIdeal.Gen.facts) := by
  intro m g m' g' _ hagree
  refine ⟨fun c => val_main_v5 (F := Ideal) (m ((c : Thread nD τ).loc main_arg0)) (m ((c : Thread nD τ).loc main_arg1)) (m ((c : Thread nD τ).loc main_arg2)), fun c => val_main_v0 (F := Ideal) (m ((c : Thread nD τ).loc main_arg0)), ?_, ?_⟩
  · refine Idealize.ShloMosaic.θ_run_mono (Idealize.ShloMosaic.θ_run_and (Cert.AdaFwdIdeal.Gen.run_main m g)
      (Cert.AdaFwdIdeal.Gen.unchanged m g)) fun r hr c => ?_
    exact ⟨((hr.1 c).1 3).trans (final3 m c), ((hr.1 c).1 4).trans (final4 m c), hr.2 c⟩
  · refine Idealize.ShloMosaic.θ_run_mono (Cert.AdaFwdRefIdeal.Value.run m' g') fun r hr c => ?_
    obtain ⟨h0, h1, hr⟩ := hr c
    obtain ⟨e0, e1, e2⟩ := hagree c
    refine ⟨h0.trans ?_, h1.trans ?_, hr⟩
    · rw [val_main_v5_eq, e0, e1, e2]
    · rw [val_main_v0_eq, e0]

end Cert.AdaFwdIdeal.GradValue
-- ==== Proof.lean ====
module

public import proofs.«01_k».proof.Defs
public import proofs.«01_k».proof.Proof.Gen.ConvBwd.Frame
public import proofs.«01_k».proof.Proof.Gen.ConvBwdIdeal.Frame
public import proofs.«01_k».proof.Proof.Gen.ConvBwdIdeal.Value
public import proofs.«01_k».proof.Proof.Gen.ConvRefIdeal.Run
public import proofs.«01_k».proof.Proof.Gen.ConvRefIdeal.Read
public import proofs.«01_k».proof.Proof.ConvValue
public import proofs.«01_k».proof.Proof.AttnFrame
public import proofs.«01_k».proof.Proof.AttnIdealFrame
public import proofs.«01_k».proof.Proof.Gen.DownDgrad.Frame
public import proofs.«01_k».proof.Proof.Gen.DownDgradIdeal.Frame
public import proofs.«01_k».proof.Proof.DownDgradValue
public import proofs.«01_k».proof.Proof.Gen.DownWgrad.Frame
public import proofs.«01_k».proof.Proof.Gen.DownWgradIdeal.Frame
public import proofs.«01_k».proof.Proof.DownWgradValue
public import proofs.«01_k».proof.Proof.Gen.UpWgrad.Frame
public import proofs.«01_k».proof.Proof.Gen.UpWgradIdeal.Frame
public import proofs.«01_k».proof.Proof.UpWgradValue
public import proofs.«01_k».proof.Proof.Gen.UpDgrad.Frame
public import proofs.«01_k».proof.Proof.Gen.UpDgradIdeal.Frame
public import proofs.«01_k».proof.Proof.UpDgradValue
public import proofs.«01_k».proof.Proof.Gen.MixDgrad.Frame
public import proofs.«01_k».proof.Proof.Gen.MixDgradIdeal.Frame
public import proofs.«01_k».proof.Proof.MixDgradValue
public import proofs.«01_k».proof.Proof.Gen.MixWgrad.Frame
public import proofs.«01_k».proof.Proof.Gen.MixWgradIdeal.Frame
public import proofs.«01_k».proof.Proof.MixWgradValue
public import proofs.«01_k».proof.Proof.Gen.ProjDgrad.Frame
public import proofs.«01_k».proof.Proof.Gen.ProjDgradIdeal.Frame
public import proofs.«01_k».proof.Proof.ProjDgradValue
public import proofs.«01_k».proof.Proof.Gen.ProjWgrad.Frame
public import proofs.«01_k».proof.Proof.Gen.ProjWgradIdeal.Frame
public import proofs.«01_k».proof.Proof.ProjWgradValue
public import proofs.«01_k».proof.Proof.Gen.MlpUp.Frame
public import proofs.«01_k».proof.Proof.Gen.MlpUpIdeal.Frame
public import proofs.«01_k».proof.Proof.MlpUpValue
public import proofs.«01_k».proof.Proof.Gen.MlpDown.Frame
public import proofs.«01_k».proof.Proof.Gen.MlpDownIdeal.Frame
public import proofs.«01_k».proof.Proof.MlpDownValue
public import proofs.«01_k».proof.Proof.Gen.ProjQkv.Frame
public import proofs.«01_k».proof.Proof.Gen.ProjQkvIdeal.Frame
public import proofs.«01_k».proof.Proof.ProjQkvValue
public import proofs.«01_k».proof.Proof.Gen.ProjRest.Frame
public import proofs.«01_k».proof.Proof.Gen.ProjRestIdeal.Frame
public import proofs.«01_k».proof.Proof.ProjRestValue
public import proofs.«01_k».proof.Proof.Gen.MixFwd.Frame
public import proofs.«01_k».proof.Proof.Gen.MixFwdIdeal.Frame
public import proofs.«01_k».proof.Proof.MixFwdValue
public import proofs.«01_k».proof.Proof.Gen.NormFwd.Frame
public import proofs.«01_k».proof.Proof.Gen.NormFwdIdeal.Frame
public import proofs.«01_k».proof.Proof.NormFwdValue
public import proofs.«01_k».proof.Proof.Gen.ConvFwd.Frame
public import proofs.«01_k».proof.Proof.Gen.ConvFwdIdeal.Frame
public import proofs.«01_k».proof.Proof.ConvFwdValue
public import proofs.«01_k».proof.Proof.Gen.NormBwd.Frame
public import proofs.«01_k».proof.Proof.Gen.NormBwdIdeal.Frame
public import proofs.«01_k».proof.Proof.NormBwdValue
public import proofs.«01_k».proof.Proof.Gen.LossHead.Frame
public import proofs.«01_k».proof.Proof.Gen.LossHeadIdeal.Frame
public import proofs.«01_k».proof.Proof.LossHeadValue
public import proofs.«01_k».proof.Proof.Gen.SgFwd.Frame
public import proofs.«01_k».proof.Proof.Gen.SgFwdIdeal.Frame
public import proofs.«01_k».proof.Proof.SgFwdValue
public import proofs.«01_k».proof.Proof.Gen.AdaBwd.Frame
public import proofs.«01_k».proof.Proof.Gen.AdaBwdIdeal.Frame
public import proofs.«01_k».proof.Proof.AdaBwdValue
public import proofs.«01_k».proof.Proof.Gen.AdaFwd.Frame
public import proofs.«01_k».proof.Proof.Gen.AdaFwdIdeal.Frame
public import proofs.«01_k».proof.Proof.AdaFwdValue
public import Idealize.ShloMosaic.Adequacy
public import Idealize.ShloMosaic.Init

@[expose] public section

noncomputable section

namespace Cert.Proof

open Idealize.ShloMosaic Idealize.SL.Sem

/-- The certificate: every program runs to the end with its arguments unchanged; the convolution's
    gradient and the matrix products leave what their references do. -/
theorem claim : Cert.Claim := ⟨Cert.ConvBwd.Gen.facts, Cert.ConvBwdIdeal.Gen.facts, Cert.ConvRefIdeal.Gen.facts,
  Cert.AttnBwd.Gen.facts, Cert.AttnBwdIdeal.Gen.facts,
  Cert.DownDgrad.Gen.facts,
  Cert.DownDgradIdeal.Gen.facts,
  Cert.DownDgradRefIdeal.Gen.facts,
  Cert.DownWgrad.Gen.facts,
  Cert.DownWgradIdeal.Gen.facts,
  Cert.DownWgradRefIdeal.Gen.facts,
  Cert.UpWgrad.Gen.facts,
  Cert.UpWgradIdeal.Gen.facts,
  Cert.UpWgradRefIdeal.Gen.facts,
  Cert.UpDgrad.Gen.facts,
  Cert.UpDgradIdeal.Gen.facts,
  Cert.UpDgradRefIdeal.Gen.facts,
  Cert.MixDgrad.Gen.facts,
  Cert.MixDgradIdeal.Gen.facts,
  Cert.MixDgradRefIdeal.Gen.facts,
  Cert.MixWgrad.Gen.facts,
  Cert.MixWgradIdeal.Gen.facts,
  Cert.MixWgradRefIdeal.Gen.facts,
  Cert.ProjDgrad.Gen.facts,
  Cert.ProjDgradIdeal.Gen.facts,
  Cert.ProjDgradRefIdeal.Gen.facts,
  Cert.ProjWgrad.Gen.facts,
  Cert.ProjWgradIdeal.Gen.facts,
  Cert.ProjWgradRefIdeal.Gen.facts,
  Cert.MlpUp.Gen.facts,
  Cert.MlpUpIdeal.Gen.facts,
  Cert.MlpUpRefIdeal.Gen.facts,
  Cert.MlpDown.Gen.facts,
  Cert.MlpDownIdeal.Gen.facts,
  Cert.MlpDownRefIdeal.Gen.facts,
  Cert.ProjQkv.Gen.facts,
  Cert.ProjQkvIdeal.Gen.facts,
  Cert.ProjQkvRefIdeal.Gen.facts,
  Cert.ProjRest.Gen.facts,
  Cert.ProjRestIdeal.Gen.facts,
  Cert.ProjRestRefIdeal.Gen.facts,
  Cert.MixFwd.Gen.facts,
  Cert.MixFwdIdeal.Gen.facts,
  Cert.MixFwdRefIdeal.Gen.facts,
  Cert.NormFwd.Gen.facts,
  Cert.NormFwdIdeal.Gen.facts,
  Cert.NormFwdRefIdeal.Gen.facts,
  Cert.ConvFwd.Gen.facts,
  Cert.ConvFwdIdeal.Gen.facts,
  Cert.ConvFwdRefIdeal.Gen.facts,
  Cert.NormBwd.Gen.facts,
  Cert.NormBwdIdeal.Gen.facts,
  Cert.NormBwdRefIdeal.Gen.facts,
  Cert.LossHead.Gen.facts,
  Cert.LossHeadIdeal.Gen.facts,
  Cert.LossHeadRefIdeal.Gen.facts,
  Cert.SgFwd.Gen.facts,
  Cert.SgFwdIdeal.Gen.facts,
  Cert.SgFwdRefIdeal.Gen.facts,
  Cert.AdaBwd.Gen.facts,
  Cert.AdaBwdIdeal.Gen.facts,
  Cert.AdaBwdRefIdeal.Gen.facts,
  Cert.AdaFwd.Gen.facts,
  Cert.AdaFwdIdeal.Gen.facts,
  Cert.AdaFwdRefIdeal.Gen.facts,
  fun m ρ _ => Cert.ConvBwd.Gen.frame m ρ,
  fun m ρ _ => Cert.ConvBwdIdeal.Gen.frame m ρ,
  fun m ρ _ => (θ_run Cert.ConvRefIdeal.defs _ _).mono (fun r h => ⟨fun c => (h c).2.2.2.2.2, sem_eq_zero_of_no_sems (by decide) r.2⟩)
    (Cert.ConvRefIdeal.Value.run m ρ),
  fun m ρ _ => Cert.AttnBwd.Safe.run_main m ρ,
  fun m ρ _ => Cert.AttnBwdIdeal.Safe.run_main m ρ,
  fun m ρ _ => Cert.DownDgrad.Gen.frame m ρ,
  fun m ρ _ => Cert.DownDgradIdeal.Gen.frame m ρ,
  fun m ρ _ => (θ_run Cert.DownDgradRefIdeal.defs _ _).mono (fun r h => ⟨fun c => (h c).2, sem_eq_zero_of_no_sems (by decide) r.2⟩)
    (Cert.DownDgradRefIdeal.Value.run m ρ),
  fun m ρ _ => Cert.DownWgrad.Gen.frame m ρ,
  fun m ρ _ => Cert.DownWgradIdeal.Gen.frame m ρ,
  fun m ρ _ => (θ_run Cert.DownWgradRefIdeal.defs _ _).mono (fun r h => ⟨fun c => (h c).2, sem_eq_zero_of_no_sems (by decide) r.2⟩)
    (Cert.DownWgradRefIdeal.Value.run m ρ),
  fun m ρ _ => Cert.UpWgrad.Gen.frame m ρ,
  fun m ρ _ => Cert.UpWgradIdeal.Gen.frame m ρ,
  fun m ρ _ => (θ_run Cert.UpWgradRefIdeal.defs _ _).mono (fun r h => ⟨fun c => (h c).2, sem_eq_zero_of_no_sems (by decide) r.2⟩)
    (Cert.UpWgradRefIdeal.Value.run m ρ),
  fun m ρ _ => Cert.UpDgrad.Gen.frame m ρ,
  fun m ρ _ => Cert.UpDgradIdeal.Gen.frame m ρ,
  fun m ρ _ => (θ_run Cert.UpDgradRefIdeal.defs _ _).mono (fun r h => ⟨fun c => (h c).2, sem_eq_zero_of_no_sems (by decide) r.2⟩)
    (Cert.UpDgradRefIdeal.Value.run m ρ),
  fun m ρ _ => Cert.MixDgrad.Gen.frame m ρ,
  fun m ρ _ => Cert.MixDgradIdeal.Gen.frame m ρ,
  fun m ρ _ => (θ_run Cert.MixDgradRefIdeal.defs _ _).mono (fun r h => ⟨fun c => (h c).2, sem_eq_zero_of_no_sems (by decide) r.2⟩)
    (Cert.MixDgradRefIdeal.Value.run m ρ),
  fun m ρ _ => Cert.MixWgrad.Gen.frame m ρ,
  fun m ρ _ => Cert.MixWgradIdeal.Gen.frame m ρ,
  fun m ρ _ => (θ_run Cert.MixWgradRefIdeal.defs _ _).mono (fun r h => ⟨fun c => (h c).2, sem_eq_zero_of_no_sems (by decide) r.2⟩)
    (Cert.MixWgradRefIdeal.Value.run m ρ),
  fun m ρ _ => Cert.ProjDgrad.Gen.frame m ρ,
  fun m ρ _ => Cert.ProjDgradIdeal.Gen.frame m ρ,
  fun m ρ _ => (θ_run Cert.ProjDgradRefIdeal.defs _ _).mono (fun r h => ⟨fun c => (h c).2, sem_eq_zero_of_no_sems (by decide) r.2⟩)
    (Cert.ProjDgradRefIdeal.Value.run m ρ),
  fun m ρ _ => Cert.ProjWgrad.Gen.frame m ρ,
  fun m ρ _ => Cert.ProjWgradIdeal.Gen.frame m ρ,
  fun m ρ _ => (θ_run Cert.ProjWgradRefIdeal.defs _ _).mono (fun r h => ⟨fun c => (h c).2, sem_eq_zero_of_no_sems (by decide) r.2⟩)
    (Cert.ProjWgradRefIdeal.Value.run m ρ),
  fun m ρ _ => Cert.MlpUp.Gen.frame m ρ,
  fun m ρ _ => Cert.MlpUpIdeal.Gen.frame m ρ,
  fun m ρ _ => (θ_run Cert.MlpUpRefIdeal.defs _ _).mono (fun r h => ⟨fun c => (h c).2.2, sem_eq_zero_of_no_sems (by decide) r.2⟩)
    (Cert.MlpUpRefIdeal.Value.run m ρ),
  fun m ρ _ => Cert.MlpDown.Gen.frame m ρ,
  fun m ρ _ => Cert.MlpDownIdeal.Gen.frame m ρ,
  fun m ρ _ => (θ_run Cert.MlpDownRefIdeal.defs _ _).mono (fun r h => ⟨fun c => (h c).2.2, sem_eq_zero_of_no_sems (by decide) r.2⟩)
    (Cert.MlpDownRefIdeal.Value.run m ρ),
  fun m ρ _ => Cert.ProjQkv.Gen.frame m ρ,
  fun m ρ _ => Cert.ProjQkvIdeal.Gen.frame m ρ,
  fun m ρ _ => (θ_run Cert.ProjQkvRefIdeal.defs _ _).mono (fun r h => ⟨fun c => (h c).2, sem_eq_zero_of_no_sems (by decide) r.2⟩)
    (Cert.ProjQkvRefIdeal.Value.run m ρ),
  fun m ρ _ => Cert.ProjRest.Gen.frame m ρ,
  fun m ρ _ => Cert.ProjRestIdeal.Gen.frame m ρ,
  fun m ρ _ => (θ_run Cert.ProjRestRefIdeal.defs _ _).mono (fun r h => ⟨fun c => (h c).2, sem_eq_zero_of_no_sems (by decide) r.2⟩)
    (Cert.ProjRestRefIdeal.Value.run m ρ),
  fun m ρ _ => Cert.MixFwd.Gen.frame m ρ,
  fun m ρ _ => Cert.MixFwdIdeal.Gen.frame m ρ,
  fun m ρ _ => (θ_run Cert.MixFwdRefIdeal.defs _ _).mono (fun r h => ⟨fun c => (h c).2.2.2, sem_eq_zero_of_no_sems (by decide) r.2⟩)
    (Cert.MixFwdRefIdeal.Value.run m ρ),
  fun m ρ _ => Cert.NormFwd.Gen.frame m ρ,
  fun m ρ _ => Cert.NormFwdIdeal.Gen.frame m ρ,
  fun m ρ _ => (θ_run Cert.NormFwdRefIdeal.defs _ _).mono (fun r h => ⟨fun c => (h c).2, sem_eq_zero_of_no_sems (by decide) r.2⟩)
    (Cert.NormFwdRefIdeal.Value.run m ρ),
  fun m ρ _ => Cert.ConvFwd.Gen.frame m ρ,
  fun m ρ _ => Cert.ConvFwdIdeal.Gen.frame m ρ,
  fun m ρ _ => (θ_run Cert.ConvFwdRefIdeal.defs _ _).mono (fun r h => ⟨fun c => (h c).2, sem_eq_zero_of_no_sems (by decide) r.2⟩)
    (Cert.ConvFwdRefIdeal.Value.run m ρ),
  fun m ρ _ => Cert.NormBwd.Gen.frame m ρ,
  fun m ρ _ => Cert.NormBwdIdeal.Gen.frame m ρ,
  fun m ρ _ => (θ_run Cert.NormBwdRefIdeal.defs _ _).mono (fun r h => ⟨fun c => (h c).2.2.2.2.2.2, sem_eq_zero_of_no_sems (by decide) r.2⟩)
    (Cert.NormBwdRefIdeal.Value.run m ρ),
  fun m ρ _ => Cert.LossHead.Gen.frame m ρ,
  fun m ρ _ => Cert.LossHeadIdeal.Gen.frame m ρ,
  fun m ρ _ => (θ_run Cert.LossHeadRefIdeal.defs _ _).mono (fun r h => ⟨fun c => (h c).2.2.2.2.2, sem_eq_zero_of_no_sems (by decide) r.2⟩)
    (Cert.LossHeadRefIdeal.Value.run m ρ),
  fun m ρ _ => Cert.SgFwd.Gen.frame m ρ,
  fun m ρ _ => Cert.SgFwdIdeal.Gen.frame m ρ,
  fun m ρ _ => (θ_run Cert.SgFwdRefIdeal.defs _ _).mono (fun r h => ⟨fun c => (h c).2, sem_eq_zero_of_no_sems (by decide) r.2⟩)
    (Cert.SgFwdRefIdeal.Value.run m ρ),
  fun m ρ _ => Cert.AdaBwd.Gen.frame m ρ,
  fun m ρ _ => Cert.AdaBwdIdeal.Gen.frame m ρ,
  fun m ρ _ => (θ_run Cert.AdaBwdRefIdeal.defs _ _).mono (fun r h => ⟨fun c => (h c).2, sem_eq_zero_of_no_sems (by decide) r.2⟩)
    (Cert.AdaBwdRefIdeal.Value.run m ρ),
  fun m ρ _ => Cert.AdaFwd.Gen.frame m ρ,
  fun m ρ _ => Cert.AdaFwdIdeal.Gen.frame m ρ,
  fun m ρ _ => (θ_run Cert.AdaFwdRefIdeal.defs _ _).mono (fun r h => ⟨fun c => (h c).2.2, sem_eq_zero_of_no_sems (by decide) r.2⟩)
    (Cert.AdaFwdRefIdeal.Value.run m ρ),
  trivial,
  Cert.ConvBwdIdeal.GradValue.algebraic,
  trivial,
  trivial,
  Cert.DownDgradIdeal.GradValue.algebraic,
  trivial,
  Cert.DownWgradIdeal.GradValue.algebraic,
  trivial,
  Cert.UpWgradIdeal.GradValue.algebraic,
  trivial,
  Cert.UpDgradIdeal.GradValue.algebraic,
  trivial,
  Cert.MixDgradIdeal.GradValue.algebraic,
  trivial,
  Cert.MixWgradIdeal.GradValue.algebraic,
  trivial,
  Cert.ProjDgradIdeal.GradValue.algebraic,
  trivial,
  Cert.ProjWgradIdeal.GradValue.algebraic,
  trivial,
  Cert.MlpUpIdeal.GradValue.algebraic,
  trivial,
  Cert.MlpDownIdeal.GradValue.algebraic,
  trivial,
  Cert.ProjQkvIdeal.GradValue.algebraic,
  trivial,
  Cert.ProjRestIdeal.GradValue.algebraic,
  trivial,
  Cert.MixFwdIdeal.GradValue.algebraic,
  trivial,
  Cert.NormFwdIdeal.GradValue.algebraic,
  trivial,
  Cert.ConvFwdIdeal.GradValue.algebraic,
  trivial,
  Cert.NormBwdIdeal.GradValue.algebraic,
  trivial,
  Cert.LossHeadIdeal.GradValue.algebraic,
  trivial,
  Cert.SgFwdIdeal.GradValue.algebraic,
  trivial,
  Cert.AdaBwdIdeal.GradValue.algebraic,
  trivial,
  Cert.AdaFwdIdeal.GradValue.algebraic⟩

end Cert.Proof

end
